-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "cd0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "inv_dv" .f32 0x3BAAAAAB#32 ((1 / 192 : ℝ) : EReal)
  ∧ IdealRules.named_const.Statement Cert.KernelIdeal.κ "lg1" .f32 0xBC8102B3#32 ((Real.log (63 / 64) : ℝ) : EReal)
  ∧ IdealRules.named_const.Statement Cert.KernelIdeal.κ "cd1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "lg2" .f32 0xBC0080AC#32 ((Real.log (127 / 128) : ℝ) : EReal)
  ∧ IdealRules.named_const.Statement Cert.KernelIdeal.κ "cd2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "lg3" .f32 0xBB80402B#32 ((Real.log (255 / 256) : ℝ) : EReal)
  ∧ IdealRules.named_const.Statement Cert.KernelIdeal.κ "cd3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v59)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v59) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v94) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_in_range : Cert.Pre_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
-- ==== Pre_in_range.lean ====
abbrev S81920x512 : Shape := ⟨2, ![81920, 512]⟩
abbrev S16384x4 : Shape := ⟨2, ![16384, 4]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S16384x4x1 : Shape := ⟨3, ![16384, 4, 1]⟩
abbrev S32 : Shape := ⟨1, ![32]⟩
abbrev S1x1x32 : Shape := ⟨3, ![1, 1, 32]⟩
abbrev S16384x4x32 : Shape := ⟨3, ![16384, 4, 32]⟩
abbrev S_ : Shape := ⟨0, ![]⟩
abbrev S16384x32 : Shape := ⟨2, ![16384, 32]⟩
abbrev S160 : Shape := ⟨1, ![160]⟩
abbrev S160x1 : Shape := ⟨2, ![160, 1]⟩
abbrev S1x32 : Shape := ⟨2, ![1, 32]⟩
abbrev S160x32 : Shape := ⟨2, ![160, 32]⟩
abbrev S1 : Shape := ⟨1, ![1]⟩

class Facts : Prop where
  bcast_S16384x4_S16384x4x1_0_1 : S16384x4.BroadcastsInDim S16384x4x1 (![0, 1] : Fin 2 → Fin S16384x4x1.rank)
  bcast_S32_S1x1x32_2 : S32.BroadcastsInDim S1x1x32 (![2] : Fin 1 → Fin S1x1x32.rank)
  bcast_S16384x4x1_S16384x4x32_0_1_2 : S16384x4x1.BroadcastsInDim S16384x4x32 (![0, 1, 2] : Fin 3 → Fin S16384x4x32.rank)
  bcast_S1x1x32_S16384x4x32_0_1_2 : S1x1x32.BroadcastsInDim S16384x4x32 (![0, 1, 2] : Fin 3 → Fin S16384x4x32.rank)
  natLt_1_32 : 1 < 32
  reducesTo_S16384x4x32_S16384x32_d1 : S16384x4x32.ReducesTo [1] S16384x32
  h_S_ : 0 < S_.numel
  reducesTo_S16384x32_S32_d0 : S16384x32.ReducesTo [0] S32
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  bcast_S_S160 : S_.BroadcastsInDim S160 (![] : Fin 0 → Fin S160.rank)
  bcast_S160_S160x1_0 : S160.BroadcastsInDim S160x1 (![0] : Fin 1 → Fin S160x1.rank)
  bcast_S32_S1x32_1 : S32.BroadcastsInDim S1x32 (![1] : Fin 1 → Fin S1x32.rank)
  bcast_S160x1_S160x32_0_1 : S160x1.BroadcastsInDim S160x32 (![0, 1] : Fin 2 → Fin S160x32.rank)
  bcast_S1x32_S160x32_0_1 : S1x32.BroadcastsInDim S160x32 (![0, 1] : Fin 2 → Fin S160x32.rank)
  reducesTo_S160x32_S160_d1 : S160x32.ReducesTo [1] S160
  slices_S32_S1_31 : S32.Slices ![31] S1
  shapeCasts_S1_S_ : S1.ShapeCasts S_
  gather_S32_S160x1_S160_n_0_n_n_0_1_1_wf : GatherDims.WF S32 S160x1 S160 [] [0] [] [0] [] 1 ![1]

variable [Facts]

def gather_S32_S160x1_S160_n_0_n_n_0_1_1 : GatherDims S32 S160x1 S160 where
  offsetDims := []
  collapsedSliceDims := [0]
  operandBatchingDims := []
  startIndicesBatchingDims := []
  startIndexMap := [0]
  indexVectorDim := 1
  sliceSizes := ![1]
  wf := gather_S32_S160x1_S160_n_0_n_n_0_1_1_wf
def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_take {F : FTy → Type} [FloatOps F] (arg0 : IVec S32 32) (arg1 : IVec S160 32) : IVec S160 32 :=
  let v0 : IVec S160x1 32 := broadcastInDim S160x1 ![0] bcast_S160_S160x1_0 arg1
  let v1 : IVec S160 32 := (fun x i => Host.gather gather_S32_S160x1_S160_n_0_n_n_0_1_1 x i) arg0 v0
  v1

def fn_where_2 {F : FTy → Type} [FloatOps F] (arg0 : IVec S_ 1) (arg1 : IVec S_ 32) (arg2 : IVec S_ 32) : IVec S_ 32 :=
  let v0 : IVec S_ 32 := select arg0 arg1 arg2
  v0

def fn_floor_divide_1 {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where_2 (F := F) v7 v8 v1
  v9

def fn_part1 {F : FTy → Type} [FloatOps F] (main_v8 : IVec S32 32) (main_v15 : IVec S32 32) (main_v16 : IVec S32 32) (main_v17 : IVec S160 32) : IVec S_ 1 :=
  let main_c_5 : IVec S_ 32 := constantI S_ 32 512#32
  let main_v18 : IVec S160 32 := broadcastInDim S160 ![] bcast_S_S160 main_c_5
  let main_v19 : IVec S160 32 := muli main_v17 main_v18
  let main_v20 : IVec S160x1 32 := broadcastInDim S160x1 ![0] bcast_S160_S160x1_0 main_v19
  let main_v21 : IVec S1x32 32 := broadcastInDim S1x32 ![1] bcast_S32_S1x32_1 main_v16
  let main_v22 : IVec S160x32 32 := broadcastInDim S160x32 ![0, 1] bcast_S160x1_S160x32_0_1 main_v20
  let main_v23 : IVec S160x32 32 := broadcastInDim S160x32 ![0, 1] bcast_S1x32_S160x32_0_1 main_v21
  let main_v24 : IVec S160x32 1 := cmpi .sge main_v22 main_v23
  let main_v25 : IVec S160x32 32 := (extui 32 · natLt_1_32) main_v24
  let main_c_6 : IVec S_ 32 := constantI S_ 32 0#32
  let main_v26 : IVec S160 32 := (fun x v => Host.reduce IntOp.addi x v reducesTo_S160x32_S160_d1 h_S_) main_v25 main_c_6
  let main_c_7 : IVec S_ 32 := constantI S_ 32 31#32
  let main_v27 : IVec S160 32 := broadcastInDim S160 ![] bcast_S_S160 main_c_7
  let main_v28 : IVec S160 32 := minsi main_v26 main_v27
  let main_v29 : IVec S32 32 := subi main_v16 main_v15
  let main_v30 : IVec S32 32 := addi main_v29 main_v8
  let main_v31 : IVec S160 32 := fn_take (F := F) main_v30 main_v28
  let main_v32 : IVec S160 32 := subi main_v31 main_v19
  let main_v33 : IVec S1 32 := (extractStridedSlice S1 ![31] · slices_S32_S1_31) main_v16
  let main_v34 : IVec S_ 32 := shapeCast S_ main_v33 shapeCasts_S1_S_
  let main_c_8 : IVec S_ 32 := constantI S_ 32 512#32
  let main_v35 : IVec S_ 32 := fn_floor_divide_1 (F := F) main_v34 main_c_8
  let main_c_9 : IVec S_ 32 := constantI S_ 32 1#32
  let main_v36 : IVec S_ 1 := cmpi .sge main_v35 main_c_9
  main_v36

def fn {F : FTy → Type} [FloatOps F] (main_arg0 : IVec S81920x512 32) (main_arg1 : IVec S16384x4 32) (main_arg2 : FVec F S4x32x1024x2048 .f32) (main_arg3 : FVec F S4x32x2048 .f32) (main_arg4 : FVec F S4x32x1024x1024 .f32) (main_arg5 : FVec F S4x32x1024 .f32) : IVec S_ 1 :=
  let main_v0 : IVec S16384x4x1 32 := broadcastInDim S16384x4x1 ![0, 1] bcast_S16384x4_S16384x4x1_0_1 main_arg1
  let main_v1 : IVec S32 32 := iotaInDim S32 32 0
  let main_v2 : IVec S1x1x32 32 := broadcastInDim S1x1x32 ![2] bcast_S32_S1x1x32_2 main_v1
  let main_v3 : IVec S16384x4x32 32 := broadcastInDim S16384x4x32 ![0, 1, 2] bcast_S16384x4x1_S16384x4x32_0_1_2 main_v0
  let main_v4 : IVec S16384x4x32 32 := broadcastInDim S16384x4x32 ![0, 1, 2] bcast_S1x1x32_S16384x4x32_0_1_2 main_v2
  let main_v5 : IVec S16384x4x32 1 := cmpi .eq main_v3 main_v4
  let main_v6 : IVec S16384x4x32 32 := (extui 32 · natLt_1_32) main_v5
  let main_c : IVec S_ 32 := constantI S_ 32 0#32
  let main_v7 : IVec S16384x32 32 := (fun x v => Host.reduce IntOp.addi x v reducesTo_S16384x4x32_S16384x32_d1 h_S_) main_v6 main_c
  let main_c_0 : IVec S_ 32 := constantI S_ 32 0#32
  let main_v8 : IVec S32 32 := (fun x v => Host.reduce IntOp.addi x v reducesTo_S16384x32_S32_d0 h_S_) main_v7 main_c_0
  let main_c_1 : IVec S_ 32 := constantI S_ 32 512#32
  let main_v9 : IVec S32 32 := broadcastInDim S32 ![] bcast_S_S32 main_c_1
  let main_v10 : IVec S32 32 := addi main_v8 main_v9
  let main_c_2 : IVec S_ 32 := constantI S_ 32 1#32
  let main_v11 : IVec S32 32 := broadcastInDim S32 ![] bcast_S_S32 main_c_2
  let main_v12 : IVec S32 32 := subi main_v10 main_v11
  let main_c_3 : IVec S_ 32 := constantI S_ 32 512#32
  let main_v13 : IVec S32 32 := fn_floor_divide (F := F) main_v12 main_c_3
  let main_c_4 : IVec S_ 32 := constantI S_ 32 512#32
  let main_v14 : IVec S32 32 := broadcastInDim S32 ![] bcast_S_S32 main_c_4
  let main_v15 : IVec S32 32 := muli main_v13 main_v14
  let main_v16 : IVec S32 32 := fn_cumsum (F := F) main_v15
  let main_v17 : IVec S160 32 := iotaInDim S160 32 0
  fn_part1 (F := F) main_v8 main_v15 main_v16 main_v17
-- ==== Kernel.lean ====
abbrev S8x2048x2560 : Shape := ⟨3, ![8, 2048, 2560]⟩
abbrev S8x2048 : Shape := ⟨2, ![8, 2048]⟩
abbrev S768 : Shape := ⟨1, ![768]⟩
abbrev S48 : Shape := ⟨1, ![48]⟩
abbrev S_ : Shape := ⟨0, ![]⟩
abbrev S16 : Shape := ⟨1, ![16]⟩
abbrev S128 : Shape := ⟨1, ![128]⟩
abbrev S1x128 : Shape := ⟨2, ![1, 128]⟩
abbrev S16384x1 : Shape := ⟨2, ![16384, 1]⟩
abbrev S16384x2560 : Shape := ⟨2, ![16384, 2560]⟩
abbrev S16384x768 : Shape := ⟨2, ![16384, 768]⟩
abbrev S16384x16x48 : Shape := ⟨3, ![16384, 16, 48]⟩
abbrev S16384x16x64 : Shape := ⟨3, ![16384, 16, 64]⟩
abbrev S16384x1024 : Shape := ⟨2, ![16384, 1024]⟩
abbrev S16384x1536 : Shape := ⟨2, ![16384, 1536]⟩
abbrev S16384x8x192 : Shape := ⟨3, ![16384, 8, 192]⟩
abbrev S16384x8x256 : Shape := ⟨3, ![16384, 8, 256]⟩
abbrev S16384x2048 : Shape := ⟨2, ![16384, 2048]⟩
abbrev S16384x256 : Shape := ⟨2, ![16384, 256]⟩
abbrev S16384x3328 : Shape := ⟨2, ![16384, 3328]⟩
abbrev S1x4x192 : Shape := ⟨3, ![1, 4, 192]⟩
abbrev S1x4x256 : Shape := ⟨3, ![1, 4, 256]⟩
abbrev S1x1024 : Shape := ⟨2, ![1, 1024]⟩
abbrev S256x512 : Shape := ⟨2, ![256, 512]⟩
abbrev S256x1024 : Shape := ⟨2, ![256, 1024]⟩
abbrev S256x1 : Shape := ⟨2, ![256, 1]⟩
abbrev S4x128x256 : Shape := ⟨3, ![4, 128, 256]⟩
abbrev S256x128 : Shape := ⟨2, ![256, 128]⟩
abbrev S128x128 : Shape := ⟨2, ![128, 128]⟩
abbrev S128x1 : Shape := ⟨2, ![128, 1]⟩
abbrev S128x256 : Shape := ⟨2, ![128, 256]⟩
abbrev S1x128x256 : Shape := ⟨3, ![1, 128, 256]⟩
abbrev S1x256 : Shape := ⟨2, ![1, 256]⟩

abbrev nBuf : Space → Nat
  | .hbm => 51
  | .vmem => 16
  | .smem => 0
  | _ => 0

abbrev bufTy : (tb : Table) → Fin (tcTables nBuf tb) → BufTy
  | .hbm, ⟨0, _⟩ => ⟨S8x2048x2560, .f32⟩
  | .hbm, ⟨1, _⟩ => ⟨S8x2048, .i32⟩
  | .hbm, ⟨2, _⟩ => ⟨S768, .f32⟩
  | .hbm, ⟨3, _⟩ => ⟨S48, .f32⟩
  | .hbm, ⟨4, _⟩ => ⟨S_, .f32⟩
  | .hbm, ⟨5, _⟩ => ⟨S48, .f32⟩
  | .hbm, ⟨6, _⟩ => ⟨S48, .f32⟩
  | .hbm, ⟨7, _⟩ => ⟨S_, .f32⟩
  | .hbm, ⟨8, _⟩ => ⟨S48, .f32⟩
  | .hbm, ⟨9, _⟩ => ⟨S48, .f32⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S_, .f32⟩
  | .hbm, ⟨15, _⟩ => ⟨S48, .f32⟩
  | .hbm, ⟨16, _⟩ => ⟨S48, .f32⟩
  | .hbm, ⟨17, _⟩ => ⟨S_, .f32⟩
  | .hbm, ⟨18, _⟩ => ⟨S16, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S48, .f32⟩
  | .hbm, ⟨23, _⟩ => ⟨S48, .f32⟩
  | .hbm, ⟨24, _⟩ => ⟨S_, .f32⟩
  | .hbm, ⟨25, _⟩ => ⟨S48, .f32⟩
  | .hbm, ⟨26, _⟩ => ⟨S128, .f32⟩
  | .hbm, ⟨27, _⟩ => ⟨S1x128, .f32⟩
  | .hbm, ⟨28, _⟩ => ⟨S8x2048, .f32⟩
  | .hbm, ⟨29, _⟩ => ⟨S16384x1, .f32⟩
  | .hbm, ⟨30, _⟩ => ⟨S16384x2560, .f32⟩
  | .hbm, ⟨31, _⟩ => ⟨S16384x768, .f32⟩
  | .hbm, ⟨32, _⟩ => ⟨S16384x16x48, .f32⟩
  | .hbm, ⟨33, _⟩ => ⟨S_, .i32⟩
  | .hbm, ⟨34, _⟩ => ⟨S_, .f32⟩
  | .hbm, ⟨35, _⟩ => ⟨S16384x16x64, .f32⟩
  | .hbm, ⟨36, _⟩ => ⟨S16384x1024, .f32⟩
  | .hbm, ⟨37, _⟩ => ⟨S16384x1536, .f32⟩
  | .hbm, ⟨38, _⟩ => ⟨S16384x8x192, .f32⟩
  | .hbm, ⟨39, _⟩ => ⟨S_, .i32⟩
  | .hbm, ⟨40, _⟩ => ⟨S_, .f32⟩
  | .hbm, ⟨41, _⟩ => ⟨S16384x8x256, .f32⟩
  | .hbm, ⟨42, _⟩ => ⟨S16384x2048, .f32⟩
  | .hbm, ⟨43, _⟩ => ⟨S16384x256, .f32⟩
  | .hbm, ⟨44, _⟩ => ⟨S16384x3328, .f32⟩
  | .hbm, ⟨45, _⟩ => ⟨S1x4x192, .f32⟩
  | .hbm, ⟨46, _⟩ => ⟨S_, .i32⟩
  | .hbm, ⟨47, _⟩ => ⟨S_, .f32⟩
  | .hbm, ⟨48, _⟩ => ⟨S1x4x256, .f32⟩
  | .hbm, ⟨49, _⟩ => ⟨S1x1024, .f32⟩
  | .hbm, ⟨50, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1, .f32⟩
  | .local _ .vmem, ⟨9, _⟩ => ⟨S256x1, .f32⟩
  | .local _ .vmem, ⟨10, _⟩ => ⟨S1x128, .f32⟩
  | .local _ .vmem, ⟨11, _⟩ => ⟨S1x128, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S4x128x256, .f32⟩
  | _, _ => ⟨S8x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_call2_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "cd0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "cd1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "cd2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "cd3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "inv_dv" => some ((1 / 192 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== ReferenceIdeal.lean ====
abbrev S8x2048x2560 : Shape := ⟨3, ![8, 2048, 2560]⟩
abbrev S8x2048 : Shape := ⟨2, ![8, 2048]⟩
abbrev S768 : Shape := ⟨1, ![768]⟩
abbrev S48 : Shape := ⟨1, ![48]⟩
abbrev S_ : Shape := ⟨0, ![]⟩
abbrev S8x2048x1 : Shape := ⟨3, ![8, 2048, 1]⟩
abbrev S1x1x48 : Shape := ⟨3, ![1, 1, 48]⟩
abbrev S8x2048x48 : Shape := ⟨3, ![8, 2048, 48]⟩
abbrev S8x2048x1x48 : Shape := ⟨4, ![8, 2048, 1, 48]⟩
abbrev S8x2048x2304 : Shape := ⟨3, ![8, 2048, 2304]⟩
abbrev S8x2048x384 : Shape := ⟨3, ![8, 2048, 384]⟩
abbrev S8x2048x768 : Shape := ⟨3, ![8, 2048, 768]⟩
abbrev S8x2048x4x96 : Shape := ⟨4, ![8, 2048, 4, 96]⟩
abbrev S8x2048x4x48 : Shape := ⟨4, ![8, 2048, 4, 48]⟩
abbrev S8x16x128x4x96 : Shape := ⟨5, ![8, 16, 128, 4, 96]⟩
abbrev S8x4x16x128x96 : Shape := ⟨5, ![8, 4, 16, 128, 96]⟩
abbrev S8x2048x4x192 : Shape := ⟨4, ![8, 2048, 4, 192]⟩
abbrev S8x16x128x4x192 : Shape := ⟨5, ![8, 16, 128, 4, 192]⟩
abbrev S8x4x16x128x192 : Shape := ⟨5, ![8, 4, 16, 128, 192]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S8x4x16x128x128 : Shape := ⟨5, ![8, 4, 16, 128, 128]⟩
abbrev S4x1x128x128 : Shape := ⟨4, ![4, 1, 128, 128]⟩
abbrev S1x4x1x128x128 : Shape := ⟨5, ![1, 4, 1, 128, 128]⟩
abbrev S4x1 : Shape := ⟨2, ![4, 1]⟩
abbrev S4x128 : Shape := ⟨2, ![4, 128]⟩
abbrev S4x1x128x1 : Shape := ⟨4, ![4, 1, 128, 1]⟩
abbrev S1x4x1x128x1 : Shape := ⟨5, ![1, 4, 1, 128, 1]⟩
abbrev S8x4x16x96x192 : Shape := ⟨5, ![8, 4, 16, 96, 192]⟩
abbrev S1x4x1x1 : Shape := ⟨4, ![1, 4, 1, 1]⟩
abbrev S8x4x96x192 : Shape := ⟨4, ![8, 4, 96, 192]⟩
abbrev S8x4x1x96x192 : Shape := ⟨5, ![8, 4, 1, 96, 192]⟩
abbrev S8x2048x4 : Shape := ⟨3, ![8, 2048, 4]⟩
abbrev S8x2048x4x1 : Shape := ⟨4, ![8, 2048, 4, 1]⟩
abbrev S4x192 : Shape := ⟨2, ![4, 192]⟩
abbrev S1x1x4x192 : Shape := ⟨4, ![1, 1, 4, 192]⟩
abbrev S16384x4x192 : Shape := ⟨3, ![16384, 4, 192]⟩
abbrev S16384x4x256 : Shape := ⟨3, ![16384, 4, 256]⟩
abbrev S16384x1024 : Shape := ⟨2, ![16384, 1024]⟩

abbrev nBuf : Space → Nat
  | .hbm => 288
  | .vmem => 0
  | .smem => 0
  | _ => 0

abbrev hbmTy0_0 (i : Nat) : BufTy := match i % 128 with
  | 0 => ⟨S8x2048x2560, .f32⟩
  | 1 => ⟨S8x2048, .i32⟩
  | 2 => ⟨S768, .f32⟩
  | 3 => ⟨S48, .f32⟩
  | 4 => ⟨S_, .f32⟩
  | 5 => ⟨S48, .f32⟩
  | 6 => ⟨S48, .f32⟩
  | 7 => ⟨S_, .f32⟩
  | 8 => ⟨S48, .f32⟩
  | 9 => ⟨S48, .f32⟩
  | 10 => ⟨S48, .f32⟩
  | 11 => ⟨S_, .f32⟩
  | 12 => ⟨S48, .f32⟩
  | 13 => ⟨S48, .f32⟩
  | 14 => ⟨S_, .f32⟩
  | 15 => ⟨S48, .f32⟩
  | 16 => ⟨S48, .f32⟩
  | 17 => ⟨S8x2048, .f32⟩
  | 18 => ⟨S8x2048x1, .f32⟩
  | 19 => ⟨S1x1x48, .f32⟩
  | 20 => ⟨S8x2048x48, .f32⟩
  | 21 => ⟨S8x2048x48, .f32⟩
  | 22 => ⟨S8x2048x48, .f32⟩
  | 23 => ⟨S8x2048x48, .f32⟩
  | 24 => ⟨S8x2048x1x48, .f32⟩
  | 25 => ⟨S8x2048x48, .f32⟩
  | 26 => ⟨S8x2048x1x48, .f32⟩
  | 27 => ⟨S8x2048x2304, .f32⟩
  | 28 => ⟨S8x2048x384, .f32⟩
  | 29 => ⟨S8x2048x384, .f32⟩
  | 30 => ⟨S8x2048x768, .f32⟩
  | 31 => ⟨S8x2048x768, .f32⟩
  | 32 => ⟨S8x2048x4x96, .f32⟩
  | 33 => ⟨S8x2048x4x48, .f32⟩
  | 34 => ⟨S8x2048x4x48, .f32⟩
  | 35 => ⟨S8x2048x4x48, .f32⟩
  | 36 => ⟨S8x2048x4x48, .f32⟩
  | 37 => ⟨S8x2048x4x48, .f32⟩
  | 38 => ⟨S8x2048x4x48, .f32⟩
  | 39 => ⟨S8x2048x4x48, .f32⟩
  | 40 => ⟨S8x2048x4x48, .f32⟩
  | 41 => ⟨S8x2048x4x48, .f32⟩
  | 42 => ⟨S8x2048x4x48, .f32⟩
  | 43 => ⟨S8x2048x4x48, .f32⟩
  | 44 => ⟨S8x2048x4x48, .f32⟩
  | 45 => ⟨S8x2048x4x96, .f32⟩
  | 46 => ⟨S8x2048x4x96, .f32⟩
  | 47 => ⟨S8x2048x4x48, .f32⟩
  | 48 => ⟨S8x2048x4x48, .f32⟩
  | 49 => ⟨S8x2048x4x48, .f32⟩
  | 50 => ⟨S8x2048x4x48, .f32⟩
  | 51 => ⟨S8x2048x4x48, .f32⟩
  | 52 => ⟨S8x2048x4x48, .f32⟩
  | 53 => ⟨S8x2048x4x48, .f32⟩
  | 54 => ⟨S8x2048x4x48, .f32⟩
  | 55 => ⟨S8x2048x4x48, .f32⟩
  | 56 => ⟨S8x2048x4x48, .f32⟩
  | 57 => ⟨S8x2048x4x48, .f32⟩
  | 58 => ⟨S8x2048x4x48, .f32⟩
  | 59 => ⟨S8x2048x4x96, .f32⟩
  | 60 => ⟨S_, .f32⟩
  | 61 => ⟨S8x2048x4x96, .f32⟩
  | 62 => ⟨S8x2048x4x96, .f32⟩
  | 63 => ⟨S8x16x128x4x96, .f32⟩
  | 64 => ⟨S8x4x16x128x96, .f32⟩
  | 65 => ⟨S8x16x128x4x96, .f32⟩
  | 66 => ⟨S8x4x16x128x96, .f32⟩
  | 67 => ⟨S8x2048x4x192, .f32⟩
  | 68 => ⟨S8x16x128x4x192, .f32⟩
  | 69 => ⟨S8x4x16x128x192, .f32⟩
  | 70 => ⟨S4, .f32⟩
  | 71 => ⟨S_, .f32⟩
  | 72 => ⟨S4, .f32⟩
  | 73 => ⟨S4, .f32⟩
  | 74 => ⟨S_, .f32⟩
  | 75 => ⟨S4, .f32⟩
  | 76 => ⟨S4, .f32⟩
  | 77 => ⟨S_, .f32⟩
  | 78 => ⟨S4, .f32⟩
  | 79 => ⟨S4, .f32⟩
  | 80 => ⟨S4, .f32⟩
  | 81 => ⟨S128, .f32⟩
  | 82 => ⟨S128x1, .f32⟩
  | 83 => ⟨S1x128, .f32⟩
  | 84 => ⟨S128x128, .f32⟩
  | 85 => ⟨S128x128, .f32⟩
  | 86 => ⟨S128x128, .f32⟩
  | 87 => ⟨S_, .f32⟩
  | 88 => ⟨S128x128, .f32⟩
  | 89 => ⟨S128x128, .i1⟩
  | 90 => ⟨S_, .f32⟩
  | 91 => ⟨S128x128, .f32⟩
  | 92 => ⟨S128x128, .f32⟩
  | 93 => ⟨S4x1x1, .f32⟩
  | 94 => ⟨S1x128x128, .f32⟩
  | 95 => ⟨S4x128x128, .f32⟩
  | 96 => ⟨S4x128x128, .f32⟩
  | 97 => ⟨S4x128x128, .f32⟩
  | 98 => ⟨S4x128x128, .f32⟩
  | 99 => ⟨S_, .f32⟩
  | 100 => ⟨S_, .f32⟩
  | 101 => ⟨S4x128x128, .i1⟩
  | 102 => ⟨S4x128x128, .f32⟩
  | 103 => ⟨S4x128x128, .f32⟩
  | 104 => ⟨S8x4x16x128x128, .f32⟩
  | 105 => ⟨S4x1x128x128, .f32⟩
  | 106 => ⟨S1x4x1x128x128, .f32⟩
  | 107 => ⟨S8x4x16x128x128, .f32⟩
  | 108 => ⟨S8x4x16x128x128, .f32⟩
  | 109 => ⟨S8x4x16x128x192, .f32⟩
  | 110 => ⟨S_, .f32⟩
  | 111 => ⟨S128, .f32⟩
  | 112 => ⟨S128, .f32⟩
  | 113 => ⟨S4x1, .f32⟩
  | 114 => ⟨S1x128, .f32⟩
  | 115 => ⟨S4x128, .f32⟩
  | 116 => ⟨S4x128, .f32⟩
  | 117 => ⟨S4x128, .f32⟩
  | 118 => ⟨S4x128, .f32⟩
  | 119 => ⟨S4x1x128x1, .f32⟩
  | 120 => ⟨S1x4x1x128x1, .f32⟩
  | 121 => ⟨S8x4x16x128x96, .f32⟩
  | 122 => ⟨S8x4x16x128x96, .f32⟩
  | 123 => ⟨S8x4x16x96x192, .f32⟩
  | 124 => ⟨S_, .f32⟩
  | 125 => ⟨S4, .f32⟩
  | 126 => ⟨S4, .f32⟩
  | 127 => ⟨S4, .f32⟩
  | _ => ⟨S8x2048x2560, .f32⟩

abbrev hbmTy0_1 (i : Nat) : BufTy := match i % 128 with
  | 0 => ⟨S1x4x1x1, .f32⟩
  | 1 => ⟨S_, .f32⟩
  | 2 => ⟨S8x4x96x192, .f32⟩
  | 3 => ⟨S8x4x96x192, .f32⟩
  | 4 => ⟨S8x4x96x192, .f32⟩
  | 5 => ⟨S8x4x1x96x192, .f32⟩
  | 6 => ⟨S8x4x96x192, .f32⟩
  | 7 => ⟨S8x4x96x192, .f32⟩
  | 8 => ⟨S8x4x96x192, .f32⟩
  | 9 => ⟨S8x4x96x192, .f32⟩
  | 10 => ⟨S8x4x1x96x192, .f32⟩
  | 11 => ⟨S8x4x96x192, .f32⟩
  | 12 => ⟨S8x4x96x192, .f32⟩
  | 13 => ⟨S8x4x96x192, .f32⟩
  | 14 => ⟨S8x4x96x192, .f32⟩
  | 15 => ⟨S8x4x1x96x192, .f32⟩
  | 16 => ⟨S8x4x96x192, .f32⟩
  | 17 => ⟨S8x4x96x192, .f32⟩
  | 18 => ⟨S8x4x96x192, .f32⟩
  | 19 => ⟨S8x4x96x192, .f32⟩
  | 20 => ⟨S8x4x1x96x192, .f32⟩
  | 21 => ⟨S8x4x96x192, .f32⟩
  | 22 => ⟨S8x4x96x192, .f32⟩
  | 23 => ⟨S8x4x96x192, .f32⟩
  | 24 => ⟨S8x4x96x192, .f32⟩
  | 25 => ⟨S8x4x1x96x192, .f32⟩
  | 26 => ⟨S8x4x96x192, .f32⟩
  | 27 => ⟨S8x4x96x192, .f32⟩
  | 28 => ⟨S8x4x96x192, .f32⟩
  | 29 => ⟨S8x4x96x192, .f32⟩
  | 30 => ⟨S8x4x1x96x192, .f32⟩
  | 31 => ⟨S8x4x96x192, .f32⟩
  | 32 => ⟨S8x4x96x192, .f32⟩
  | 33 => ⟨S8x4x96x192, .f32⟩
  | 34 => ⟨S8x4x96x192, .f32⟩
  | 35 => ⟨S8x4x1x96x192, .f32⟩
  | 36 => ⟨S8x4x96x192, .f32⟩
  | 37 => ⟨S8x4x96x192, .f32⟩
  | 38 => ⟨S8x4x96x192, .f32⟩
  | 39 => ⟨S8x4x96x192, .f32⟩
  | 40 => ⟨S8x4x1x96x192, .f32⟩
  | 41 => ⟨S8x4x96x192, .f32⟩
  | 42 => ⟨S8x4x96x192, .f32⟩
  | 43 => ⟨S8x4x96x192, .f32⟩
  | 44 => ⟨S8x4x96x192, .f32⟩
  | 45 => ⟨S8x4x1x96x192, .f32⟩
  | 46 => ⟨S8x4x96x192, .f32⟩
  | 47 => ⟨S8x4x96x192, .f32⟩
  | 48 => ⟨S8x4x96x192, .f32⟩
  | 49 => ⟨S8x4x96x192, .f32⟩
  | 50 => ⟨S8x4x1x96x192, .f32⟩
  | 51 => ⟨S8x4x96x192, .f32⟩
  | 52 => ⟨S8x4x96x192, .f32⟩
  | 53 => ⟨S8x4x96x192, .f32⟩
  | 54 => ⟨S8x4x96x192, .f32⟩
  | 55 => ⟨S8x4x1x96x192, .f32⟩
  | 56 => ⟨S8x4x96x192, .f32⟩
  | 57 => ⟨S8x4x96x192, .f32⟩
  | 58 => ⟨S8x4x96x192, .f32⟩
  | 59 => ⟨S8x4x96x192, .f32⟩
  | 60 => ⟨S8x4x1x96x192, .f32⟩
  | 61 => ⟨S8x4x96x192, .f32⟩
  | 62 => ⟨S8x4x96x192, .f32⟩
  | 63 => ⟨S8x4x96x192, .f32⟩
  | 64 => ⟨S8x4x96x192, .f32⟩
  | 65 => ⟨S8x4x1x96x192, .f32⟩
  | 66 => ⟨S8x4x96x192, .f32⟩
  | 67 => ⟨S8x4x96x192, .f32⟩
  | 68 => ⟨S8x4x96x192, .f32⟩
  | 69 => ⟨S8x4x96x192, .f32⟩
  | 70 => ⟨S8x4x1x96x192, .f32⟩
  | 71 => ⟨S8x4x96x192, .f32⟩
  | 72 => ⟨S8x4x96x192, .f32⟩
  | 73 => ⟨S8x4x96x192, .f32⟩
  | 74 => ⟨S8x4x96x192, .f32⟩
  | 75 => ⟨S8x4x1x96x192, .f32⟩
  | 76 => ⟨S8x4x96x192, .f32⟩
  | 77 => ⟨S8x4x96x192, .f32⟩
  | 78 => ⟨S8x4x96x192, .f32⟩
  | 79 => ⟨S8x4x96x192, .f32⟩
  | 80 => ⟨S8x4x1x96x192, .f32⟩
  | 81 => ⟨S8x4x96x192, .f32⟩
  | 82 => ⟨S8x4x96x192, .f32⟩
  | 83 => ⟨S8x4x1x96x192, .f32⟩
  | 84 => ⟨S8x4x1x96x192, .f32⟩
  | 85 => ⟨S8x4x1x96x192, .f32⟩
  | 86 => ⟨S8x4x1x96x192, .f32⟩
  | 87 => ⟨S8x4x1x96x192, .f32⟩
  | 88 => ⟨S8x4x1x96x192, .f32⟩
  | 89 => ⟨S8x4x1x96x192, .f32⟩
  | 90 => ⟨S8x4x1x96x192, .f32⟩
  | 91 => ⟨S8x4x1x96x192, .f32⟩
  | 92 => ⟨S8x4x1x96x192, .f32⟩
  | 93 => ⟨S8x4x1x96x192, .f32⟩
  | 94 => ⟨S8x4x1x96x192, .f32⟩
  | 95 => ⟨S8x4x1x96x192, .f32⟩
  | 96 => ⟨S8x4x1x96x192, .f32⟩
  | 97 => ⟨S8x4x1x96x192, .f32⟩
  | 98 => ⟨S8x4x1x96x192, .f32⟩
  | 99 => ⟨S8x4x16x96x192, .f32⟩
  | 100 => ⟨S_, .f32⟩
  | 101 => ⟨S128, .f32⟩
  | 102 => ⟨S128, .f32⟩
  | 103 => ⟨S4x1, .f32⟩
  | 104 => ⟨S1x128, .f32⟩
  | 105 => ⟨S4x128, .f32⟩
  | 106 => ⟨S4x128, .f32⟩
  | 107 => ⟨S4x128, .f32⟩
  | 108 => ⟨S4x128, .f32⟩
  | 109 => ⟨S8x4x16x128x192, .f32⟩
  | 110 => ⟨S4x1x128x1, .f32⟩
  | 111 => ⟨S1x4x1x128x1, .f32⟩
  | 112 => ⟨S8x4x16x128x192, .f32⟩
  | 113 => ⟨S8x4x16x128x192, .f32⟩
  | 114 => ⟨S8x4x16x128x192, .f32⟩
  | 115 => ⟨S8x16x128x4x192, .f32⟩
  | 116 => ⟨S8x2048x4x192, .f32⟩
  | 117 => ⟨S_, .f32⟩
  | 118 => ⟨S8x2048x4, .f32⟩
  | 119 => ⟨S8x2048x4x1, .f32⟩
  | 120 => ⟨S_, .f32⟩
  | 121 => ⟨S8x2048x4x1, .f32⟩
  | 122 => ⟨S8x2048x4x1, .f32⟩
  | 123 => ⟨S8x2048x4x192, .f32⟩
  | 124 => ⟨S8x2048x4x192, .f32⟩
  | 125 => ⟨S8x2048x4x192, .f32⟩
  | 126 => ⟨S_, .f32⟩
  | 127 => ⟨S8x2048x4, .f32⟩
  | _ => ⟨S8x2048x2560, .f32⟩

abbrev hbmTy0_2 (i : Nat) : BufTy := match i % 128 with
  | 0 => ⟨S8x2048x4x1, .f32⟩
  | 1 => ⟨S_, .f32⟩
  | 2 => ⟨S8x2048x4x1, .f32⟩
  | 3 => ⟨S8x2048x4x1, .f32⟩
  | 4 => ⟨S8x2048x4x192, .f32⟩
  | 5 => ⟨S8x2048x4x192, .f32⟩
  | 6 => ⟨S_, .f32⟩
  | 7 => ⟨S8x2048x4x1, .f32⟩
  | 8 => ⟨S8x2048x4x1, .f32⟩
  | 9 => ⟨S8x2048x4x1, .f32⟩
  | 10 => ⟨S8x2048x4x192, .f32⟩
  | 11 => ⟨S8x2048x4x192, .f32⟩
  | 12 => ⟨S4x192, .f32⟩
  | 13 => ⟨S1x1x4x192, .f32⟩
  | 14 => ⟨S8x2048x4x192, .f32⟩
  | 15 => ⟨S8x2048x4x192, .f32⟩
  | 16 => ⟨S8x2048x768, .f32⟩
  | 17 => ⟨S8x2048x768, .f32⟩
  | 18 => ⟨S8x2048x768, .f32⟩
  | 19 => ⟨S_, .f32⟩
  | 20 => ⟨S8x2048x768, .f32⟩
  | 21 => ⟨S8x2048x768, .f32⟩
  | 22 => ⟨S_, .f32⟩
  | 23 => ⟨S8x2048x768, .f32⟩
  | 24 => ⟨S8x2048x768, .f32⟩
  | 25 => ⟨S8x2048x768, .f32⟩
  | 26 => ⟨S8x2048x768, .f32⟩
  | 27 => ⟨S16384x4x192, .f32⟩
  | 28 => ⟨S_, .i32⟩
  | 29 => ⟨S_, .f32⟩
  | 30 => ⟨S16384x4x256, .f32⟩
  | 31 => ⟨S16384x1024, .f32⟩
  | _ => ⟨S8x2048x2560, .f32⟩

abbrev hbmTy (i : Nat) : BufTy := match i / 128 with
  | 0 => hbmTy0_0 i
  | 1 => hbmTy0_1 i
  | 2 => hbmTy0_2 i
  | _ => ⟨S8x2048x2560, .f32⟩

abbrev bufTy : (tb : Table) → Fin (tcTables nBuf tb) → BufTy
  | .hbm, ⟨i, _⟩ => hbmTy i
  | _, _ => ⟨S8x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_4 : Ref sig .tc := ⟨.hbm, 71, rfl⟩
abbrev main_v63 : Ref sig .tc := ⟨.hbm, 72, rfl⟩
abbrev main_v64 : Ref sig .tc := ⟨.hbm, 73, rfl⟩
abbrev main_cst_5 : Ref sig .tc := ⟨.hbm, 74, rfl⟩
abbrev main_v65 : Ref sig .tc := ⟨.hbm, 75, rfl⟩
abbrev main_v66 : Ref sig .tc := ⟨.hbm, 76, rfl⟩
abbrev main_cst_6 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_cst_7 : Ref sig .tc := ⟨.hbm, 87, rfl⟩
abbrev main_v76 : Ref sig .tc := ⟨.hbm, 88, rfl⟩
abbrev main_v77 : Ref sig .tc := ⟨.hbm, 89, rfl⟩
abbrev main_cst_8 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_cst_9 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_cst_10 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_11 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_12 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_cst_13 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_cst_14 : Ref sig .tc := ⟨.hbm, 245, rfl⟩
abbrev main_v224 : Ref sig .tc := ⟨.hbm, 246, rfl⟩
abbrev main_v225 : Ref sig .tc := ⟨.hbm, 247, rfl⟩
abbrev main_cst_15 : Ref sig .tc := ⟨.hbm, 248, rfl⟩
abbrev main_v226 : Ref sig .tc := ⟨.hbm, 249, rfl⟩
abbrev main_v227 : Ref sig .tc := ⟨.hbm, 250, rfl⟩
abbrev main_v228 : Ref sig .tc := ⟨.hbm, 251, rfl⟩
abbrev main_v229 : Ref sig .tc := ⟨.hbm, 252, rfl⟩
abbrev main_v230 : Ref sig .tc := ⟨.hbm, 253, rfl⟩
abbrev main_cst_16 : Ref sig .tc := ⟨.hbm, 254, rfl⟩
abbrev main_v231 : Ref sig .tc := ⟨.hbm, 255, rfl⟩
abbrev main_v232 : Ref sig .tc := ⟨.hbm, 256, rfl⟩
abbrev main_cst_17 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_cst_18 : Ref sig .tc := ⟨.hbm, 262, rfl⟩
abbrev main_v237 : Ref sig .tc := ⟨.hbm, 263, rfl⟩
abbrev main_v238 : Ref sig .tc := ⟨.hbm, 264, rfl⟩
abbrev main_v239 : Ref sig .tc := ⟨.hbm, 265, rfl⟩
abbrev main_v240 : Ref sig .tc := ⟨.hbm, 266, rfl⟩
abbrev main_v241 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_call1_v0 : Ref sig .tc := ⟨.hbm, 273, rfl⟩
abbrev main_call1_v1 : Ref sig .tc := ⟨.hbm, 274, rfl⟩
abbrev main_call1_cst : Ref sig .tc := ⟨.hbm, 275, rfl⟩
abbrev main_call1_v2 : Ref sig .tc := ⟨.hbm, 276, rfl⟩
abbrev main_call1_v3 : Ref sig .tc := ⟨.hbm, 277, rfl⟩
abbrev main_call1_cst_0 : Ref sig .tc := ⟨.hbm, 278, rfl⟩
abbrev main_call1_v4 : Ref sig .tc := ⟨.hbm, 279, rfl⟩
abbrev main_call1_v5 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_c : Ref sig .tc := ⟨.hbm, 284, rfl⟩
abbrev main_call2_v0 : Ref sig .tc := ⟨.hbm, 285, rfl⟩
abbrev main_v250 : Ref sig .tc := ⟨.hbm, 286, rfl⟩
abbrev main_v251 : Ref sig .tc := ⟨.hbm, 287, rfl⟩

abbrev nD : Nat := 1
abbrev τ : Topo := Topo.v7x

variable {F : FTy → Type} [FloatOps F]
-- ==== Kernel2.lean ====
abbrev S81920x512 : Shape := ⟨2, ![81920, 512]⟩
abbrev S16384x4 : Shape := ⟨2, ![16384, 4]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S16384x4x1 : Shape := ⟨3, ![16384, 4, 1]⟩
abbrev S32 : Shape := ⟨1, ![32]⟩
abbrev S1x1x32 : Shape := ⟨3, ![1, 1, 32]⟩
abbrev S16384x4x32 : Shape := ⟨3, ![16384, 4, 32]⟩
abbrev S_ : Shape := ⟨0, ![]⟩
abbrev S16384x32 : Shape := ⟨2, ![16384, 32]⟩
abbrev S1x32 : Shape := ⟨2, ![1, 32]⟩
abbrev S16384x1x32 : Shape := ⟨3, ![16384, 1, 32]⟩
abbrev S160 : Shape := ⟨1, ![160]⟩
abbrev S160x1 : Shape := ⟨2, ![160, 1]⟩
abbrev S160x32 : Shape := ⟨2, ![160, 32]⟩
abbrev S1 : Shape := ⟨1, ![1]⟩
abbrev S4x16384 : Shape := ⟨2, ![4, 16384]⟩
abbrev S65536 : Shape := ⟨1, ![65536]⟩
abbrev S4x32x1x2048 : Shape := ⟨4, ![4, 32, 1, 2048]⟩
abbrev S4x32x1x1024 : Shape := ⟨4, ![4, 32, 1, 1024]⟩
abbrev S81920x1024 : Shape := ⟨2, ![81920, 1024]⟩
abbrev S512x512 : Shape := ⟨2, ![512, 512]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S512x1024 : Shape := ⟨2, ![512, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 120
  | .vmem => 14
  | .smem => 3
  | _ => 0

abbrev bufTy : (tb : Table) → Fin (tcTables nBuf tb) → BufTy
  | .hbm, ⟨0, _⟩ => ⟨S81920x512, .i32⟩
  | .hbm, ⟨1, _⟩ => ⟨S16384x4, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S16384x4x1, .i32⟩
  | .hbm, ⟨7, _⟩ => ⟨S32, .i32⟩
  | .hbm, ⟨8, _⟩ => ⟨S1x1x32, .i32⟩
  | .hbm, ⟨9, _⟩ => ⟨S16384x4x32, .i32⟩
  | .hbm, ⟨10, _⟩ => ⟨S16384x4x32, .i32⟩
  | .hbm, ⟨11, _⟩ => ⟨S16384x4x32, .i1⟩
  | .hbm, ⟨12, _⟩ => ⟨S16384x4x32, .i32⟩
  | .hbm, ⟨13, _⟩ => ⟨S_, .i32⟩
  | .hbm, ⟨14, _⟩ => ⟨S16384x32, .i32⟩
  | .hbm, ⟨15, _⟩ => ⟨S_, .i32⟩
  | .hbm, ⟨16, _⟩ => ⟨S_, .i32⟩
  | .hbm, ⟨17, _⟩ => ⟨S16384x32, .i32⟩
  | .hbm, ⟨18, _⟩ => ⟨S1x32, .i32⟩
  | .hbm, ⟨19, _⟩ => ⟨S32, .i32⟩
  | .hbm, ⟨20, _⟩ => ⟨S16384x32, .i32⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S_, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S32, .i32⟩
  | .hbm, ⟨34, _⟩ => ⟨S32, .i1⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i1⟩
  | .hbm, ⟨40, _⟩ => ⟨S32, .i1⟩
  | .hbm, ⟨41, _⟩ => ⟨S_, .i32⟩
  | .hbm, ⟨42, _⟩ => ⟨S32, .i32⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i32⟩
  | .hbm, ⟨48, _⟩ => ⟨S_, .i32⟩
  | .hbm, ⟨49, _⟩ => ⟨S_, .i32⟩
  | .hbm, ⟨50, _⟩ => ⟨S32, .i32⟩
  | .hbm, ⟨51, _⟩ => ⟨S32, .i32⟩
  | .hbm, ⟨52, _⟩ => ⟨S1x32, .i32⟩
  | .hbm, ⟨53, _⟩ => ⟨S16384x32, .i32⟩
  | .hbm, ⟨54, _⟩ => ⟨S16384x32, .i32⟩
  | .hbm, ⟨55, _⟩ => ⟨S16384x1x32, .i32⟩
  | .hbm, ⟨56, _⟩ => ⟨S_, .i32⟩
  | .hbm, ⟨57, _⟩ => ⟨S_, .i32⟩
  | .hbm, ⟨58, _⟩ => ⟨S16384x4x32, .i32⟩
  | .hbm, ⟨59, _⟩ => ⟨S16384x4x32, .i32⟩
  | .hbm, ⟨60, _⟩ => ⟨S16384x4x32, .i32⟩
  | .hbm, ⟨61, _⟩ => ⟨S_, .i32⟩
  | .hbm, ⟨62, _⟩ => ⟨S16384x4, .i32⟩
  | .hbm, ⟨63, _⟩ => ⟨S160, .i32⟩
  | .hbm, ⟨64, _⟩ => ⟨S_, .i32⟩
  | .hbm, ⟨65, _⟩ => ⟨S160, .i32⟩
  | .hbm, ⟨66, _⟩ => ⟨S160, .i32⟩
  | .hbm, ⟨67, _⟩ => ⟨S160x1, .i32⟩
  | .hbm, ⟨68, _⟩ => ⟨S1x32, .i32⟩
  | .hbm, ⟨69, _⟩ => ⟨S160x32, .i32⟩
  | .hbm, ⟨70, _⟩ => ⟨S160x32, .i32⟩
  | .hbm, ⟨71, _⟩ => ⟨S160x32, .i1⟩
  | .hbm, ⟨72, _⟩ => ⟨S160x32, .i32⟩
  | .hbm, ⟨73, _⟩ => ⟨S_, .i32⟩
  | .hbm, ⟨74, _⟩ => ⟨S160, .i32⟩
  | .hbm, ⟨75, _⟩ => ⟨S_, .i32⟩
  | .hbm, ⟨76, _⟩ => ⟨S160, .i32⟩
  | .hbm, ⟨77, _⟩ => ⟨S160x1, .i32⟩
  | .hbm, ⟨78, _⟩ => ⟨S32, .i32⟩
  | .hbm, ⟨79, _⟩ => ⟨S1x32, .i32⟩
  | .hbm, ⟨80, _⟩ => ⟨S160x32, .i32⟩
  | .hbm, ⟨81, _⟩ => ⟨S160x32, .i32⟩
  | .hbm, ⟨82, _⟩ => ⟨S160x32, .i1⟩
  | .hbm, ⟨83, _⟩ => ⟨S32, .i32⟩
  | .hbm, ⟨84, _⟩ => ⟨S1x32, .i32⟩
  | .hbm, ⟨85, _⟩ => ⟨S_, .i32⟩
  | .hbm, ⟨86, _⟩ => ⟨S_, .i32⟩
  | .hbm, ⟨87, _⟩ => ⟨S160x32, .i32⟩
  | .hbm, ⟨88, _⟩ => ⟨S160x32, .i32⟩
  | .hbm, ⟨89, _⟩ => ⟨S160x32, .i32⟩
  | .hbm, ⟨90, _⟩ => ⟨S_, .i32⟩
  | .hbm, ⟨91, _⟩ => ⟨S160, .i32⟩
  | .hbm, ⟨92, _⟩ => ⟨S160, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S160, .i32⟩
  | .hbm, ⟨97, _⟩ => ⟨S160, .i32⟩
  | .hbm, ⟨98, _⟩ => ⟨S_, .i32⟩
  | .hbm, ⟨99, _⟩ => ⟨S160, .i32⟩
  | .hbm, ⟨100, _⟩ => ⟨S1, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S_, .i1⟩
  | .hbm, ⟨108, _⟩ => ⟨S_, .i32⟩
  | .hbm, ⟨109, _⟩ => ⟨S_, .i32⟩
  | .hbm, ⟨110, _⟩ => ⟨S_, .i1⟩
  | .hbm, ⟨111, _⟩ => ⟨S_, .i1⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S4x16384, .i32⟩
  | .hbm, ⟨116, _⟩ => ⟨S65536, .i32⟩
  | .hbm, ⟨117, _⟩ => ⟨S4x32x1x2048, .f32⟩
  | .hbm, ⟨118, _⟩ => ⟨S4x32x1x1024, .f32⟩
  | .hbm, ⟨119, _⟩ => ⟨S81920x1024, .bf16⟩
  | .local _ .vmem, ⟨0, _⟩ => ⟨S512x512, .i32⟩
  | .local _ .vmem, ⟨1, _⟩ => ⟨S512x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S160, .i32⟩
  | .local _ .smem, ⟨1, _⟩ => ⟨S160, .i32⟩
  | .local _ .smem, ⟨2, _⟩ => ⟨S1, .i32⟩
  | _, _ => ⟨S81920x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_call0_call0_c : Ref sig .tc := ⟨.hbm, 15, rfl⟩
abbrev main_call0_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_call2_call0_c : Ref sig .tc := ⟨.hbm, 48, rfl⟩
abbrev main_call2_call0_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_v25 : Ref sig .tc := ⟨.hbm, 60, rfl⟩
abbrev main_c_5 : Ref sig .tc := ⟨.hbm, 61, rfl⟩
abbrev main_v26 : Ref sig .tc := ⟨.hbm, 62, rfl⟩
abbrev main_v27 : Ref sig .tc := ⟨.hbm, 63, rfl⟩
abbrev main_c_6 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_7 : Ref sig .tc := ⟨.hbm, 73, rfl⟩
abbrev main_v36 : Ref sig .tc := ⟨.hbm, 74, rfl⟩
abbrev main_c_8 : Ref sig .tc := ⟨.hbm, 75, rfl⟩
abbrev main_v37 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_c_9 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v47 : Ref sig .tc := ⟨.hbm, 89, rfl⟩
abbrev main_c_10 : Ref sig .tc := ⟨.hbm, 90, rfl⟩
abbrev main_v48 : Ref sig .tc := ⟨.hbm, 91, rfl⟩
abbrev main_v49 : Ref sig .tc := ⟨.hbm, 92, rfl⟩
abbrev main_c_11 : Ref sig .tc := ⟨.hbm, 93, rfl⟩
abbrev main_c_12 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_v51 : Ref sig .tc := ⟨.hbm, 100, rfl⟩
abbrev main_v52 : Ref sig .tc := ⟨.hbm, 101, rfl⟩
abbrev main_c_13 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_v5 : Ref sig .tc := ⟨.hbm, 108, rfl⟩
abbrev main_call6_c : Ref sig .tc := ⟨.hbm, 109, rfl⟩
abbrev main_call6_v6 : Ref sig .tc := ⟨.hbm, 110, rfl⟩
abbrev main_call6_v7 : Ref sig .tc := ⟨.hbm, 111, rfl⟩
abbrev main_call6_c_0 : Ref sig .tc := ⟨.hbm, 112, rfl⟩
abbrev main_call6_v8 : Ref sig .tc := ⟨.hbm, 113, rfl⟩
abbrev main_v53 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v38 : Ref sig .tc := ⟨.smem, 0, rfl⟩
abbrev main_v50 : Ref sig .tc := ⟨.smem, 1, rfl⟩
abbrev main_v54 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_v38.idx, main_v50.idx, main_v54.idx], fun | 0 => main_v38.names | 1 => main_v50.names | 2 => main_v54.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off3 (i : grid0.Coords) : Fin 1 → Nat :=
  let arg0 : BitVec 32 := BitVec.ofNat 32 (i 0).val
  let v13 : Index := Scalar.indexCast arg0
  ![v13.toNat]
def k0_off4 (i : grid0.Coords) : Fin 1 → Nat :=
  let arg0 : BitVec 32 := BitVec.ofNat 32 (i 0).val
  let v20 : Index := Scalar.indexCast arg0
  ![v20.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S81920x512 : Shape := ⟨2, ![81920, 512]⟩
abbrev S16384x4 : Shape := ⟨2, ![16384, 4]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S16384x4x1 : Shape := ⟨3, ![16384, 4, 1]⟩
abbrev S32 : Shape := ⟨1, ![32]⟩
abbrev S1x1x32 : Shape := ⟨3, ![1, 1, 32]⟩
abbrev S16384x4x32 : Shape := ⟨3, ![16384, 4, 32]⟩
abbrev S_ : Shape := ⟨0, ![]⟩
abbrev S16384x32 : Shape := ⟨2, ![16384, 32]⟩
abbrev S160 : Shape := ⟨1, ![160]⟩
abbrev S160x1 : Shape := ⟨2, ![160, 1]⟩
abbrev S1x32 : Shape := ⟨2, ![1, 32]⟩
abbrev S160x32 : Shape := ⟨2, ![160, 32]⟩
abbrev S1 : Shape := ⟨1, ![1]⟩
abbrev S81920x1024 : Shape := ⟨2, ![81920, 1024]⟩
abbrev S160x512x1024 : Shape := ⟨3, ![160, 512, 1024]⟩
abbrev S512 : Shape := ⟨1, ![512]⟩
abbrev S1x512x1 : Shape := ⟨3, ![1, 512, 1]⟩
abbrev S160x1x1 : Shape := ⟨3, ![160, 1, 1]⟩
abbrev S160x512x1 : Shape := ⟨3, ![160, 512, 1]⟩
abbrev S1x32x1024x2048 : Shape := ⟨4, ![1, 32, 1024, 2048]⟩
abbrev S32x1024x2048 : Shape := ⟨3, ![32, 1024, 2048]⟩
abbrev S160x1024x2048 : Shape := ⟨3, ![160, 1024, 2048]⟩
abbrev S1x32x2048 : Shape := ⟨3, ![1, 32, 2048]⟩
abbrev S32x2048 : Shape := ⟨2, ![32, 2048]⟩
abbrev S160x2048 : Shape := ⟨2, ![160, 2048]⟩
abbrev S1x32x1024x1024 : Shape := ⟨4, ![1, 32, 1024, 1024]⟩
abbrev S32x1024x1024 : Shape := ⟨3, ![32, 1024, 1024]⟩
abbrev S160x1024x1024 : Shape := ⟨3, ![160, 1024, 1024]⟩
abbrev S1x32x1024 : Shape := ⟨3, ![1, 32, 1024]⟩
abbrev S32x1024 : Shape := ⟨2, ![32, 1024]⟩
abbrev S160x1024 : Shape := ⟨2, ![160, 1024]⟩
abbrev S160x512x2048 : Shape := ⟨3, ![160, 512, 2048]⟩
abbrev S160x1x2048 : Shape := ⟨3, ![160, 1, 2048]⟩
abbrev S160x1x1024 : Shape := ⟨3, ![160, 1, 1024]⟩

abbrev nBuf : Space → Nat
  | .hbm => 167
  | .vmem => 0
  | .smem => 0
  | _ => 0

abbrev hbmTy0_0 (i : Nat) : BufTy := match i % 128 with
  | 0 => ⟨S81920x512, .i32⟩
  | 1 => ⟨S16384x4, .i32⟩
  | 2 => ⟨S4x32x1024x2048, .f32⟩
  | 3 => ⟨S4x32x2048, .f32⟩
  | 4 => ⟨S4x32x1024x1024, .f32⟩
  | 5 => ⟨S4x32x1024, .f32⟩
  | 6 => ⟨S16384x4x1, .i32⟩
  | 7 => ⟨S32, .i32⟩
  | 8 => ⟨S1x1x32, .i32⟩
  | 9 => ⟨S16384x4x32, .i32⟩
  | 10 => ⟨S16384x4x32, .i32⟩
  | 11 => ⟨S16384x4x32, .i1⟩
  | 12 => ⟨S16384x4x32, .i32⟩
  | 13 => ⟨S_, .i32⟩
  | 14 => ⟨S16384x32, .i32⟩
  | 15 => ⟨S_, .i32⟩
  | 16 => ⟨S32, .i32⟩
  | 17 => ⟨S_, .i32⟩
  | 18 => ⟨S32, .i32⟩
  | 19 => ⟨S32, .i32⟩
  | 20 => ⟨S_, .i32⟩
  | 21 => ⟨S32, .i32⟩
  | 22 => ⟨S32, .i32⟩
  | 23 => ⟨S_, .i32⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i1⟩
  | 31 => ⟨S32, .i32⟩
  | 32 => ⟨S32, .i32⟩
  | 33 => ⟨S_, .i32⟩
  | 34 => ⟨S32, .i32⟩
  | 35 => ⟨S32, .i1⟩
  | 36 => ⟨S32, .i1⟩
  | 37 => ⟨S_, .i32⟩
  | 38 => ⟨S32, .i32⟩
  | 39 => ⟨S32, .i32⟩
  | 40 => ⟨S32, .i32⟩
  | 41 => ⟨S_, .i32⟩
  | 42 => ⟨S32, .i32⟩
  | 43 => ⟨S32, .i32⟩
  | 44 => ⟨S_, .i32⟩
  | 45 => ⟨S_, .i32⟩
  | 46 => ⟨S32, .i32⟩
  | 47 => ⟨S160, .i32⟩
  | 48 => ⟨S_, .i32⟩
  | 49 => ⟨S160, .i32⟩
  | 50 => ⟨S160, .i32⟩
  | 51 => ⟨S160x1, .i32⟩
  | 52 => ⟨S1x32, .i32⟩
  | 53 => ⟨S160x32, .i32⟩
  | 54 => ⟨S160x32, .i32⟩
  | 55 => ⟨S160x32, .i1⟩
  | 56 => ⟨S160x32, .i32⟩
  | 57 => ⟨S_, .i32⟩
  | 58 => ⟨S160, .i32⟩
  | 59 => ⟨S_, .i32⟩
  | 60 => ⟨S160, .i32⟩
  | 61 => ⟨S160, .i32⟩
  | 62 => ⟨S32, .i32⟩
  | 63 => ⟨S32, .i32⟩
  | 64 => ⟨S160x1, .i32⟩
  | 65 => ⟨S160, .i32⟩
  | 66 => ⟨S160, .i32⟩
  | 67 => ⟨S1, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i1⟩
  | 78 => ⟨S_, .i1⟩
  | 79 => ⟨S_, .i32⟩
  | 80 => ⟨S_, .i32⟩
  | 81 => ⟨S_, .i32⟩
  | 82 => ⟨S_, .i32⟩
  | 83 => ⟨S81920x512, .i32⟩
  | 84 => ⟨S81920x512, .i32⟩
  | 85 => ⟨S81920x512, .f32⟩
  | 86 => ⟨S_, .i32⟩
  | 87 => ⟨S81920x512, .i32⟩
  | 88 => ⟨S81920x512, .i32⟩
  | 89 => ⟨S81920x512, .f32⟩
  | 90 => ⟨S81920x1024, .f32⟩
  | 91 => ⟨S160x512x1024, .f32⟩
  | 92 => ⟨S512, .i32⟩
  | 93 => ⟨S1x512x1, .i32⟩
  | 94 => ⟨S160x1x1, .i32⟩
  | 95 => ⟨S160x512x1, .i32⟩
  | 96 => ⟨S160x512x1, .i32⟩
  | 97 => ⟨S160x512x1, .i1⟩
  | 98 => ⟨S_, .f32⟩
  | 99 => ⟨S_, .f32⟩
  | 100 => ⟨S160x512x1024, .i1⟩
  | 101 => ⟨S160x512x1024, .f32⟩
  | 102 => ⟨S160x512x1024, .f32⟩
  | 103 => ⟨S1x32x1024x2048, .f32⟩
  | 104 => ⟨S32x1024x2048, .f32⟩
  | 105 => ⟨S160x1, .i32⟩
  | 106 => ⟨S160x1024x2048, .f32⟩
  | 107 => ⟨S1x32x2048, .f32⟩
  | 108 => ⟨S32x2048, .f32⟩
  | 109 => ⟨S160x1, .i32⟩
  | 110 => ⟨S160x2048, .f32⟩
  | 111 => ⟨S1x32x1024x1024, .f32⟩
  | 112 => ⟨S32x1024x1024, .f32⟩
  | 113 => ⟨S160x1, .i32⟩
  | 114 => ⟨S160x1024x1024, .f32⟩
  | 115 => ⟨S1x32x1024, .f32⟩
  | 116 => ⟨S32x1024, .f32⟩
  | 117 => ⟨S160x1, .i32⟩
  | 118 => ⟨S160x1024, .f32⟩
  | 119 => ⟨S160x512x2048, .f32⟩
  | 120 => ⟨S160x1x2048, .f32⟩
  | 121 => ⟨S160x512x2048, .f32⟩
  | 122 => ⟨S160x512x2048, .f32⟩
  | 123 => ⟨S160x512x1024, .f32⟩
  | 124 => ⟨S_, .f32⟩
  | 125 => ⟨S160x512x1024, .f32⟩
  | 126 => ⟨S160x512x1024, .f32⟩
  | 127 => ⟨S160x512x1024, .f32⟩
  | _ => ⟨S81920x512, .i32⟩

abbrev hbmTy0_1 (i : Nat) : BufTy := match i % 128 with
  | 0 => ⟨S_, .f32⟩
  | 1 => ⟨S_, .f32⟩
  | 2 => ⟨S_, .f32⟩
  | 3 => ⟨S160x512x1024, .f32⟩
  | 4 => ⟨S160x512x1024, .f32⟩
  | 5 => ⟨S_, .f32⟩
  | 6 => ⟨S160x512x1024, .f32⟩
  | 7 => ⟨S160x512x1024, .f32⟩
  | 8 => ⟨S_, .f32⟩
  | 9 => ⟨S160x512x1024, .f32⟩
  | 10 => ⟨S160x512x1024, .f32⟩
  | 11 => ⟨S160x512x1024, .f32⟩
  | 12 => ⟨S160x512x1024, .f32⟩
  | 13 => ⟨S_, .f32⟩
  | 14 => ⟨S160x512x1024, .f32⟩
  | 15 => ⟨S160x512x1024, .f32⟩
  | 16 => ⟨S_, .f32⟩
  | 17 => ⟨S160x512x1024, .f32⟩
  | 18 => ⟨S160x512x1024, .f32⟩
  | 19 => ⟨S160x512x1024, .f32⟩
  | 20 => ⟨S_, .f32⟩
  | 21 => ⟨S160x512x1024, .f32⟩
  | 22 => ⟨S160x512x1024, .f32⟩
  | 23 => ⟨S160x512x1024, .f32⟩
  | 24 => ⟨S160x512x1024, .f32⟩
  | 25 => ⟨S160x1x1024, .f32⟩
  | 26 => ⟨S160x512x1024, .f32⟩
  | 27 => ⟨S160x512x1024, .f32⟩
  | 28 => ⟨S160, .i32⟩
  | 29 => ⟨S160x1x1, .i32⟩
  | 30 => ⟨S160x1x1, .i32⟩
  | 31 => ⟨S160x1x1, .i1⟩
  | 32 => ⟨S_, .f32⟩
  | 33 => ⟨S_, .f32⟩
  | 34 => ⟨S160x512x1024, .i1⟩
  | 35 => ⟨S160x512x1024, .f32⟩
  | 36 => ⟨S160x512x1024, .f32⟩
  | 37 => ⟨S81920x1024, .f32⟩
  | 38 => ⟨S81920x1024, .bf16⟩
  | _ => ⟨S81920x512, .i32⟩

abbrev hbmTy (i : Nat) : BufTy := match i / 128 with
  | 0 => hbmTy0_0 i
  | 1 => hbmTy0_1 i
  | _ => ⟨S81920x512, .i32⟩

abbrev bufTy : (tb : Table) → Fin (tcTables nBuf tb) → BufTy
  | .hbm, ⟨i, _⟩ => hbmTy i
  | _, _ => ⟨S81920x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v13 : Ref sig .tc := ⟨.hbm, 40, rfl⟩
abbrev main_c_4 : Ref sig .tc := ⟨.hbm, 41, rfl⟩
abbrev main_v14 : Ref sig .tc := ⟨.hbm, 42, rfl⟩
abbrev main_v15 : Ref sig .tc := ⟨.hbm, 43, rfl⟩
abbrev main_call1_call0_c : Ref sig .tc := ⟨.hbm, 44, rfl⟩
abbrev main_call1_call0_v0 : Ref sig .tc := ⟨.hbm, 45, rfl⟩
abbrev main_v16 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_call2_v0 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_c_8 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c : Ref sig .tc := ⟨.hbm, 76, rfl⟩
abbrev main_call3_v6 : Ref sig .tc := ⟨.hbm, 77, rfl⟩
abbrev main_call3_v7 : Ref sig .tc := ⟨.hbm, 78, rfl⟩
abbrev main_call3_c_0 : Ref sig .tc := ⟨.hbm, 79, rfl⟩
abbrev main_call3_v8 : Ref sig .tc := ⟨.hbm, 80, rfl⟩
abbrev main_v35 : Ref sig .tc := ⟨.hbm, 81, rfl⟩
abbrev main_c_9 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_c_10 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_call5_v0 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_call6_v0 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_call7_v0 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_call8_v0 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_11 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_cst_12 : Ref sig .tc := ⟨.hbm, 128, rfl⟩
abbrev main_cst_13 : Ref sig .tc := ⟨.hbm, 129, rfl⟩
abbrev main_call9_v0 : Ref sig .tc := ⟨.hbm, 130, rfl⟩
abbrev main_call9_v1 : Ref sig .tc := ⟨.hbm, 131, rfl⟩
abbrev main_call9_v2 : Ref sig .tc := ⟨.hbm, 132, rfl⟩
abbrev main_call9_v3 : Ref sig .tc := ⟨.hbm, 133, rfl⟩
abbrev main_call9_v4 : Ref sig .tc := ⟨.hbm, 134, rfl⟩
abbrev main_v71 : Ref sig .tc := ⟨.hbm, 135, rfl⟩
abbrev main_cst_14 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_15 : Ref sig .tc := ⟨.hbm, 141, rfl⟩
abbrev main_v76 : Ref sig .tc := ⟨.hbm, 142, rfl⟩
abbrev main_v77 : Ref sig .tc := ⟨.hbm, 143, rfl⟩
abbrev main_cst_16 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_cst_17 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_cst_18 : Ref sig .tc := ⟨.hbm, 160, rfl⟩
abbrev main_call10_v0 : Ref sig .tc := ⟨.hbm, 161, rfl⟩
abbrev main_call10_v1 : Ref sig .tc := ⟨.hbm, 162, rfl⟩
abbrev main_call10_v2 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩

abbrev nD : Nat := 1
abbrev τ : Topo := Topo.v7x

variable {F : FTy → Type} [FloatOps F]
-- ==== Kernel3.lean ====
abbrev S4x16384x512 : Shape := ⟨3, ![4, 16384, 512]⟩
abbrev S16384x1024 : Shape := ⟨2, ![16384, 1024]⟩
abbrev S16384x4 : Shape := ⟨2, ![16384, 4]⟩
abbrev S1024 : Shape := ⟨1, ![1024]⟩
abbrev S_ : Shape := ⟨0, ![]⟩
abbrev S16384x128 : Shape := ⟨2, ![16384, 128]⟩
abbrev S1x1024 : Shape := ⟨2, ![1, 1024]⟩
abbrev S1x256x512 : Shape := ⟨3, ![1, 256, 512]⟩
abbrev S256x1024 : Shape := ⟨2, ![256, 1024]⟩
abbrev S256x128 : Shape := ⟨2, ![256, 128]⟩
abbrev S256x1 : Shape := ⟨2, ![256, 1]⟩
abbrev S256x512 : Shape := ⟨2, ![256, 512]⟩
abbrev S256 : Shape := ⟨1, ![256]⟩

abbrev nBuf : Space → Nat
  | .hbm => 11
  | .vmem => 16
  | .smem => 0
  | _ => 0

abbrev bufTy : (tb : Table) → Fin (tcTables nBuf tb) → BufTy
  | .hbm, ⟨0, _⟩ => ⟨S4x16384x512, .i32⟩
  | .hbm, ⟨1, _⟩ => ⟨S16384x1024, .f32⟩
  | .hbm, ⟨2, _⟩ => ⟨S16384x4, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S16384x128, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1x256x512, .i32⟩
  | .local _ .vmem, ⟨1, _⟩ => ⟨S1x256x512, .i32⟩
  | .local _ .vmem, ⟨2, _⟩ => ⟨S1x256x512, .i32⟩
  | .local _ .vmem, ⟨3, _⟩ => ⟨S1x256x512, .i32⟩
  | .local _ .vmem, ⟨4, _⟩ => ⟨S1x256x512, .i32⟩
  | .local _ .vmem, ⟨5, _⟩ => ⟨S1x256x512, .i32⟩
  | .local _ .vmem, ⟨6, _⟩ => ⟨S1x256x512, .i32⟩
  | .local _ .vmem, ⟨7, _⟩ => ⟨S1x256x512, .i32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S4x16384x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x16384x512 : Shape := ⟨3, ![4, 16384, 512]⟩
abbrev S16384x1024 : Shape := ⟨2, ![16384, 1024]⟩
abbrev S16384x4 : Shape := ⟨2, ![16384, 4]⟩
abbrev S1024 : Shape := ⟨1, ![1024]⟩
abbrev S4x16384 : Shape := ⟨2, ![4, 16384]⟩
abbrev S4x16384x1 : Shape := ⟨3, ![4, 16384, 1]⟩
abbrev S_ : Shape := ⟨0, ![]⟩
abbrev S4x16384x1024 : Shape := ⟨3, ![4, 16384, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x16384x512, .i32⟩
  | .hbm, ⟨1, _⟩ => ⟨S16384x1024, .f32⟩
  | .hbm, ⟨2, _⟩ => ⟨S16384x4, .f32⟩
  | .hbm, ⟨3, _⟩ => ⟨S1024, .f32⟩
  | .hbm, ⟨4, _⟩ => ⟨S1024, .f32⟩
  | .hbm, ⟨5, _⟩ => ⟨S4x16384, .f32⟩
  | .hbm, ⟨6, _⟩ => ⟨S4x16384x1, .f32⟩
  | .hbm, ⟨7, _⟩ => ⟨S_, .i32⟩
  | .hbm, ⟨8, _⟩ => ⟨S4x16384x512, .i32⟩
  | .hbm, ⟨9, _⟩ => ⟨S4x16384x512, .i32⟩
  | .hbm, ⟨10, _⟩ => ⟨S4x16384x512, .f32⟩
  | .hbm, ⟨11, _⟩ => ⟨S_, .i32⟩
  | .hbm, ⟨12, _⟩ => ⟨S4x16384x512, .i32⟩
  | .hbm, ⟨13, _⟩ => ⟨S4x16384x512, .i32⟩
  | .hbm, ⟨14, _⟩ => ⟨S4x16384x512, .f32⟩
  | .hbm, ⟨15, _⟩ => ⟨S4x16384x1024, .f32⟩
  | .hbm, ⟨16, _⟩ => ⟨S4x16384x1024, .f32⟩
  | .hbm, ⟨17, _⟩ => ⟨S4x16384x1024, .f32⟩
  | .hbm, ⟨18, _⟩ => ⟨S_, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | _, _ => ⟨S4x16384x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.Chunk.lean ====
module

public import Idealize.ShloMosaic.Lib.Pointwise

@[expose] public section
set_option maxRecDepth 16384
noncomputable section

/-! One chunk of a retention head as mathematics on the extended reals: 128 time steps, any lanes for keys and values.
    Then what lanes that hold zeros add to it: nothing. -/
namespace Cert.Chunk
open Idealize.ShloMosaic

/-- The weight of step `j` in step `i` of the same chunk: `exp ((i - j) * lg)` for `j ≤ i`, else nothing. -/
def dec (lg : EReal) (i j : Fin 128) : EReal :=
  if j ≤ i then Ideal.exp ((((i : ℕ) : ℝ) - ((j : ℕ) : ℝ) : ℝ) * lg) else 0

/-- The weight of step `j` in the state after the chunk. -/
def zeta (lg : EReal) (j : Fin 128) : EReal := Ideal.exp (((127 - ((j : ℕ) : ℝ) : ℝ) : EReal) * lg)

/-- The weight of the state before the chunk in step `i`. -/
def xi (lg : EReal) (i : Fin 128) : EReal := Ideal.exp (((((i : ℕ) : ℝ) + 1 : ℝ) : EReal) * lg)

variable {κ ν κ' ν' : Type} [Fintype κ] [Fintype κ'] [Fintype ν] [Fintype ν']

/-- What step `i` reads: the chunk's own steps, and the state before the chunk. -/
def mix (lg : EReal) (q k : Fin 128 → κ → EReal) (v : Fin 128 → ν → EReal) (s : κ → ν → EReal) (i : Fin 128) (l : ν) : EReal :=
  (∑ j, ((∑ a, q i a * k j a) * dec lg i j) * v j l) + (∑ a, q i a * s a l) * xi lg i

/-- The state after the chunk. -/
def stp (lg cd : EReal) (k : Fin 128 → κ → EReal) (v : Fin 128 → ν → EReal) (s : κ → ν → EReal) (a : κ) (l : ν) : EReal :=
  cd * s a l + ∑ j, (k j a * zeta lg j) * v j l

/-- A key lane's place among 128: each half of 48 lanes in a slot of 64. -/
def keyLane (a : Fin 96) : Fin 128 := if h : a.val < 48 then ⟨a.val, by omega⟩ else ⟨a.val + 16, by omega⟩

/-- A value lane's place among 256. -/
def valLane (l : Fin 192) : Fin 256 := ⟨l.val, by omega⟩

theorem keyLane_val (a : Fin 96) : (keyLane a).val = if a.val < 48 then a.val else a.val + 16 := by
  unfold keyLane; split <;> simp_all

theorem keyLane_inj : Function.Injective keyLane := by
  intro a b h
  have := congrArg Fin.val h
  simp only [keyLane_val] at this
  apply Fin.ext; split_ifs at this <;> omega

theorem valLane_inj : Function.Injective valLane := by
  intro a b h
  have := congrArg Fin.val h
  simp only [valLane] at this
  exact Fin.ext this

/-- A lane of a slot of 64 beyond its 48 is no key lane, and only those are not. -/
theorem mem_keyLane (l : Fin 128) (h : l.val % 64 < 48) : l ∈ Set.range keyLane :=
  ⟨⟨48 * (l.val / 64) + l.val % 64, by omega⟩, Fin.ext (by rw [keyLane_val]; dsimp only; split_ifs <;> omega)⟩

theorem mem_valLane (l : Fin 256) (h : l.val < 192) : l ∈ Set.range valLane := ⟨⟨l.val, h⟩, rfl⟩

/-- A sum over 128 key lanes of which only the 96 count. -/
theorem sum_key (f : Fin 128 → EReal) (h0 : ∀ l : Fin 128, 48 ≤ l.val % 64 → f l = 0) : ∑ l, f l = ∑ a, f (keyLane a) := by
  refine (Fintype.sum_of_injective keyLane keyLane_inj _ f (fun l hl => h0 l ?_) (fun _ => rfl)).symm
  by_contra hc
  exact hl (mem_keyLane l (by omega))

/-- A sum over 256 value lanes of which only the 192 count. -/
theorem sum_val (f : Fin 256 → EReal) (h0 : ∀ l : Fin 256, 192 ≤ l.val → f l = 0) : ∑ l, f l = ∑ a, f (valLane a) := by
  refine (Fintype.sum_of_injective valLane valLane_inj _ f (fun l hl => h0 l ?_) (fun _ => rfl)).symm
  by_contra hc
  exact hl (mem_valLane l (by omega))

/-- On a value lane, the padded chunk reads what the chunk reads. -/
theorem mix_pad (lg : EReal) (q k : Fin 128 → Fin 128 → EReal) (v : Fin 128 → Fin 256 → EReal) (s : Fin 128 → Fin 256 → EReal)
    (hq : ∀ i l, 48 ≤ l.val % 64 → q i l = 0) (i : Fin 128) (l : Fin 192) :
    mix lg q k v s i (valLane l)
      = mix lg (fun i a => q i (keyLane a)) (fun j a => k j (keyLane a)) (fun j l => v j (valLane l))
          (fun a l => s (keyLane a) (valLane l)) i l := by
  unfold mix
  rw [sum_key (fun a => q i a * s a (valLane l)) (fun a ha => by rw [hq i a ha, zero_mul])]
  congr 1
  refine Finset.sum_congr rfl fun j _ => ?_
  rw [sum_key (fun a => q i a * k j a) (fun a ha => by rw [hq i a ha, zero_mul])]

/-- On a value lane where the values and the state are zero, the chunk reads zero. -/
theorem mix_zero (lg : EReal) (q k : Fin 128 → κ → EReal) (v : Fin 128 → ν → EReal) (s : κ → ν → EReal) (i : Fin 128) (l : ν)
    (hv : ∀ j, v j l = 0) (hs : ∀ a, s a l = 0) : mix lg q k v s i l = 0 := by
  simp [mix, hv, hs]

/-- There, the state after the chunk is zero too. -/
theorem stp_zero (lg cd : EReal) (k : Fin 128 → κ → EReal) (v : Fin 128 → ν → EReal) (s : κ → ν → EReal) (a : κ) (l : ν)
    (hv : ∀ j, v j l = 0) (hs : s a l = 0) : stp lg cd k v s a l = 0 := by
  simp [stp, hv, hs]

/-! ## The norm of a head's lanes and the gate -/

/-- The sum of the squares' root in the norm, as both programs spell it. -/
def eps : EReal := Ideal.ofBits .f32 0x3727C5AC#32

/-- The 192 lanes of a head, less their mean. -/
def dev (hv : Fin 192 → EReal) (l : Fin 192) : EReal := hv l - Ideal.div (∑ l, hv l) ((192 : ℝ) : EReal)

/-- The head's norm times its weight, under the gate `x * sigmoid x`. -/
def gated (hv g gt : Fin 192 → EReal) (l : Fin 192) : EReal :=
  (gt l * Ideal.logistic (gt l))
    * ((dev hv l * Ideal.rsqrt (Ideal.div (∑ l, dev hv l * dev hv l) ((192 : ℝ) : EReal) + eps)) * g l)

/-- The 256 lanes of a padded head, less the mean of the 192, zero beyond. -/
def devPad (hv : Fin 256 → EReal) (l : Fin 256) : EReal := if l.val < 192 then hv l - (∑ l, hv l) * ((1 / 192 : ℝ) : EReal) else 0

/-- The norm and the gate on the 256 lanes. -/
def gatedPad (hv g gt : Fin 256 → EReal) (l : Fin 256) : EReal :=
  (gt l * Ideal.logistic (gt l))
    * ((devPad hv l * Ideal.rsqrt ((∑ l, devPad hv l * devPad hv l) * ((1 / 192 : ℝ) : EReal) + eps)) * g l)

theorem div_192 (x : EReal) : Ideal.div x ((192 : ℝ) : EReal) = x * ((1 / 192 : ℝ) : EReal) := by
  rw [Ideal.div_coe (by norm_num)]

theorem devPad_val (hv : Fin 256 → EReal) (h0 : ∀ l : Fin 256, 192 ≤ l.val → hv l = 0) (l : Fin 192) :
    devPad hv (valLane l) = dev (fun l => hv (valLane l)) l := by
  have : (valLane l).val < 192 := l.isLt
  rw [devPad, if_pos this, dev, sum_val hv h0, div_192]

theorem devPad_zero (hv : Fin 256 → EReal) (l : Fin 256) (h : 192 ≤ l.val) : devPad hv l = 0 := by
  rw [devPad, if_neg (by omega)]

/-- On a value lane the padded head's norm and gate are the head's. -/
theorem gatedPad_val (hv g gt : Fin 256 → EReal) (h0 : ∀ l : Fin 256, 192 ≤ l.val → hv l = 0) (l : Fin 192) :
    gatedPad hv g gt (valLane l) = gated (fun l => hv (valLane l)) (fun l => g (valLane l)) (fun l => gt (valLane l)) l := by
  rw [gatedPad, gated, devPad_val hv h0, div_192,
    sum_val (fun l => devPad hv l * devPad hv l) (fun l hl => by rw [devPad_zero hv l hl, zero_mul])]
  simp only [devPad_val hv h0]

/-- Beyond the value lanes they are zero. -/
theorem gatedPad_zero (hv g gt : Fin 256 → EReal) (l : Fin 256) (h : 192 ≤ l.val) : gatedPad hv g gt l = 0 := by
  rw [gatedPad, devPad_zero hv l h, zero_mul, zero_mul, mul_zero]

end Cert.Chunk
-- ==== Proof.Tile.lean ====
module

public import proofs.«01_k».proof.Proof.Gen.KernelIdeal.Skeleton
public import proofs.«01_k».proof.Proof.Chunk
public import Idealize.ShloMosaic.Lib.WordCmp

@[expose] public section
set_option maxRecDepth 16384
noncomputable section

/-! The kernel's vector arithmetic for one chunk of one head, with the head's decay as a parameter, read at an index: it is
    the chunk's mathematics (`Cert.Chunk`). -/
namespace Cert.KernelIdeal.Tile
open Idealize.ShloMosaic Idealize.ShloMosaic.TcCoe Cert.KernelIdeal.Gen Cert.Chunk

variable {F : FTy → Type} [FloatOps F] [Named F]

/-- The decays inside a chunk as the kernel's matrix. -/
def decT (lg : F .f32) : FVec F S128x128 .f32 :=
  select (cmpf .oge (k0_pay6 (F := F)) (broadcast S128x128 (Scalar.ofBits .f32 0x00000000#32)))
    (exp (mulf (maximumf (k0_pay6 (F := F)) (broadcast S128x128 (Scalar.ofBits .f32 0x00000000#32))) (broadcast S128x128 lg)))
    (broadcast S128x128 (Scalar.ofBits .f32 0x00000000#32))

/-- The decays into the state as the kernel's column. -/
def zetaT (lg : F .f32) : FVec F S128x1 .f32 :=
  exp (mulf (subf (broadcast S128x1 (Scalar.ofBits .f32 0x42FE0000#32)) (k0_pay7 (F := F))) (broadcast S128x1 lg))

/-- The decays of the state as the kernel's column. -/
def xiT (lg : F .f32) : FVec F S128x1 .f32 :=
  exp (mulf (addf (k0_pay7 (F := F)) (broadcast S128x1 (Scalar.ofBits .f32 0x3F800000#32))) (broadcast S128x1 lg))

/-- A chunk's reads of itself. -/
def intraT (lg : F .f32) (q : FVec F S128x128 .f32) (k : FVec F S128x128 .f32) (v : Vec F S128x256 .f32) : FVec F S128x256 .f32 :=
  matmul dot_S128x128_S128x256_S128x256_1_0_0_1_n_n none
    (truncf .bf16 (mulf (matmul dot_S128x128_S128x128_S128x128_1_1_0_0_n_n none (truncf .bf16 q bitsLt_bf16_f32)
      (truncf .bf16 k bitsLt_bf16_f32) (constant S128x128 .f32 0x00000000#32)) (decT lg)) bitsLt_bf16_f32)
    (k0_pay15 v) (constant S128x256 .f32 0x00000000#32)

/-- A chunk's reads of the state before it. -/
def crossT (lg : F .f32) (q : FVec F S128x128 .f32) (s : Vec F S1x128x256 .f32) : FVec F S128x256 .f32 :=
  mulf (matmul dot_S128x128_S128x256_S128x256_1_0_0_1_n_n none (truncf .bf16 q bitsLt_bf16_f32)
    (truncf .bf16 (k0_pay16 s) bitsLt_bf16_f32) (constant S128x256 .f32 0x00000000#32))
    (broadcastTo S128x256 (xiT lg) broadcasts_S128x1_S128x256)

/-- The state after the chunk. -/
def stT (lg cd : F .f32) (k : FVec F S128x128 .f32) (v : Vec F S128x256 .f32) (s : Vec F S1x128x256 .f32) : FVec F S1x128x256 .f32 :=
  k0_pay20 (addf (mulf (broadcast S128x256 cd) (k0_pay16 s))
    (matmul dot_S128x128_S128x256_S128x256_0_0_1_1_n_n none
      (truncf .bf16 (mulf k (broadcastTo S128x128 (zetaT lg) broadcasts_S128x1_S128x128)) bitsLt_bf16_f32)
      (k0_pay15 v) (constant S128x256 .f32 0x00000000#32)))

/-- The first 128 rows of a tile. -/
def sl0 (x : FVec F S256x128 .f32) : FVec F S128x128 .f32 := extractStridedSlice S128x128 ![0, 0] x slices_S256x128_o0_0_S128x128
/-- Its other 128 rows. -/
def sl1 (x : FVec F S256x128 .f32) : FVec F S128x128 .f32 := extractStridedSlice S128x128 ![128, 0] x slices_S256x128_o128_0_S128x128

/-! ## Read at an index -/

theorem zero_bits : Ideal.ofBits .f32 0x00000000#32 = 0 := by
  simp [Ideal.ofBits, Ideal.ieee, -EReal.coe_mul]
theorem one_bits : Ideal.ofBits .f32 0x3F800000#32 = ((1 : ℝ) : EReal) := by
  simp [Ideal.ofBits, Ideal.ieee, -EReal.coe_mul]; norm_num
theorem bits_127 : Ideal.ofBits .f32 0x42FE0000#32 = ((127 : ℝ) : EReal) := by
  simp [Ideal.ofBits, Ideal.ieee, -EReal.coe_mul]; norm_num

/-- A lane below 2^31 as a word, as a number. -/
theorem word_real (n : ℕ) (h : n < 2 ^ 31) : (FloatOps.sitofp .f32 (BitVec.ofNat 32 n) : Ideal .f32) = ((n : ℝ) : EReal) := by
  show (((BitVec.ofNat 32 n).toInt : ℝ) : EReal) = _
  rw [WordCmp.toInt_ofNat_of_lt (by simpa using h)]; simp

/-- The difference of two lanes as words, as a number. -/
theorem word_sub_real (i j : Fin 128) : (FloatOps.sitofp .f32 (IntOp.subi (BitVec.ofNat 32 i.val) (BitVec.ofNat 32 j.val)) : Ideal .f32)
    = ((((i : ℕ) : ℝ) - ((j : ℕ) : ℝ) : ℝ) : EReal) := by
  show (((BitVec.ofNat 32 i.val - BitVec.ofNat 32 j.val).toInt : ℝ) : EReal) = _
  have : (BitVec.ofNat 32 i.val - BitVec.ofNat 32 j.val).toInt = (i : ℤ) - (j : ℤ) := by
    have hi := i.isLt; have hj := j.isLt
    rw [BitVec.toInt_sub, WordCmp.toInt_ofNat_of_lt (by norm_num; omega), WordCmp.toInt_ofNat_of_lt (by norm_num; omega)]
    rw [Int.bmod_def]
    norm_num
    omega
  rw [this]; push_cast; rfl

/-- The mask of the value lanes. -/
theorem mask (l : Fin 256) (a b : EReal) :
    Scalar.select (IntOp.cmpi .slt (BitVec.ofNat 32 l.val) 192#32) a b = if l.val < 192 then a else b := by
  have  := WordCmp.cmpi_slt_ofNat_eq_one_iff (w := 32) (a := l.val) (b := 192) (by have := l.isLt; omega) (by norm_num)
  unfold Scalar.select
  by_cases h : l.val < 192
  · rw [if_pos h]; exact if_pos (this.mpr h)
  · rw [if_neg h]; exact if_neg (fun hc => h (this.mp hc))

theorem zetaT_at (lg : EReal) (j : Fin 128) (u : Fin 1) : zetaT (F := Ideal) lg (ix2 j u) = zeta lg j := by
  unfold zetaT k0_pay7
  pointwise
  rw [word_real _ (by omega), bits_127, ← EReal.coe_sub]; rfl

theorem xiT_at (lg : EReal) (j : Fin 128) (u : Fin 1) : xiT (F := Ideal) lg (ix2 j u) = xi lg j := by
  unfold xiT k0_pay7
  pointwise
  rw [word_real _ (by omega), xi, EReal.coe_add]; rfl

theorem decT_at (lg : EReal) (i j : Fin 128) : decT (F := Ideal) lg (ix2 i j) = dec lg i j := by
  unfold decT k0_pay6
  pointwise
  rw [word_sub_real, dec]
  by_cases h : j ≤ i
  · have h' : (0 : ℝ) ≤ ((i : ℕ) : ℝ) - ((j : ℕ) : ℝ) := sub_nonneg.mpr (by exact_mod_cast h)
    rw [if_pos h, if_pos (EReal.coe_nonneg.mpr h'), max_eq_left (EReal.coe_nonneg.mpr h')]
  · have h' : ¬ (0 : ℝ) ≤ ((i : ℕ) : ℝ) - ((j : ℕ) : ℝ) := fun hc => h (by exact_mod_cast sub_nonneg.mp hc)
    rw [if_neg h, if_neg (fun hc => h' (EReal.coe_nonneg.mp hc))]

theorem intraT_at (lg : EReal) (q k : FVec Ideal S128x128 .f32) (v : Vec Ideal S128x256 .f32) (i : Fin 128) (l : Fin 256) :
    intraT (F := Ideal) lg q k v (ix2 i l) = ∑ j, ((∑ a, q (ix2 i a) * k (ix2 j a)) * dec lg i j) * v (ix2 j l) := by
  unfold intraT k0_pay15
  pointwise
  simp only [decT_at]

theorem crossT_at (lg : EReal) (q : FVec Ideal S128x128 .f32) (s : Vec Ideal S1x128x256 .f32) (i : Fin 128) (l : Fin 256) :
    crossT (F := Ideal) lg q s (ix2 i l) = (∑ a, q (ix2 i a) * s (ix3 0 a l)) * xi lg i := by
  unfold crossT k0_pay16
  pointwise
  simp only [xiT_at]

theorem stT_at (lg cd : EReal) (k : FVec Ideal S128x128 .f32) (v : Vec Ideal S128x256 .f32) (s : Vec Ideal S1x128x256 .f32)
    (u : Fin 1) (a : Fin 128) (l : Fin 256) :
    stT (F := Ideal) lg cd k v s (ix3 u a l)
      = stp lg cd (fun j a => k (ix2 j a)) (fun j l => v (ix2 j l)) (fun a l => s (ix3 0 a l)) a l := by
  unfold stT k0_pay20 k0_pay16 k0_pay15
  pointwise
  simp only [zetaT_at]
  rfl

/-- The named reciprocal of the head's width. -/
theorem inv_dv : Named.named (F := Ideal) κ "inv_dv" (φ := .f32) 0x3BAAAAAB#32 = ((1 / 192 : ℝ) : EReal) :=
  IdealRules.named_const.ideal_named_scalar _ _ _ _ rfl

theorem out_at (x y : FVec Ideal S128x256 .f32) (g : Vec Ideal S1x256 .f32) (gt : Vec Ideal S128x256 .f32) (i : Fin 128) (l : Fin 256) :
    k0_pay21 (F := Ideal) x y g gt (ix2 i l)
      = gatedPad (fun l => x (ix2 i l) + y (ix2 i l)) (fun l => g (ix2 0 l)) (fun l => gt (ix2 i l)) l := by
  unfold k0_pay21
  pointwise
  simp only [mask, inv_dv]
  have e : ∀ a : Fin 256, (if a.val < 192 then (if a.val < 192 then
        (x (ix2 i a) + y (ix2 i a) - (∑ b, (x (ix2 i b) + y (ix2 i b))) * ((1 / 192 : ℝ) : EReal))
          * (x (ix2 i a) + y (ix2 i a) - (∑ b, (x (ix2 i b) + y (ix2 i b))) * ((1 / 192 : ℝ) : EReal)) else 0) else 0)
      = devPad (fun l => x (ix2 i l) + y (ix2 i l)) a * devPad (fun l => x (ix2 i l) + y (ix2 i l)) a := by
    intro a
    unfold devPad
    split_ifs <;> simp
  simp only [e]
  by_cases h : l.val < 192
  · rw [if_pos h, gatedPad, eps]
    congr 3
    rw [devPad, if_pos h]
  · rw [if_neg h, gatedPad_zero _ _ _ _ (by omega)]

/-- A query lane after the rotation, from the tile of a head's queries. -/
def qv (w : Vec Ideal S256x128 .f32) (x4 : Vec Ideal S256x1 .f32) (x5 x6 : Vec Ideal S1x128 .f32) (r : Fin 256) (l : Fin 128) : EReal :=
  w (ix2 r l) * Ideal.cos (x4 (ix2 r 0) * x5 (ix2 0 l))
    + w (ix2 r ⟨(l.val + 64) % 128, by omega⟩) * (Ideal.sin (x4 (ix2 r 0) * x5 (ix2 0 l)) * x6 (ix2 0 l))

theorem turn (l : Fin 128) : (⟨(l.val + 128 - 64) % 128, Nat.mod_lt _ (by decide)⟩ : Fin 128) = ⟨(l.val + 64) % 128, Nat.mod_lt _ (by decide)⟩ :=
  Fin.ext (by dsimp only; omega)

theorem q_at (w : Vec Ideal S256x128 .f32) (x4 : Vec Ideal S256x1 .f32) (x5 x6 : Vec Ideal S1x128 .f32) (r : Fin 256) (l : Fin 128) :
    k0_pay11 (F := Ideal) (k0_pay4 x4 x5) (k0_pay5 x4 x5 x6) w (ix2 r l) = qv w x4 x5 x6 r l := by
  unfold k0_pay11 k0_pay4 k0_pay5 k0_pay3 qv
  pointwise
  simp only [turn]

theorem k_at (w : Vec Ideal S256x128 .f32) (x4 : Vec Ideal S256x1 .f32) (x5 x6 : Vec Ideal S1x128 .f32) (r : Fin 256) (l : Fin 128) :
    k0_pay12 (F := Ideal) (k0_pay4 x4 x5) (k0_pay5 x4 x5 x6) w (ix2 r l) = qv w x4 x5 x6 r l * Ideal.ofBits .f32 0x3DD105EC#32 := by
  unfold k0_pay12 k0_pay4 k0_pay5 k0_pay3 qv
  pointwise
  simp only [turn]

theorem sl0_at (x : FVec Ideal S256x128 .f32) (i l : Fin 128) : sl0 (F := Ideal) x (ix2 i l) = x (ix2 ⟨i.val, by omega⟩ l) := by
  unfold sl0
  pointwise

theorem sl1_at (x : FVec Ideal S256x128 .f32) (i l : Fin 128) : sl1 (F := Ideal) x (ix2 i l) = x (ix2 ⟨128 + i.val, by omega⟩ l) := by
  unfold sl1
  pointwise

/-! ## A tile's output and state, from the tiles its head reads -/

/-- A head's output on one chunk. -/
def yT (lg : F .f32) (q k : FVec F S128x128 .f32) (v : Vec F S128x256 .f32) (s : Vec F S1x128x256 .f32) (g : Vec F S1x256 .f32)
    (gt : Vec F S128x256 .f32) : FVec F S128x256 .f32 :=
  k0_pay21 (intraT lg q k v) (crossT lg q s) g gt

theorem yT_at (lg : EReal) (q k : FVec Ideal S128x128 .f32) (v : Vec Ideal S128x256 .f32) (s : Vec Ideal S1x128x256 .f32)
    (g : Vec Ideal S1x256 .f32) (gt : Vec Ideal S128x256 .f32) (i : Fin 128) (l : Fin 256) :
    yT (F := Ideal) lg q k v s g gt (ix2 i l)
      = gatedPad (fun l => mix lg (fun i a => q (ix2 i a)) (fun j a => k (ix2 j a)) (fun j l => v (ix2 j l)) (fun a l => s (ix3 0 a l)) i l)
          (fun l => g (ix2 0 l)) (fun l => gt (ix2 i l)) l := by
  unfold yT
  rw [out_at]
  simp only [intraT_at, crossT_at]
  rfl

end Cert.KernelIdeal.Tile
-- ==== Proof.Pieces.lean ====
module

public import proofs.«01_k».proof.Proof.Gen.KernelIdeal.Value
public import proofs.«01_k».proof.Proof.Tile
public import Idealize.ShloMosaic.Lib.Pipeline.ReadBack
public import Idealize.ShloMosaic.Lib.Pipeline.ValueKit

@[expose] public section
set_option maxRecDepth 16384
noncomputable section

/-! What one point of the grid stores: its output block and the four heads' states, as the chunk's mathematics over the blocks
    it reads and the states it finds. -/
namespace Cert.KernelIdeal.Pieces
open Idealize.ShloMosaic Idealize.ShloMosaic.TcCoe Idealize.ShloMosaic.Tactic Cert.KernelIdeal.Gen Cert.Chunk Cert.KernelIdeal.Tile

/-- The four heads' named logarithms of the decay. -/
def lgv : Fin 4 → EReal := ![Named.named (F := Ideal) κ "lg0" (φ := .f32) 0xBD020AEC#32, Named.named (F := Ideal) κ "lg1" (φ := .f32) 0xBC8102B3#32,
  Named.named (F := Ideal) κ "lg2" (φ := .f32) 0xBC0080AC#32, Named.named (F := Ideal) κ "lg3" (φ := .f32) 0xBB80402B#32]

/-- The four heads' named decays over a chunk. -/
def cdv : Fin 4 → EReal := ![Named.named (F := Ideal) κ "cd0" (φ := .f32) 0x3C8CC36A#32, Named.named (F := Ideal) κ "cd1" (φ := .f32) 0x3E08698E#32,
  Named.named (F := Ideal) κ "cd2" (φ := .f32) 0x3EBB9DB9#32, Named.named (F := Ideal) κ "cd3" (φ := .f32) 0x3F1B1EB1#32]

/-- The tile of head `h` in a block of queries or keys. -/
def head (x : Vec Ideal S256x512 .f32) (h : Fin 4) : Vec Ideal S256x128 .f32 := fun j => x (ix2 (j 0) ⟨128 * h.val + (j 1).val, by have h1 : (j 1).val < 128 := (j 1).isLt; omega⟩)

section
variable (x0 x1 : Vec Ideal S256x512 .f32) (x2 x3 : Vec Ideal S256x1024 .f32) (x4 : Vec Ideal S256x1 .f32) (x5 x6 : Vec Ideal S1x128 .f32)
  (x7 : Vec Ideal S1x1024 .f32) (S : Vec Ideal S4x128x256 .f32)

/-- Head `h`'s queries in chunk `cc` of the block. -/
def qL (h : Fin 4) (cc : Fin 2) (i a : Fin 128) : EReal := qv (head x0 h) x4 x5 x6 ⟨128 * cc.val + i.val, by omega⟩ a
/-- Its keys. -/
def kL (h : Fin 4) (cc : Fin 2) (i a : Fin 128) : EReal := qv (head x1 h) x4 x5 x6 ⟨128 * cc.val + i.val, by omega⟩ a * Ideal.ofBits .f32 0x3DD105EC#32
/-- Its values; and, from the gates' block, its gates. -/
def vL (h : Fin 4) (cc : Fin 2) (j : Fin 128) (l : Fin 256) : EReal := x2 (ix2 ⟨128 * cc.val + j.val, by omega⟩ ⟨256 * h.val + l.val, by omega⟩)
/-- Its weights of the norm. -/
def gL (h : Fin 4) (l : Fin 256) : EReal := x7 (ix2 0 ⟨256 * h.val + l.val, by omega⟩)
/-- The state of head `h` before the block, after its first chunk and after its second. -/
def st0 (h : Fin 4) (a : Fin 128) (l : Fin 256) : EReal := S (ix3 h a l)
def st1 (h : Fin 4) : Fin 128 → Fin 256 → EReal := stp (lgv h) (cdv h) (kL x1 x4 x5 x6 h 0) (vL x2 h 0) (st0 S h)
def st2 (h : Fin 4) : Fin 128 → Fin 256 → EReal := stp (lgv h) (cdv h) (kL x1 x4 x5 x6 h 1) (vL x2 h 1) (st1 x1 x2 x4 x5 x6 S h)
/-- The state before chunk `cc` of the block. -/
def stB (h : Fin 4) (cc : Fin 2) : Fin 128 → Fin 256 → EReal := if cc = 0 then st0 S h else st1 x1 x2 x4 x5 x6 S h

/-- The block's output, for head `h`, chunk `cc`, step `i`, lane `l`. -/
def yB (h : Fin 4) (cc : Fin 2) (i : Fin 128) (l : Fin 256) : EReal :=
  gatedPad (fun l => mix (lgv h) (qL x0 x4 x5 x6 h cc) (kL x1 x4 x5 x6 h cc) (vL x2 h cc) (stB x1 x2 x4 x5 x6 S h cc) i l)
    (gL x7 h) (fun l => vL x3 h cc i l) l

/-- The vectors of the tile: queries and keys of a chunk. -/
def qT0 (w : Vec Ideal S256x128 .f32) : FVec Ideal S128x128 .f32 := sl0 (k0_pay11 (k0_pay4 x4 x5) (k0_pay5 x4 x5 x6) w)
def qT1 (w : Vec Ideal S256x128 .f32) : FVec Ideal S128x128 .f32 := sl1 (k0_pay11 (k0_pay4 x4 x5) (k0_pay5 x4 x5 x6) w)
def kT0 (w : Vec Ideal S256x128 .f32) : FVec Ideal S128x128 .f32 := sl0 (k0_pay12 (k0_pay4 x4 x5) (k0_pay5 x4 x5 x6) w)
def kT1 (w : Vec Ideal S256x128 .f32) : FVec Ideal S128x128 .f32 := sl1 (k0_pay12 (k0_pay4 x4 x5) (k0_pay5 x4 x5 x6) w)

theorem qT0_at (h : Fin 4) (w : Vec Ideal S256x128 .f32) (hw : w = head x0 h) (i a : Fin 128) : qT0 x4 x5 x6 w (ix2 i a) = qL x0 x4 x5 x6 h 0 i a := by
  subst hw; rw [qT0, sl0_at, q_at, qL]; congr 1; exact Fin.ext (by simp)
theorem qT1_at (h : Fin 4) (w : Vec Ideal S256x128 .f32) (hw : w = head x0 h) (i a : Fin 128) : qT1 x4 x5 x6 w (ix2 i a) = qL x0 x4 x5 x6 h 1 i a := by
  subst hw; rw [qT1, sl1_at, q_at, qL]; rfl
theorem kT0_at (h : Fin 4) (w : Vec Ideal S256x128 .f32) (hw : w = head x1 h) (i a : Fin 128) : kT0 x4 x5 x6 w (ix2 i a) = kL x1 x4 x5 x6 h 0 i a := by
  subst hw; rw [kT0, sl0_at, k_at, kL]; congr 2; exact Fin.ext (by simp)
theorem kT1_at (h : Fin 4) (w : Vec Ideal S256x128 .f32) (hw : w = head x1 h) (i a : Fin 128) : kT1 x4 x5 x6 w (ix2 i a) = kL x1 x4 x5 x6 h 1 i a := by
  subst hw; rw [kT1, sl1_at, k_at, kL]; rfl

/-- The output vector of a head's chunk over vectors that read as the chunk's parts. -/
theorem yT_eq (h : Fin 4) (cc : Fin 2) (q k : FVec Ideal S128x128 .f32) (v : Vec Ideal S128x256 .f32) (s : Vec Ideal S1x128x256 .f32)
    (g : Vec Ideal S1x256 .f32) (gt : Vec Ideal S128x256 .f32) (i : Fin 128) (l : Fin 256)
    (hq : ∀ i a, q (ix2 i a) = qL x0 x4 x5 x6 h cc i a) (hk : ∀ i a, k (ix2 i a) = kL x1 x4 x5 x6 h cc i a)
    (hv : ∀ i a, v (ix2 i a) = vL x2 h cc i a) (hs : ∀ a l, s (ix3 0 a l) = stB x1 x2 x4 x5 x6 S h cc a l)
    (hg : ∀ l, g (ix2 0 l) = gL x7 h l) (hgt : ∀ i a, gt (ix2 i a) = vL x3 h cc i a) :
    yT (F := Ideal) (lgv h) q k v s g gt (ix2 i l) = yB x0 x1 x2 x3 x4 x5 x6 x7 S h cc i l := by
  rw [yT_at, yB]
  simp only [hq, hk, hv, hs, hg, hgt]

/-- The state after a head's first chunk. -/
theorem stT_eq0 (h : Fin 4) (k : FVec Ideal S128x128 .f32) (v : Vec Ideal S128x256 .f32) (s : Vec Ideal S1x128x256 .f32)
    (u : Fin 1) (a : Fin 128) (l : Fin 256) (hk : ∀ i a, k (ix2 i a) = kL x1 x4 x5 x6 h 0 i a)
    (hv : ∀ i a, v (ix2 i a) = vL x2 h 0 i a) (hs : ∀ a l, s (ix3 0 a l) = st0 S h a l) :
    stT (F := Ideal) (lgv h) (cdv h) k v s (ix3 u a l) = st1 x1 x2 x4 x5 x6 S h a l := by
  rw [stT_at, st1]
  simp only [hk, hv, hs]

/-- The state after its second. -/
theorem stT_eq1 (h : Fin 4) (k : FVec Ideal S128x128 .f32) (v : Vec Ideal S128x256 .f32) (s : Vec Ideal S1x128x256 .f32)
    (u : Fin 1) (a : Fin 128) (l : Fin 256) (hk : ∀ i a, k (ix2 i a) = kL x1 x4 x5 x6 h 1 i a)
    (hv : ∀ i a, v (ix2 i a) = vL x2 h 1 i a) (hs : ∀ a l, s (ix3 0 a l) = st1 x1 x2 x4 x5 x6 S h a l) :
    stT (F := Ideal) (lgv h) (cdv h) k v s (ix3 u a l) = st2 x1 x2 x4 x5 x6 S h a l := by
  rw [stT_at, st2]
  simp only [hk, hv, hs]

/-- An index of the output block as head, chunk, step and lane. -/
def yAt (y : S256x1024.Idx) : EReal :=
  yB x0 x1 x2 x3 x4 x5 x6 x7 S ⟨(y 1).val / 256, by have h : (y 1).val < 1024 := (y 1).isLt; omega⟩
    ⟨(y 0).val / 128, by have h : (y 0).val < 256 := (y 0).isLt; omega⟩ ⟨(y 0).val % 128, by omega⟩ ⟨(y 1).val % 256, by omega⟩

theorem yAt_eq (y : S256x1024.Idx) (h : Fin 4) (cc : Fin 2) (i : Fin 128) (l : Fin 256) (h0 : (y 0).val = 128 * cc.val + i.val)
    (h1 : (y 1).val = 256 * h.val + l.val) : yAt x0 x1 x2 x3 x4 x5 x6 x7 S y = yB x0 x1 x2 x3 x4 x5 x6 x7 S h cc i l := by
  unfold yAt
  congr 1 <;> apply Fin.ext <;> dsimp only <;> omega
end

end Cert.KernelIdeal.Pieces
-- ==== Proof.Stores.lean ====
module

public import proofs.«01_k».proof.Proof.Pieces

@[expose] public section
set_option maxRecDepth 16384
noncomputable section

/-! The stores of a point of the grid, piece by piece: a head's output and state on each of the two chunks, over loads of the
    blocks. -/
namespace Cert.KernelIdeal.Pieces
open Idealize.ShloMosaic Idealize.ShloMosaic.TcCoe Idealize.ShloMosaic.Tactic Cert.KernelIdeal.Gen Cert.Chunk Cert.KernelIdeal.Tile

/-- The four loads: a head's queries or keys, -/
def ldH (x : Vec Ideal S256x512 .f32) (h : Fin 4) (inb : ∀ a : Fin 2, (![0, 128 * h.val] : Fin 2 → ℕ) a + (![256, 128] : Fin 2 → ℕ) a ≤ S256x512.size a) : Vec Ideal S256x128 .f32 :=
  View.ld x (Rect.unit ![0, 128 * h.val] ![256, 128] inb)
/-- a chunk of its values or gates, -/
def ldV (x : Vec Ideal S256x1024 .f32) (h : Fin 4) (cc : Fin 2)
    (inb : ∀ a : Fin 2, (![128 * cc.val, 256 * h.val] : Fin 2 → ℕ) a + (![128, 256] : Fin 2 → ℕ) a ≤ S256x1024.size a) : Vec Ideal S128x256 .f32 :=
  View.ld x (Rect.unit ![128 * cc.val, 256 * h.val] ![128, 256] inb)
/-- its weights of the norm, -/
def ldG (x : Vec Ideal S1x1024 .f32) (h : Fin 4) (inb : ∀ a : Fin 2, (![0, 256 * h.val] : Fin 2 → ℕ) a + (![1, 256] : Fin 2 → ℕ) a ≤ S1x1024.size a) : Vec Ideal S1x256 .f32 :=
  View.ld x (Rect.unit ![0, 256 * h.val] ![1, 256] inb)
/-- and its state. -/
def ldS (S : Vec Ideal S4x128x256 .f32) (h : Fin 4)
    (inb : ∀ a : Fin 3, (![h.val, 0, 0] : Fin 3 → ℕ) a + (![1, 128, 256] : Fin 3 → ℕ) a ≤ S4x128x256.size a) : Vec Ideal S1x128x256 .f32 :=
  View.ld S (Rect.unit ![h.val, 0, 0] ![1, 128, 256] inb)

/-- A load of 128 columns of the queries or keys is that head's tile. -/
theorem ld_head (x : Vec Ideal S256x512 .f32) (h : Fin 4) (inb) : ldH x h inb = head x h := by
  funext j
  refine View.ld_unit_apply_of x _ _ inb j _ fun a => ?_
  match a with
  | ⟨0, _⟩ => exact (Nat.zero_add _).symm
  | ⟨1, _⟩ => rfl

/-- A load of 128 rows and 256 columns of the values or gates is a head's chunk of them. -/
theorem ld_v (x : Vec Ideal S256x1024 .f32) (h : Fin 4) (cc : Fin 2) (inb) (i : Fin 128) (l : Fin 256) :
    ldV x h cc inb (ix2 i l) = vL x h cc i l := by
  refine View.ld_unit_apply_of x _ _ inb (ix2 i l) _ fun a => ?_
  match a with
  | ⟨0, _⟩ => rfl
  | ⟨1, _⟩ => rfl

/-- A load of 256 of the norm's weights is a head's. -/
theorem ld_g (x : Vec Ideal S1x1024 .f32) (h : Fin 4) (inb) (l : Fin 256) :
    ldG x h inb (ix2 0 l) = gL x h l := by
  refine View.ld_unit_apply_of x _ _ inb (ix2 0 l) _ fun a => ?_
  match a with
  | ⟨0, _⟩ => rfl
  | ⟨1, _⟩ => rfl

/-- A load of one of the four states is that head's. -/
theorem ld_s (S : Vec Ideal S4x128x256 .f32) (h : Fin 4) (inb) (a : Fin 128) (l : Fin 256) :
    ldS S h inb (ix3 0 a l) = st0 S h a l := by
  refine View.ld_unit_apply_of S _ _ inb (ix3 0 a l) _ fun a => ?_
  match a with
  | ⟨0, _⟩ => rfl
  | ⟨1, _⟩ => exact (Nat.zero_add _).symm
  | ⟨2, _⟩ => exact (Nat.zero_add _).symm

/-- An index of a chunk of output by its coordinates. -/
theorem ex2 (x : S128x256.Idx) : ∃ (i : Fin 128) (l : Fin 256), x = ix2 i l :=
  ⟨x 0, x 1, funext fun a => match a with | ⟨0, _⟩ => rfl | ⟨1, _⟩ => rfl⟩
/-- An index of a state by its coordinates. -/
theorem ex3 (x : S1x128x256.Idx) : ∃ (u : Fin 1) (a : Fin 128) (l : Fin 256), x = ix3 u a l :=
  ⟨x 0, x 1, x 2, funext fun a => match a with | ⟨0, _⟩ => rfl | ⟨1, _⟩ => rfl | ⟨2, _⟩ => rfl⟩

/-- The rectangle of head `h`'s state. -/
abbrev stR (h : Fin 4) (inb : ∀ a : Fin 3, (![h.val, 0, 0] : Fin 3 → ℕ) a + (![1, 128, 256] : Fin 3 → ℕ) a ≤ S4x128x256.size a) : Rect S4x128x256 :=
  Rect.unit (s := S4x128x256) ![h.val, 0, 0] ![1, 128, 256] inb

theorem stR_emb (h : Fin 4) (inb) (x : S1x128x256.Idx) (y : S4x128x256.Idx) (h0 : (y 0).val = h.val) (h1 : (y 1).val = (x 1).val) (h2 : (y 2).val = (x 2).val) :
    (stR h inb).emb x = y := by
  funext b
  apply Fin.ext
  match b with
  | ⟨0, _⟩ =>
    have hx : (x 0).val < 1 := (x 0).isLt
    show h.val + 1 * (x 0).val = (y 0).val; omega
  | ⟨1, _⟩ => show 0 + 1 * (x 1).val = (y 1).val; omega
  | ⟨2, _⟩ => show 0 + 1 * (x 2).val = (y 2).val; omega

/-- A store of head `h`'s state is what the head's state then reads. -/
theorem canon_hit (h : Fin 4) (inb) (w : S1x128x256.Idx → Elt Ideal .f32) (L : List (View.Piece (Elt Ideal) S4x128x256 .f32)) (a : Fin 128) (l : Fin 256) :
    View.canon ((⟨stR h inb, w⟩ : View.Piece (Elt Ideal) S4x128x256 .f32) :: L) (ix3 h a l) = w (ix3 0 a l) := by
  rw [← stR_emb h inb (ix3 0 a l) (ix3 h a l) rfl rfl rfl]
  exact View.canon_cons_emb (Val := Elt Ideal) (stR h inb) w L _

/-- A store of another head's state leaves it. -/
theorem canon_skip (h h' : Fin 4) (hne : h.val ≠ h'.val) (inb) (w : S1x128x256.Idx → Elt Ideal .f32) (L : List (View.Piece (Elt Ideal) S4x128x256 .f32))
    (a : Fin 128) (l : Fin 256) :
    View.canon ((⟨stR h inb, w⟩ : View.Piece (Elt Ideal) S4x128x256 .f32) :: L) (ix3 h' a l)
      = View.canon L (ix3 h' a l) := by
  refine View.canon_cons_of_not_mem _ _ fun hm => ?_
  have hm' : (ix3 h' a l : S4x128x256.Idx) ∈ (stR h inb).set := hm
  have h0 := (Rect.mem_set_unit (s := S4x128x256)).mp hm' (0 : Fin 3)
  have e1 : h.val ≤ h'.val := h0.1
  have e2 : h'.val < h.val + 1 := h0.2
  omega

section
variable (x0 x1 : Vec Ideal S256x512 .f32) (x2 x3 : Vec Ideal S256x1024 .f32) (x4 : Vec Ideal S256x1 .f32) (x5 x6 : Vec Ideal S1x128 .f32)
  (x7 : Vec Ideal S1x1024 .f32) (S : Vec Ideal S4x128x256 .f32)

/-- The state a head stores after its first chunk. -/
theorem s1_eq (h : Fin 4) (b1 b2 b3) (u : Fin 1) (a : Fin 128) (l : Fin 256) :
    stT (F := Ideal) (lgv h) (cdv h) (kT0 x4 x5 x6 (ldH x1 h b1))
      (ldV x2 h 0 b2) (ldS S h b3) (ix3 u a l)
      = st1 x1 x2 x4 x5 x6 S h a l := by
  exact stT_eq0 x1 x2 x4 x5 x6 S h _ _ _ _ _ _ (kT0_at x1 x4 x5 x6 h _ (ld_head x1 h b1)) (ld_v x2 h 0 b2) (ld_s S h b3)

/-- The state it stores after its second. -/
theorem s2_eq (h : Fin 4) (b1 b2 b3 b4) (u : Fin 1) (a : Fin 128) (l : Fin 256) :
    stT (F := Ideal) (lgv h) (cdv h) (kT1 x4 x5 x6 (ldH x1 h b1))
      (ldV x2 h 1 b4)
      (stT (F := Ideal) (lgv h) (cdv h) (kT0 x4 x5 x6 (ldH x1 h b1))
        (ldV x2 h 0 b2) (ldS S h b3)) (ix3 u a l)
      = st2 x1 x2 x4 x5 x6 S h a l := by
  exact stT_eq1 x1 x2 x4 x5 x6 S h _ _ _ _ _ _ (kT1_at x1 x4 x5 x6 h _ (ld_head x1 h b1)) (ld_v x2 h 1 b4)
    (fun a l => s1_eq x1 x2 x4 x5 x6 S h b1 b2 b3 0 a l)

/-- The output a head stores on its first chunk. -/
theorem y0_eq (h : Fin 4) (b0 b1 b2 b3 b5 b6) (i : Fin 128) (l : Fin 256) :
    yT (F := Ideal) (lgv h) (qT0 x4 x5 x6 (ldH x0 h b0))
      (kT0 x4 x5 x6 (ldH x1 h b1))
      (ldV x2 h 0 b2) (ldS S h b3)
      (ldG x7 h b5) (ldV x3 h 0 b6) (ix2 i l)
      = yB x0 x1 x2 x3 x4 x5 x6 x7 S h 0 i l := by
  exact yT_eq x0 x1 x2 x3 x4 x5 x6 x7 S h 0 _ _ _ _ _ _ _ _ (qT0_at x0 x4 x5 x6 h _ (ld_head x0 h b0)) (kT0_at x1 x4 x5 x6 h _ (ld_head x1 h b1))
    (ld_v x2 h 0 b2) (fun a l => by rw [stB, if_pos rfl]; exact ld_s S h b3 a l) (ld_g x7 h b5) (ld_v x3 h 0 b6)

/-- The output it stores on its second. -/
theorem y1_eq (h : Fin 4) (b0 b1 b2 b3 b4 b5 b6) (i : Fin 128) (l : Fin 256) :
    yT (F := Ideal) (lgv h) (qT1 x4 x5 x6 (ldH x0 h b0))
      (kT1 x4 x5 x6 (ldH x1 h b1))
      (ldV x2 h 1 b4)
      (stT (F := Ideal) (lgv h) (cdv h) (kT0 x4 x5 x6 (ldH x1 h b1))
        (ldV x2 h 0 b2) (ldS S h b3))
      (ldG x7 h b5) (ldV x3 h 1 b6) (ix2 i l)
      = yB x0 x1 x2 x3 x4 x5 x6 x7 S h 1 i l := by
  exact yT_eq x0 x1 x2 x3 x4 x5 x6 x7 S h 1 _ _ _ _ _ _ _ _ (qT1_at x0 x4 x5 x6 h _ (ld_head x0 h b0)) (kT1_at x1 x4 x5 x6 h _ (ld_head x1 h b1))
    (ld_v x2 h 1 b4) (fun a l => by rw [stB, if_neg (by decide)]; exact s1_eq x1 x2 x4 x5 x6 S h b1 b2 b3 0 a l) (ld_g x7 h b5) (ld_v x3 h 1 b6)
end
end Cert.KernelIdeal.Pieces
-- ==== Proof.Layer.lean ====
module

public import proofs.«01_k».proof.Proof.Chunk

@[expose] public section
set_option maxRecDepth 16384
noncomputable section

/-! The retention mixer over a whole sequence: its turned queries and keys, its states chunk after chunk, and what it returns,
    over the projection `A`, the steps' positions `ps` and the norm's weights `g`. -/
namespace Cert.Layer
open Idealize.ShloMosaic Cert.Chunk

/-- The frequency of a pair of key lanes: 10000 to the power `-2p/96`. -/
def freq (p : Fin 48) : EReal :=
  Ideal.pow (Ideal.ofBits .f32 0x461C4000#32) (Ideal.div (-(Ideal.ofBits .f32 0x40000000#32 * (FloatOps.sitofp .f32 (BitVec.ofNat 32 p.val) : Ideal .f32))) (Ideal.ofBits .f32 0x42C00000#32))

/-- The scale of the keys. -/
def scale : EReal := Ideal.ofBits .f32 0x3DD105EC#32

/-- A vector of 96 lanes, its two halves turned against each other by the angles `th`. -/
def turned (f : Fin 96 → EReal) (th : Fin 48 → EReal) (a : Fin 96) : EReal :=
  if h : a.val < 48 then f a * Ideal.cos (th ⟨a.val, h⟩) - f ⟨a.val + 48, by omega⟩ * Ideal.sin (th ⟨a.val, h⟩)
  else f a * Ideal.cos (th ⟨a.val - 48, by omega⟩) + f ⟨a.val - 48, by omega⟩ * Ideal.sin (th ⟨a.val - 48, by omega⟩)

/-- The logarithm of head `h`'s decay `1 - 2^(-5-h)`, and the decay over a chunk. -/
def lg (h : Fin 4) : EReal := ((Real.log (1 - 1 / 2 ^ (5 + h.val)) : ℝ) : EReal)
def cd (h : Fin 4) : EReal := (((1 - 1 / 2 ^ (5 + h.val)) ^ 128 : ℝ) : EReal)

/-- Step `i` of chunk `C`. -/
def time (C : ℕ) (i : Fin 128) : Fin 2048 := ⟨(128 * C + i.val) % 2048, Nat.mod_lt _ (by decide)⟩

section
variable (A : Fin 8 → Fin 2048 → Fin 2560 → EReal) (ps : Fin 8 → Fin 2048 → EReal) (g : Fin 768 → EReal)

/-- The angles of a step. -/
def ang (b : Fin 8) (s : Fin 2048) (p : Fin 48) : EReal := ps b s * freq p
/-- The queries, keys, values and gates of batch row `b`, head `h`, chunk `C`. -/
def Q (b : Fin 8) (h : Fin 4) (C : ℕ) (i : Fin 128) : Fin 96 → EReal :=
  turned (fun a => A b (time C i) ⟨96 * h.val + a.val, by omega⟩) (ang ps b (time C i))
def K (b : Fin 8) (h : Fin 4) (C : ℕ) (i : Fin 128) (a : Fin 96) : EReal :=
  turned (fun a => A b (time C i) ⟨384 + (96 * h.val + a.val), by omega⟩) (ang ps b (time C i)) a * scale
def V (b : Fin 8) (h : Fin 4) (C : ℕ) (i : Fin 128) (l : Fin 192) : EReal := A b (time C i) ⟨768 + (192 * h.val + l.val), by omega⟩
def G (b : Fin 8) (h : Fin 4) (C : ℕ) (i : Fin 128) (l : Fin 192) : EReal := A b (time C i) ⟨1536 + (192 * h.val + l.val), by omega⟩
/-- The norm's weights of head `h`. -/
def W (h : Fin 4) (l : Fin 192) : EReal := g ⟨192 * h.val + l.val, by omega⟩

/-- The state before chunk `C`. -/
def St (b : Fin 8) (h : Fin 4) : ℕ → Fin 96 → Fin 192 → EReal
  | 0 => fun _ _ => 0
  | C + 1 => stp (lg h) (cd h) (K A ps b h C) (V A b h C) (St b h C)

/-- What head `h` reads at step `i` of chunk `C`. -/
def read (b : Fin 8) (h : Fin 4) (C : ℕ) (i : Fin 128) : Fin 192 → EReal :=
  mix (lg h) (Q A ps b h C) (K A ps b h C) (V A b h C) (St A ps b h C) i

/-- What the mixer returns there: the head's norm under its gate. -/
def Y (b : Fin 8) (h : Fin 4) (C : ℕ) (i : Fin 128) : Fin 192 → EReal :=
  gated (read A ps b h C i) (W g h) (G A b h C i)
end

/-- The returned array, each head in 256 lanes of which the last 64 are zero. -/
def out (A : Fin 8 → Fin 2048 → Fin 2560 → EReal) (ps : Fin 8 → Fin 2048 → EReal) (g : Fin 768 → EReal) (r : Fin 16384) (l : Fin 1024) : EReal :=
  if hl : l.val % 256 < 192 then
    Y A ps g ⟨r.val / 2048, by omega⟩ ⟨l.val / 256, by omega⟩ (r.val % 2048 / 128) ⟨r.val % 128, by omega⟩ ⟨l.val % 256, hl⟩
  else 0

end Cert.Layer
-- ==== Proof.Entry.lean ====
module

public import proofs.«01_k».proof.Proof.Stores
public import proofs.«01_k».proof.Proof.Layer
public import Idealize.ShloMosaic.Lib.StableHlo.ReadAt
public import Idealize.ShloMosaic.Lib.Pipeline.ValueKit.Point

@[expose] public section
set_option maxRecDepth 16384
noncomputable section

/-! What the blocks of a point hold: the arrays the host makes of the arguments, at an index, and the blocks' places in them. -/
namespace Cert.KernelIdeal.Entry
open Idealize.ShloMosaic Idealize.ShloMosaic.TcCoe Idealize.ShloMosaic.Tactic Cert.KernelIdeal.Gen Cert.Chunk Cert.Layer

variable (m : (ℓ : Loc nD τ sig) → Buf (Elt Ideal) ℓ) (c : Dev nD)

/-- The arguments as functions of their indices. -/
def arg0 (b : Fin 8) (s : Fin 2048) (l : Fin 2560) : EReal := (m (c, Proc.tc.devRef main_arg0) : Vec Ideal S8x2048x2560 .f32) (ix3 b s l)
def arg1 (b : Fin 8) (s : Fin 2048) : EReal := (FloatOps.sitofp .f32 ((m (c, Proc.tc.devRef main_arg1) : Vec Ideal S8x2048 .i32) (ix2 b s)) : Ideal .f32)
def arg2 (l : Fin 768) : EReal := (m (c, Proc.tc.devRef main_arg2) : Vec Ideal S768 .f32) (ix1 l)

theorem zero_word : (FloatOps.sitofp .f32 0#32 : Ideal .f32) = (0 : EReal) := by
  show (((0#32 : BitVec 32).toInt : ℝ) : EReal) = 0
  simp

/-- The projection's columns as the host lays them out. -/
def col (r : Fin 16384) (l : Fin 3328) : EReal := (Gen.V m c main_v30 : Vec Ideal S16384x3328 .f32) (ix2 r l)

/-- The first 1024 columns: 16 half heads of 48 columns, each in a slot of 64. -/
theorem qk_at (r : Fin 16384) (l : Fin 3328) (hl : l.val < 1024) (h : l.val % 64 < 48) : col m c r l
    = arg0 m c ⟨r.val / 2048, by omega⟩ ⟨r.val % 2048, by omega⟩ ⟨l.val / 64 * 48 + l.val % 64, by omega⟩ := by
  unfold col Gen.V
  after_reads_at
  rw [dif_pos hl]
  after_reads_at
  have hh : l.val / 64 < 16 ∧ l.val % 64 < 48 := ⟨by omega, h⟩
  exact dif_pos hh

/-- The rest of a slot is zero. -/
theorem qk_zero (r : Fin 16384) (l : Fin 3328) (hl : l.val < 1024) (h : 48 ≤ l.val % 64) : col m c r l = 0 := by
  unfold col Gen.V
  after_reads_at
  rw [dif_pos hl]
  after_reads_at
  have hh : ¬ (l.val / 64 < 16 ∧ l.val % 64 < 48) := by omega
  exact (dif_neg hh).trans zero_word

/-- The next 2048 columns: 8 heads of 192 columns, each in a slot of 256. -/
theorem vg_at (r : Fin 16384) (l : Fin 3328) (h0 : 1024 ≤ l.val) (hp : l.val < 3072) (h : (l.val - 1024) % 256 < 192) : col m c r l
    = arg0 m c ⟨r.val / 2048, by omega⟩ ⟨r.val % 2048, by omega⟩ ⟨768 + ((l.val - 1024) / 256 * 192 + (l.val - 1024) % 256), by omega⟩ := by
  unfold col Gen.V
  after_reads_at
  rw [dif_neg (by omega), dif_pos (by omega)]
  after_reads_at
  have hh : (l.val - 1024) / 256 < 8 ∧ (l.val - 1024) % 256 < 192 := ⟨by omega, h⟩
  exact dif_pos hh

/-- The rest of a slot is zero. -/
theorem vg_zero (r : Fin 16384) (l : Fin 3328) (h0 : 1024 ≤ l.val) (hp : l.val < 3072) (h : 192 ≤ (l.val - 1024) % 256) : col m c r l = 0 := by
  unfold col Gen.V
  after_reads_at
  rw [dif_neg (by omega), dif_pos (by omega)]
  after_reads_at
  have hh : ¬ ((l.val - 1024) / 256 < 8 ∧ (l.val - 1024) % 256 < 192) := by omega
  exact (dif_neg hh).trans zero_word

/-- The positions, one a row. -/
theorem ps_at (r : Fin 16384) : (Gen.V m c main_v19 : Vec Ideal S16384x1 .f32) (ix2 r 0) = arg1 m c ⟨r.val / 2048, by omega⟩ ⟨r.val % 2048, by omega⟩ := by
  unfold Gen.V
  after_reads_at
  rfl

/-- The frequencies, in both slots of 64. -/
theorem fr_at (l : Fin 128) (hl : l.val % 64 < 48) : (Gen.V m c main_v12 : Vec Ideal S1x128 .f32) (ix2 0 l) = freq ⟨l.val % 64, hl⟩ := by
  unfold Gen.V
  after_reads_at
  by_cases h : l.val < 48
  · rw [dif_pos h]
    after_reads_at
    obtain e : l.val % 64 = l.val := by omega
    simp only [e]; rfl
  · rw [dif_neg h, dif_neg (by omega), dif_pos (by omega)]
    after_reads_at
    obtain e : l.val % 64 = l.val - 48 - 16 := by omega
    simp only [e]; rfl

/-- The sign of the turn: minus in the first slot, plus in the second. -/
theorem sg_at0 (l : Fin 128) (hl : l.val < 48) : (Gen.V m c main_v17 : Vec Ideal S1x128 .f32) (ix2 0 l) = (-1 : EReal) := by
  unfold Gen.V
  after_reads_at
  rw [dif_pos hl]
  after_reads_at
theorem sg_at1 (l : Fin 128) (h1 : 64 ≤ l.val) (hl : l.val < 112) : (Gen.V m c main_v17 : Vec Ideal S1x128 .f32) (ix2 0 l) = (1 : EReal) := by
  unfold Gen.V
  after_reads_at
  rw [dif_neg (by omega), dif_neg (by omega), dif_pos (by omega)]
  after_reads_at

/-- The norm's weights: 4 heads of 192, each in a slot of 256. -/
theorem w_at (q : Fin 1024) (hq : q.val % 256 < 192) :
    (Gen.V m c main_v33 : Vec Ideal S1x1024 .f32) (ix2 0 q) = arg2 m c ⟨q.val / 256 * 192 + q.val % 256, by omega⟩ := by
  unfold Gen.V
  after_reads_at
  have hh : q.val / 256 < 4 ∧ q.val % 256 < 192 := ⟨by omega, by omega⟩
  exact dif_pos hh

/-- The blocks' indices at each point. -/
theorem idx : ∀ t : Fin cfg0.N, win0_0.index t (0 : Fin 2) = t.val ∧ win0_0.index t (1 : Fin 2) = 0
    ∧ win0_1.index t (0 : Fin 2) = t.val ∧ win0_1.index t (1 : Fin 2) = 1
    ∧ win0_2.index t (0 : Fin 2) = t.val ∧ win0_2.index t (1 : Fin 2) = 1
    ∧ win0_3.index t (0 : Fin 2) = t.val ∧ win0_3.index t (1 : Fin 2) = 2
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 := by decide +kernel
theorem row_lt (t : Fin cfg0.N) (r : Fin 256) : 256 * t.val + r.val < 16384 := by
  have : t.val < 64 := lt_of_lt_of_eq t.isLt N_0
  omega
/-- Row `r` of point `t`'s blocks, as a row of the arrays. -/
def row (t : Fin cfg0.N) (r : Fin 256) : Fin 16384 := ⟨256 * t.val + r.val, row_lt t r⟩

variable (t : Fin cfg0.N)
/-- The block of window 0 at point `t`, in its array. -/
theorem blk0 (r : Fin 256) (l : Fin 512) : (X0_0 m c t : Vec Ideal S256x512 .f32) (ix2 r l)
    = (Gen.V m c main_v30 : Vec Ideal S16384x3328 .f32) (ix2 (row t r) (⟨l.val, by omega⟩)) := by
  have hi := idx t
  unfold X0_0 Pipeline.Window.fill
  rw [dif_pos (moved0_0 t _)]
  blk_point [iblk, row, hi]

/-- The block of window 1 at point `t`, in its array. -/
theorem blk1 (r : Fin 256) (l : Fin 512) : (X0_1 m c t : Vec Ideal S256x512 .f32) (ix2 r l)
    = (Gen.V m c main_v30 : Vec Ideal S16384x3328 .f32) (ix2 (row t r) (⟨512 + l.val, by omega⟩)) := by
  have hi := idx t
  unfold X0_1 Pipeline.Window.fill
  rw [dif_pos (moved0_1 t _)]
  blk_point [iblk, row, hi]

/-- The block of window 2 at point `t`, in its array. -/
theorem blk2 (r : Fin 256) (l : Fin 1024) : (X0_2 m c t : Vec Ideal S256x1024 .f32) (ix2 r l)
    = (Gen.V m c main_v30 : Vec Ideal S16384x3328 .f32) (ix2 (row t r) (⟨1024 + l.val, by omega⟩)) := by
  have hi := idx t
  unfold X0_2 Pipeline.Window.fill
  rw [dif_pos (moved0_2 t _)]
  blk_point [iblk, row, hi]

/-- The block of window 3 at point `t`, in its array. -/
theorem blk3 (r : Fin 256) (l : Fin 1024) : (X0_3 m c t : Vec Ideal S256x1024 .f32) (ix2 r l)
    = (Gen.V m c main_v30 : Vec Ideal S16384x3328 .f32) (ix2 (row t r) (⟨2048 + l.val, by omega⟩)) := by
  have hi := idx t
  unfold X0_3 Pipeline.Window.fill
  rw [dif_pos (moved0_3 t _)]
  blk_point [iblk, row, hi]

/-- The block of window 4 at point `t`, in its array. -/
theorem blk4 (r : Fin 256) : (iblk m c 4 t : Vec Ideal S256x1 .f32) (ix2 r 0)
    = (Gen.V m c main_v19 : Vec Ideal S16384x1 .f32) (ix2 (row t r) (0)) := by
  have hi := idx t
  blk_point [iblk, row, hi]

/-- The block of window 5 at point `t`, in its array. -/
theorem blk5 (l : Fin 128) : (iblk m c 5 t : Vec Ideal S1x128 .f32) (ix2 0 l)
    = (Gen.V m c main_v12 : Vec Ideal S1x128 .f32) (ix2 (0) (l)) := by
  have hi := idx t
  blk_point [iblk, row, hi]

/-- The block of window 6 at point `t`, in its array. -/
theorem blk6 (l : Fin 128) : (iblk m c 6 t : Vec Ideal S1x128 .f32) (ix2 0 l)
    = (Gen.V m c main_v17 : Vec Ideal S1x128 .f32) (ix2 (0) (l)) := by
  have hi := idx t
  blk_point [iblk, row, hi]

/-- The block of window 7 at point `t`, in its array. -/
theorem blk7 (l : Fin 1024) : (iblk m c 7 t : Vec Ideal S1x1024 .f32) (ix2 0 l)
    = (Gen.V m c main_v33 : Vec Ideal S1x1024 .f32) (ix2 (0) (l)) := by
  have hi := idx t
  blk_point [iblk, row, hi]

end Cert.KernelIdeal.Entry
-- ==== Proof.Blocks.lean ====
module

public import proofs.«01_k».proof.Proof.Entry

@[expose] public section
set_option maxRecDepth 16384
noncomputable section

/-! The parts of a point's two chunks, read off its blocks, are the sequence's: queries, keys, values, gates and weights. -/
namespace Cert.KernelIdeal.Blocks
open Idealize.ShloMosaic Idealize.ShloMosaic.TcCoe Cert.KernelIdeal.Gen Cert.Chunk Cert.Layer Cert.KernelIdeal.Entry Cert.KernelIdeal.Tile Cert.KernelIdeal.Pieces

variable (m : (ℓ : Loc nD τ sig) → Buf (Elt Ideal) ℓ) (c : Dev nD) (t : Fin cfg0.N)

theorem t_lt : t.val < 64 := lt_of_lt_of_eq t.isLt N_0

/-- The batch row of point `t`, and the chunk `cc` of its block. -/
def bat : Fin 8 := ⟨t.val / 8, by have := t_lt t; omega⟩
def chk (cc : Fin 2) : ℕ := 2 * (t.val % 8) + cc.val

/-- Row `r` of the block in the arguments. -/
theorem arg0_row (cc : Fin 2) (i : Fin 128) (r : Fin 256) (hr : r.val = 128 * cc.val + i.val) (l l' : Fin 2560) (h : l.val = l'.val) :
    arg0 m c ⟨(row t r).val / 2048, by omega⟩ ⟨(row t r).val % 2048, by omega⟩ l = arg0 m c (bat t) (time (chk t cc) i) l' := by
  have e0 : (⟨(row t r).val / 2048, by omega⟩ : Fin 8) = bat t := Fin.ext (by simp only [row, bat]; omega)
  have e1 : (⟨(row t r).val % 2048, by omega⟩ : Fin 2048) = time (chk t cc) i := Fin.ext (by simp only [row, time, chk]; omega)
  rw [e0, e1, Fin.ext h]

theorem arg1_row (cc : Fin 2) (i : Fin 128) (r : Fin 256) (hr : r.val = 128 * cc.val + i.val) :
    arg1 m c ⟨(row t r).val / 2048, by omega⟩ ⟨(row t r).val % 2048, by omega⟩ = arg1 m c (bat t) (time (chk t cc) i) := by
  have e0 : (⟨(row t r).val / 2048, by omega⟩ : Fin 8) = bat t := Fin.ext (by simp only [row, bat]; omega)
  have e1 : (⟨(row t r).val % 2048, by omega⟩ : Fin 2048) = time (chk t cc) i := Fin.ext (by simp only [row, time, chk]; omega)
  rw [e0, e1]

/-- What the blocks of positions, frequencies and signs hold at a point. -/
def Turns (x4 : Vec Ideal S256x1 .f32) (x5 x6 : Vec Ideal S1x128 .f32) : Prop :=
  (∀ r : Fin 256, x4 (ix2 r 0) = arg1 m c ⟨(row t r).val / 2048, by omega⟩ ⟨(row t r).val % 2048, by omega⟩)
    ∧ (∀ (l : Fin 128) (hl : l.val % 64 < 48), x5 (ix2 0 l) = freq ⟨l.val % 64, hl⟩)
    ∧ (∀ l : Fin 128, l.val < 48 → x6 (ix2 0 l) = (-1 : EReal)) ∧ (∀ l : Fin 128, 64 ≤ l.val → l.val < 112 → x6 (ix2 0 l) = (1 : EReal))

theorem turns : Turns m c t (iblk m c 4 t) (iblk m c 5 t) (iblk m c 6 t) :=
  ⟨fun r => (blk4 m c t r).trans (ps_at m c _), fun l hl => (blk5 m c t l).trans (fr_at m c l hl),
    fun l hl => (blk6 m c t l).trans (sg_at0 m c l hl), fun l h1 hl => (blk6 m c t l).trans (sg_at1 m c l h1 hl)⟩

/-- The angle of a key lane. -/
theorem angle_at (x4 : Vec Ideal S256x1 .f32) (x5 x6 : Vec Ideal S1x128 .f32) (hT : Turns m c t x4 x5 x6) (cc : Fin 2) (i : Fin 128) (l : Fin 128)
    (hl : l.val % 64 < 48) (p : Fin 48) (hp : p.val = l.val % 64) :
    x4 (ix2 ⟨128 * cc.val + i.val, by omega⟩ 0) * x5 (ix2 0 l) = ang (arg1 m c) (bat t) (time (chk t cc) i) p := by
  rw [hT.1, hT.2.1 l hl, arg1_row m c t cc i _ rfl, ang]
  congr 2; exact Fin.ext hp.symm

/-- A head's lanes in a block that holds the columns from `o` on. -/
theorem head_at (x : Vec Ideal S256x512 .f32) (o : ℕ) (ho : o = 0 ∨ o = 512)
    (hx : ∀ (r : Fin 256) (l : Fin 512), x (ix2 r l) = col m c (row t r) ⟨o + l.val, by omega⟩) (h : Fin 4) (cc : Fin 2) (i : Fin 128) (l : Fin 128)
    (hl : l.val % 64 < 48) (l' : Fin 2560) (hl' : l'.val = (o + (128 * h.val + l.val)) / 64 * 48 + l.val % 64) :
    head x h (ix2 ⟨128 * cc.val + i.val, by omega⟩ l) = arg0 m c (bat t) (time (chk t cc) i) l' := by
  refine (hx _ _).trans ?_
  rw [qk_at m c _ _ (by show o + (128 * h.val + l.val) < 1024; omega) (by show (o + (128 * h.val + l.val)) % 64 < 48; omega)]
  exact arg0_row m c t cc i _ rfl _ _ (by show (o + (128 * h.val + l.val)) / 64 * 48 + (o + (128 * h.val + l.val)) % 64 = _; omega)

theorem head_zero (x : Vec Ideal S256x512 .f32) (o : ℕ) (ho : o = 0 ∨ o = 512)
    (hx : ∀ (r : Fin 256) (l : Fin 512), x (ix2 r l) = col m c (row t r) ⟨o + l.val, by omega⟩) (h : Fin 4) (r : Fin 256) (l : Fin 128)
    (hl : 48 ≤ l.val % 64) : head x h (ix2 r l) = 0 := by
  refine (hx _ _).trans ?_
  exact qk_zero m c _ _ (by show o + (128 * h.val + l.val) < 1024; omega) (by show 48 ≤ (o + (128 * h.val + l.val)) % 64; omega)

/-- A turned head on a key lane. -/
theorem qv_key (x : Vec Ideal S256x512 .f32) (o : ℕ) (ho : o = 0 ∨ o = 512)
    (hx : ∀ (r : Fin 256) (l : Fin 512), x (ix2 r l) = col m c (row t r) ⟨o + l.val, by omega⟩) (h : Fin 4) (cc : Fin 2) (i : Fin 128) (a : Fin 96)
    (x4 : Vec Ideal S256x1 .f32) (x5 x6 : Vec Ideal S1x128 .f32) (hT : Turns m c t x4 x5 x6) :
    qv (head x h) x4 x5 x6 ⟨128 * cc.val + i.val, by omega⟩ (keyLane a)
      = turned (fun a => arg0 m c (bat t) (time (chk t cc) i) ⟨o / 512 * 384 + (96 * h.val + a.val), by omega⟩) (ang (arg1 m c) (bat t) (time (chk t cc) i)) a := by
  have hv := keyLane_val a
  unfold qv turned
  by_cases ha : a.val < 48
  · rw [if_pos ha] at hv
    rw [dif_pos ha, angle_at m c t x4 x5 x6 hT cc i _ (by omega) ⟨a.val, ha⟩ (by dsimp only; omega), hT.2.2.1 _ (by omega),
      head_at m c t x o ho hx h cc i _ (by omega) ⟨o / 512 * 384 + (96 * h.val + a.val), by omega⟩ (by dsimp only; omega),
      head_at m c t x o ho hx h cc i _ (by dsimp only; omega) ⟨o / 512 * 384 + (96 * h.val + (a.val + 48)), by omega⟩ (by dsimp only; omega),
      mul_neg, mul_one, mul_neg, ← sub_eq_add_neg]
  · rw [if_neg ha] at hv
    rw [dif_neg ha, angle_at m c t x4 x5 x6 hT cc i _ (by omega) ⟨a.val - 48, by omega⟩ (by dsimp only; omega), hT.2.2.2 _ (by omega) (by omega),
      head_at m c t x o ho hx h cc i _ (by omega) ⟨o / 512 * 384 + (96 * h.val + a.val), by omega⟩ (by dsimp only; omega),
      head_at m c t x o ho hx h cc i _ (by dsimp only; omega) ⟨o / 512 * 384 + (96 * h.val + (a.val - 48)), by omega⟩ (by dsimp only; omega),
      mul_one]

/-- Off the key lanes it is zero. -/
theorem qv_zero (x : Vec Ideal S256x512 .f32) (o : ℕ) (ho : o = 0 ∨ o = 512)
    (hx : ∀ (r : Fin 256) (l : Fin 512), x (ix2 r l) = col m c (row t r) ⟨o + l.val, by omega⟩) (h : Fin 4) (r : Fin 256) (l : Fin 128) (hl : 48 ≤ l.val % 64)
    (x4 : Vec Ideal S256x1 .f32) (x5 x6 : Vec Ideal S1x128 .f32) : qv (head x h) x4 x5 x6 r l = 0 := by
  unfold qv
  rw [head_zero m c t x o ho hx h r l hl, head_zero m c t x o ho hx h r _ (by dsimp only; omega), zero_mul, zero_mul, add_zero]

theorem x0_at (r : Fin 256) (l : Fin 512) : (X0_0 m c t : Vec Ideal S256x512 .f32) (ix2 r l) = col m c (row t r) ⟨0 + l.val, by omega⟩ := by
  rw [blk0 m c t, col]; congr 2; exact Fin.ext (by simp)
theorem x1_at (r : Fin 256) (l : Fin 512) : (X0_1 m c t : Vec Ideal S256x512 .f32) (ix2 r l) = col m c (row t r) ⟨512 + l.val, by omega⟩ := blk1 m c t r l

/-- The queries. -/
theorem q_key (h : Fin 4) (cc : Fin 2) (i : Fin 128) (a : Fin 96) :
    qL (X0_0 m c t) (iblk m c 4 t) (iblk m c 5 t) (iblk m c 6 t) h cc i (keyLane a) = Q (arg0 m c) (arg1 m c) (bat t) h (chk t cc) i a := by
  rw [qL, qv_key m c t _ 0 (Or.inl rfl) (x0_at m c t) _ _ _ _ _ _ _ (turns m c t), Q]
  congr 1; funext a; congr 1; exact Fin.ext (by simp)
theorem q_off (h : Fin 4) (cc : Fin 2) (i : Fin 128) (l : Fin 128) (hl : 48 ≤ l.val % 64) :
    qL (X0_0 m c t) (iblk m c 4 t) (iblk m c 5 t) (iblk m c 6 t) h cc i l = 0 := by
  rw [qL, qv_zero m c t _ 0 (Or.inl rfl) (x0_at m c t) _ _ _ hl]
/-- The keys. -/
theorem k_key (h : Fin 4) (cc : Fin 2) (i : Fin 128) (a : Fin 96) :
    kL (X0_1 m c t) (iblk m c 4 t) (iblk m c 5 t) (iblk m c 6 t) h cc i (keyLane a) = K (arg0 m c) (arg1 m c) (bat t) h (chk t cc) i a := by
  rw [kL, qv_key m c t _ 512 (Or.inr rfl) (x1_at m c t) _ _ _ _ _ _ _ (turns m c t), K, scale]

/-- The values and the gates: on a value lane. -/
theorem lane_at (x : Vec Ideal S256x1024 .f32) (o : ℕ) (ho : o = 1024 ∨ o = 2048)
    (hx : ∀ (r : Fin 256) (l : Fin 1024), x (ix2 r l) = col m c (row t r) ⟨o + l.val, by omega⟩) (h : Fin 4) (cc : Fin 2) (j : Fin 128) (l : Fin 192)
    (l' : Fin 2560) (hl' : l'.val = (o / 1024) * 768 + (192 * h.val + l.val)) :
    vL x h cc j (valLane l) = arg0 m c (bat t) (time (chk t cc) j) l' := by
  rw [vL, hx, vg_at m c _ _ (by dsimp only; omega) (by show o + (256 * h.val + l.val) < 3072; omega) (by show (o + (256 * h.val + l.val) - 1024) % 256 < 192; omega)]
  exact arg0_row m c t cc j _ rfl _ _ (by show 768 + ((o + (256 * h.val + l.val) - 1024) / 256 * 192 + (o + (256 * h.val + l.val) - 1024) % 256) = _; omega)

theorem v_val (h : Fin 4) (cc : Fin 2) (j : Fin 128) (l : Fin 192) :
    vL (X0_2 m c t) h cc j (valLane l) = Layer.V (arg0 m c) (bat t) h (chk t cc) j l :=
  lane_at m c t _ 1024 (Or.inl rfl) (blk2 m c t) h cc j l _ rfl
theorem g_val (h : Fin 4) (cc : Fin 2) (j : Fin 128) (l : Fin 192) :
    vL (X0_3 m c t) h cc j (valLane l) = Layer.G (arg0 m c) (bat t) h (chk t cc) j l :=
  lane_at m c t _ 2048 (Or.inr rfl) (blk3 m c t) h cc j l _ rfl
theorem v_off (h : Fin 4) (cc : Fin 2) (j : Fin 128) (l : Fin 256) (hl : 192 ≤ l.val) : vL (X0_2 m c t) h cc j l = 0 := by
  rw [vL, blk2 m c t]
  exact vg_zero m c _ _ (by dsimp only; omega) (by dsimp only; omega) (by dsimp only; omega)

/-- The norm's weights. -/
theorem w_val (h : Fin 4) (l : Fin 192) : gL (iblk m c 7 t) h (valLane l) = Layer.W (arg2 m c) h l := by
  have hl : (valLane l).val = l.val := rfl
  rw [gL, blk7 m c t, w_at m c _ (by dsimp only; omega), Layer.W]
  congr 1; exact Fin.ext (by dsimp only; omega)

end Cert.KernelIdeal.Blocks
-- ==== Proof.Decay.lean ====
module

public import proofs.«01_k».proof.Proof.Pieces
public import proofs.«01_k».proof.Proof.Layer

@[expose] public section
set_option maxRecDepth 16384
noncomputable section

/-! The named constants of the kernel are the layer's decays. -/
namespace Cert.KernelIdeal.Decay
open Idealize.ShloMosaic Cert.KernelIdeal.Pieces Cert.Layer

/-- The logarithm of each head's decay. -/
theorem lg_eq (h : Fin 4) : lgv h = lg h := by
  fin_cases h <;>
  · refine (IdealRules.named_const.ideal_named_scalar _ _ _ _ rfl).trans ?_
    unfold lg; norm_num

/-- Each head's decay over a chunk. -/
theorem cd_eq (h : Fin 4) : cdv h = cd h := by
  fin_cases h <;>
  · refine (IdealRules.named_const.ideal_named_scalar _ _ _ _ rfl).trans ?_
    unfold cd; norm_num

end Cert.KernelIdeal.Decay
-- ==== Proof.OutA.lean ====
module

public import proofs.«01_k».proof.Proof.Stores

@[expose] public section
set_option maxRecDepth 16384
noncomputable section

/-! What a point stores into the output that begins a sequence. -/
namespace Cert.KernelIdeal.Pieces
open Idealize.ShloMosaic Idealize.ShloMosaic.TcCoe Idealize.ShloMosaic.Tactic Cert.KernelIdeal.Gen Cert.Chunk Cert.KernelIdeal.Tile

/-- The block a point stores that begins a sequence: the output over states of zeros. -/
theorem out_A (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S4x128x256 .f32) (harg11 : arg11.IsWhole) (hc0 : cond0_0 i)
    (x0 : Vec Ideal S256x512 .f32) (x1 : Vec Ideal S256x512 .f32) (x2 : Vec Ideal S256x1024 .f32) (x3 : Vec Ideal S256x1024 .f32) (x4 : Vec Ideal S256x1 .f32) (x5 : Vec Ideal S1x128 .f32) (x6 : Vec Ideal S1x128 .f32) (x7 : Vec Ideal S1x1024 .f32) (y : S256x1024.Idx) :
    out0_A_8 c i arg2 harg2 arg3 harg3 arg4 harg4 arg5 harg5 arg6 harg6 arg7 harg7 arg8 harg8 arg9 harg9 arg10 harg10 arg11 harg11 hc0 x0 x1 x2 x3 x4 x5 x6 x7 y = yAt x0 x1 x2 x3 x4 x5 x6 x7 (k0_pay2 (F := Ideal)) y := by
  frame_open
  simp (disch := decide) only [↓ View.readCov_skip, ↓ View.readCov_cons_toLoadRect, ↓ View.readCov_fill]
  frame_out
  canon_tiles x h
  · obtain ⟨i', l', rfl⟩ := ex2 x
    refine (congrFun (show _ = yT (F := Ideal) (lgv 3) (qT1 x4 x5 x6 (ldH x0 3 inb_S256x512_S256x128_0_384)) (kT1 x4 x5 x6 (ldH x1 3 inb_S256x512_S256x128_0_384))
      (ldV x2 3 1 inb_S256x1024_S128x256_128_768) (stT (F := Ideal) (lgv 3) (cdv 3) (kT0 x4 x5 x6 (ldH x1 3 inb_S256x512_S256x128_0_384)) (ldV x2 3 0 inb_S256x1024_S128x256_0_768) (ldS (k0_pay2 (F := Ideal)) 3 inb_S4x128x256_S1x128x256_3_0_0)) (ldG x7 3 inb_S1x1024_S1x256_0_768) (ldV x3 3 1 inb_S256x1024_S128x256_128_768) from rfl) (ix2 i' l')).trans ?_
    rw [yAt_eq _ _ _ _ _ _ _ _ _ y 3 1 i' l' (by exact h0) (by exact h1)]
    exact y1_eq x0 x1 x2 x3 x4 x5 x6 x7 (k0_pay2 (F := Ideal)) 3 _ _ _ _ _ _ _ i' l'
  · obtain ⟨i', l', rfl⟩ := ex2 x
    refine (congrFun (show _ = yT (F := Ideal) (lgv 3) (qT0 x4 x5 x6 (ldH x0 3 inb_S256x512_S256x128_0_384)) (kT0 x4 x5 x6 (ldH x1 3 inb_S256x512_S256x128_0_384))
      (ldV x2 3 0 inb_S256x1024_S128x256_0_768) (ldS (k0_pay2 (F := Ideal)) 3 inb_S4x128x256_S1x128x256_3_0_0) (ldG x7 3 inb_S1x1024_S1x256_0_768) (ldV x3 3 0 inb_S256x1024_S128x256_0_768) from rfl) (ix2 i' l')).trans ?_
    rw [yAt_eq _ _ _ _ _ _ _ _ _ y 3 0 i' l' (by exact h0.trans (Nat.zero_add _).symm) (by exact h1)]
    exact y0_eq x0 x1 x2 x3 x4 x5 x6 x7 (k0_pay2 (F := Ideal)) 3 _ _ _ _ _ _ i' l'
  · obtain ⟨i', l', rfl⟩ := ex2 x
    refine (congrFun (show _ = yT (F := Ideal) (lgv 2) (qT1 x4 x5 x6 (ldH x0 2 inb_S256x512_S256x128_0_256)) (kT1 x4 x5 x6 (ldH x1 2 inb_S256x512_S256x128_0_256))
      (ldV x2 2 1 inb_S256x1024_S128x256_128_512) (stT (F := Ideal) (lgv 2) (cdv 2) (kT0 x4 x5 x6 (ldH x1 2 inb_S256x512_S256x128_0_256)) (ldV x2 2 0 inb_S256x1024_S128x256_0_512) (ldS (k0_pay2 (F := Ideal)) 2 inb_S4x128x256_S1x128x256_2_0_0)) (ldG x7 2 inb_S1x1024_S1x256_0_512) (ldV x3 2 1 inb_S256x1024_S128x256_128_512) from rfl) (ix2 i' l')).trans ?_
    rw [yAt_eq _ _ _ _ _ _ _ _ _ y 2 1 i' l' (by exact h0) (by exact h1)]
    exact y1_eq x0 x1 x2 x3 x4 x5 x6 x7 (k0_pay2 (F := Ideal)) 2 _ _ _ _ _ _ _ i' l'
  · obtain ⟨i', l', rfl⟩ := ex2 x
    refine (congrFun (show _ = yT (F := Ideal) (lgv 2) (qT0 x4 x5 x6 (ldH x0 2 inb_S256x512_S256x128_0_256)) (kT0 x4 x5 x6 (ldH x1 2 inb_S256x512_S256x128_0_256))
      (ldV x2 2 0 inb_S256x1024_S128x256_0_512) (ldS (k0_pay2 (F := Ideal)) 2 inb_S4x128x256_S1x128x256_2_0_0) (ldG x7 2 inb_S1x1024_S1x256_0_512) (ldV x3 2 0 inb_S256x1024_S128x256_0_512) from rfl) (ix2 i' l')).trans ?_
    rw [yAt_eq _ _ _ _ _ _ _ _ _ y 2 0 i' l' (by exact h0.trans (Nat.zero_add _).symm) (by exact h1)]
    exact y0_eq x0 x1 x2 x3 x4 x5 x6 x7 (k0_pay2 (F := Ideal)) 2 _ _ _ _ _ _ i' l'
  · obtain ⟨i', l', rfl⟩ := ex2 x
    refine (congrFun (show _ = yT (F := Ideal) (lgv 1) (qT1 x4 x5 x6 (ldH x0 1 inb_S256x512_S256x128_0_128)) (kT1 x4 x5 x6 (ldH x1 1 inb_S256x512_S256x128_0_128))
      (ldV x2 1 1 inb_S256x1024_S128x256_128_256) (stT (F := Ideal) (lgv 1) (cdv 1) (kT0 x4 x5 x6 (ldH x1 1 inb_S256x512_S256x128_0_128)) (ldV x2 1 0 inb_S256x1024_S128x256_0_256) (ldS (k0_pay2 (F := Ideal)) 1 inb_S4x128x256_S1x128x256_1_0_0)) (ldG x7 1 inb_S1x1024_S1x256_0_256) (ldV x3 1 1 inb_S256x1024_S128x256_128_256) from rfl) (ix2 i' l')).trans ?_
    rw [yAt_eq _ _ _ _ _ _ _ _ _ y 1 1 i' l' (by exact h0) (by exact h1)]
    exact y1_eq x0 x1 x2 x3 x4 x5 x6 x7 (k0_pay2 (F := Ideal)) 1 _ _ _ _ _ _ _ i' l'
  · obtain ⟨i', l', rfl⟩ := ex2 x
    refine (congrFun (show _ = yT (F := Ideal) (lgv 1) (qT0 x4 x5 x6 (ldH x0 1 inb_S256x512_S256x128_0_128)) (kT0 x4 x5 x6 (ldH x1 1 inb_S256x512_S256x128_0_128))
      (ldV x2 1 0 inb_S256x1024_S128x256_0_256) (ldS (k0_pay2 (F := Ideal)) 1 inb_S4x128x256_S1x128x256_1_0_0) (ldG x7 1 inb_S1x1024_S1x256_0_256) (ldV x3 1 0 inb_S256x1024_S128x256_0_256) from rfl) (ix2 i' l')).trans ?_
    rw [yAt_eq _ _ _ _ _ _ _ _ _ y 1 0 i' l' (by exact h0.trans (Nat.zero_add _).symm) (by exact h1)]
    exact y0_eq x0 x1 x2 x3 x4 x5 x6 x7 (k0_pay2 (F := Ideal)) 1 _ _ _ _ _ _ i' l'
  · obtain ⟨i', l', rfl⟩ := ex2 x
    refine (congrFun (show _ = yT (F := Ideal) (lgv 0) (qT1 x4 x5 x6 (ldH x0 0 inb_S256x512_S256x128_0_0)) (kT1 x4 x5 x6 (ldH x1 0 inb_S256x512_S256x128_0_0))
      (ldV x2 0 1 inb_S256x1024_S128x256_128_0) (stT (F := Ideal) (lgv 0) (cdv 0) (kT0 x4 x5 x6 (ldH x1 0 inb_S256x512_S256x128_0_0)) (ldV x2 0 0 inb_S256x1024_S128x256_0_0) (ldS (k0_pay2 (F := Ideal)) 0 inb_S4x128x256_S1x128x256_0_0_0)) (ldG x7 0 inb_S1x1024_S1x256_0_0) (ldV x3 0 1 inb_S256x1024_S128x256_128_0) from rfl) (ix2 i' l')).trans ?_
    rw [yAt_eq _ _ _ _ _ _ _ _ _ y 0 1 i' l' (by exact h0) (by exact h1.trans (Nat.zero_add _).symm)]
    exact y1_eq x0 x1 x2 x3 x4 x5 x6 x7 (k0_pay2 (F := Ideal)) 0 _ _ _ _ _ _ _ i' l'
  · obtain ⟨i', l', rfl⟩ := ex2 x
    refine (congrFun (show _ = yT (F := Ideal) (lgv 0) (qT0 x4 x5 x6 (ldH x0 0 inb_S256x512_S256x128_0_0)) (kT0 x4 x5 x6 (ldH x1 0 inb_S256x512_S256x128_0_0))
      (ldV x2 0 0 inb_S256x1024_S128x256_0_0) (ldS (k0_pay2 (F := Ideal)) 0 inb_S4x128x256_S1x128x256_0_0_0) (ldG x7 0 inb_S1x1024_S1x256_0_0) (ldV x3 0 0 inb_S256x1024_S128x256_0_0) from rfl) (ix2 i' l')).trans ?_
    rw [yAt_eq _ _ _ _ _ _ _ _ _ y 0 0 i' l' (by exact h0.trans (Nat.zero_add _).symm) (by exact h1.trans (Nat.zero_add _).symm)]
    exact y0_eq x0 x1 x2 x3 x4 x5 x6 x7 (k0_pay2 (F := Ideal)) 0 _ _ _ _ _ _ i' l'

end Cert.KernelIdeal.Pieces
-- ==== Proof.OutB.lean ====
module

public import proofs.«01_k».proof.Proof.Stores

@[expose] public section
set_option maxRecDepth 16384
noncomputable section

/-! What every other point stores into the output. -/
namespace Cert.KernelIdeal.Pieces
open Idealize.ShloMosaic Idealize.ShloMosaic.TcCoe Idealize.ShloMosaic.Tactic Cert.KernelIdeal.Gen Cert.Chunk Cert.KernelIdeal.Tile

/-- The block any other point stores: the output over the states it finds. -/
theorem out_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S4x128x256 .f32) (harg11 : arg11.IsWhole) (hc0 : ¬cond0_0 i)
    (x0 : Vec Ideal S256x512 .f32) (x1 : Vec Ideal S256x512 .f32) (x2 : Vec Ideal S256x1024 .f32) (x3 : Vec Ideal S256x1024 .f32) (x4 : Vec Ideal S256x1 .f32) (x5 : Vec Ideal S1x128 .f32) (x6 : Vec Ideal S1x128 .f32) (x7 : Vec Ideal S1x1024 .f32) (xs0 : Vec Ideal S4x128x256 .f32) (y : S256x1024.Idx) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 y = yAt x0 x1 x2 x3 x4 x5 x6 x7 xs0 y := by
  frame_open
  simp (disch := decide) only [↓ View.readCov_skip, ↓ View.readCov_cons_toLoadRect, ↓ View.readCov_fill]
  frame_out
  canon_tiles x h
  · obtain ⟨i', l', rfl⟩ := ex2 x
    refine (congrFun (show _ = yT (F := Ideal) (lgv 3) (qT1 x4 x5 x6 (ldH x0 3 inb_S256x512_S256x128_0_384)) (kT1 x4 x5 x6 (ldH x1 3 inb_S256x512_S256x128_0_384))
      (ldV x2 3 1 inb_S256x1024_S128x256_128_768) (stT (F := Ideal) (lgv 3) (cdv 3) (kT0 x4 x5 x6 (ldH x1 3 inb_S256x512_S256x128_0_384)) (ldV x2 3 0 inb_S256x1024_S128x256_0_768) (ldS xs0 3 inb_S4x128x256_S1x128x256_3_0_0)) (ldG x7 3 inb_S1x1024_S1x256_0_768) (ldV x3 3 1 inb_S256x1024_S128x256_128_768) from rfl) (ix2 i' l')).trans ?_
    rw [yAt_eq _ _ _ _ _ _ _ _ _ y 3 1 i' l' (by exact h0) (by exact h1)]
    exact y1_eq x0 x1 x2 x3 x4 x5 x6 x7 xs0 3 _ _ _ _ _ _ _ i' l'
  · obtain ⟨i', l', rfl⟩ := ex2 x
    refine (congrFun (show _ = yT (F := Ideal) (lgv 3) (qT0 x4 x5 x6 (ldH x0 3 inb_S256x512_S256x128_0_384)) (kT0 x4 x5 x6 (ldH x1 3 inb_S256x512_S256x128_0_384))
      (ldV x2 3 0 inb_S256x1024_S128x256_0_768) (ldS xs0 3 inb_S4x128x256_S1x128x256_3_0_0) (ldG x7 3 inb_S1x1024_S1x256_0_768) (ldV x3 3 0 inb_S256x1024_S128x256_0_768) from rfl) (ix2 i' l')).trans ?_
    rw [yAt_eq _ _ _ _ _ _ _ _ _ y 3 0 i' l' (by exact h0.trans (Nat.zero_add _).symm) (by exact h1)]
    exact y0_eq x0 x1 x2 x3 x4 x5 x6 x7 xs0 3 _ _ _ _ _ _ i' l'
  · obtain ⟨i', l', rfl⟩ := ex2 x
    refine (congrFun (show _ = yT (F := Ideal) (lgv 2) (qT1 x4 x5 x6 (ldH x0 2 inb_S256x512_S256x128_0_256)) (kT1 x4 x5 x6 (ldH x1 2 inb_S256x512_S256x128_0_256))
      (ldV x2 2 1 inb_S256x1024_S128x256_128_512) (stT (F := Ideal) (lgv 2) (cdv 2) (kT0 x4 x5 x6 (ldH x1 2 inb_S256x512_S256x128_0_256)) (ldV x2 2 0 inb_S256x1024_S128x256_0_512) (ldS xs0 2 inb_S4x128x256_S1x128x256_2_0_0)) (ldG x7 2 inb_S1x1024_S1x256_0_512) (ldV x3 2 1 inb_S256x1024_S128x256_128_512) from rfl) (ix2 i' l')).trans ?_
    rw [yAt_eq _ _ _ _ _ _ _ _ _ y 2 1 i' l' (by exact h0) (by exact h1)]
    exact y1_eq x0 x1 x2 x3 x4 x5 x6 x7 xs0 2 _ _ _ _ _ _ _ i' l'
  · obtain ⟨i', l', rfl⟩ := ex2 x
    refine (congrFun (show _ = yT (F := Ideal) (lgv 2) (qT0 x4 x5 x6 (ldH x0 2 inb_S256x512_S256x128_0_256)) (kT0 x4 x5 x6 (ldH x1 2 inb_S256x512_S256x128_0_256))
      (ldV x2 2 0 inb_S256x1024_S128x256_0_512) (ldS xs0 2 inb_S4x128x256_S1x128x256_2_0_0) (ldG x7 2 inb_S1x1024_S1x256_0_512) (ldV x3 2 0 inb_S256x1024_S128x256_0_512) from rfl) (ix2 i' l')).trans ?_
    rw [yAt_eq _ _ _ _ _ _ _ _ _ y 2 0 i' l' (by exact h0.trans (Nat.zero_add _).symm) (by exact h1)]
    exact y0_eq x0 x1 x2 x3 x4 x5 x6 x7 xs0 2 _ _ _ _ _ _ i' l'
  · obtain ⟨i', l', rfl⟩ := ex2 x
    refine (congrFun (show _ = yT (F := Ideal) (lgv 1) (qT1 x4 x5 x6 (ldH x0 1 inb_S256x512_S256x128_0_128)) (kT1 x4 x5 x6 (ldH x1 1 inb_S256x512_S256x128_0_128))
      (ldV x2 1 1 inb_S256x1024_S128x256_128_256) (stT (F := Ideal) (lgv 1) (cdv 1) (kT0 x4 x5 x6 (ldH x1 1 inb_S256x512_S256x128_0_128)) (ldV x2 1 0 inb_S256x1024_S128x256_0_256) (ldS xs0 1 inb_S4x128x256_S1x128x256_1_0_0)) (ldG x7 1 inb_S1x1024_S1x256_0_256) (ldV x3 1 1 inb_S256x1024_S128x256_128_256) from rfl) (ix2 i' l')).trans ?_
    rw [yAt_eq _ _ _ _ _ _ _ _ _ y 1 1 i' l' (by exact h0) (by exact h1)]
    exact y1_eq x0 x1 x2 x3 x4 x5 x6 x7 xs0 1 _ _ _ _ _ _ _ i' l'
  · obtain ⟨i', l', rfl⟩ := ex2 x
    refine (congrFun (show _ = yT (F := Ideal) (lgv 1) (qT0 x4 x5 x6 (ldH x0 1 inb_S256x512_S256x128_0_128)) (kT0 x4 x5 x6 (ldH x1 1 inb_S256x512_S256x128_0_128))
      (ldV x2 1 0 inb_S256x1024_S128x256_0_256) (ldS xs0 1 inb_S4x128x256_S1x128x256_1_0_0) (ldG x7 1 inb_S1x1024_S1x256_0_256) (ldV x3 1 0 inb_S256x1024_S128x256_0_256) from rfl) (ix2 i' l')).trans ?_
    rw [yAt_eq _ _ _ _ _ _ _ _ _ y 1 0 i' l' (by exact h0.trans (Nat.zero_add _).symm) (by exact h1)]
    exact y0_eq x0 x1 x2 x3 x4 x5 x6 x7 xs0 1 _ _ _ _ _ _ i' l'
  · obtain ⟨i', l', rfl⟩ := ex2 x
    refine (congrFun (show _ = yT (F := Ideal) (lgv 0) (qT1 x4 x5 x6 (ldH x0 0 inb_S256x512_S256x128_0_0)) (kT1 x4 x5 x6 (ldH x1 0 inb_S256x512_S256x128_0_0))
      (ldV x2 0 1 inb_S256x1024_S128x256_128_0) (stT (F := Ideal) (lgv 0) (cdv 0) (kT0 x4 x5 x6 (ldH x1 0 inb_S256x512_S256x128_0_0)) (ldV x2 0 0 inb_S256x1024_S128x256_0_0) (ldS xs0 0 inb_S4x128x256_S1x128x256_0_0_0)) (ldG x7 0 inb_S1x1024_S1x256_0_0) (ldV x3 0 1 inb_S256x1024_S128x256_128_0) from rfl) (ix2 i' l')).trans ?_
    rw [yAt_eq _ _ _ _ _ _ _ _ _ y 0 1 i' l' (by exact h0) (by exact h1.trans (Nat.zero_add _).symm)]
    exact y1_eq x0 x1 x2 x3 x4 x5 x6 x7 xs0 0 _ _ _ _ _ _ _ i' l'
  · obtain ⟨i', l', rfl⟩ := ex2 x
    refine (congrFun (show _ = yT (F := Ideal) (lgv 0) (qT0 x4 x5 x6 (ldH x0 0 inb_S256x512_S256x128_0_0)) (kT0 x4 x5 x6 (ldH x1 0 inb_S256x512_S256x128_0_0))
      (ldV x2 0 0 inb_S256x1024_S128x256_0_0) (ldS xs0 0 inb_S4x128x256_S1x128x256_0_0_0) (ldG x7 0 inb_S1x1024_S1x256_0_0) (ldV x3 0 0 inb_S256x1024_S128x256_0_0) from rfl) (ix2 i' l')).trans ?_
    rw [yAt_eq _ _ _ _ _ _ _ _ _ y 0 0 i' l' (by exact h0.trans (Nat.zero_add _).symm) (by exact h1.trans (Nat.zero_add _).symm)]
    exact y0_eq x0 x1 x2 x3 x4 x5 x6 x7 xs0 0 _ _ _ _ _ _ i' l'

end Cert.KernelIdeal.Pieces
-- ==== Proof.StateA.lean ====
module

public import proofs.«01_k».proof.Proof.Stores

@[expose] public section
set_option maxRecDepth 16384
noncomputable section

/-! The states a point leaves that begins a sequence. -/
namespace Cert.KernelIdeal.Pieces
open Idealize.ShloMosaic Idealize.ShloMosaic.TcCoe Idealize.ShloMosaic.Tactic Cert.KernelIdeal.Gen Cert.Chunk Cert.KernelIdeal.Tile

/-- The states a point leaves that begins a sequence, over states of zeros. -/
theorem st_A (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S4x128x256 .f32) (harg11 : arg11.IsWhole) (hc0 : cond0_0 i)
    (x0 : Vec Ideal S256x512 .f32) (x1 : Vec Ideal S256x512 .f32) (x2 : Vec Ideal S256x1024 .f32) (x3 : Vec Ideal S256x1024 .f32) (x4 : Vec Ideal S256x1 .f32) (x5 : Vec Ideal S1x128 .f32) (x6 : Vec Ideal S1x128 .f32) (x7 : Vec Ideal S1x1024 .f32) (h : Fin 4) (a : Fin 128) (l : Fin 256) :
    sout0_A_0 c i arg2 harg2 arg3 harg3 arg4 harg4 arg5 harg5 arg6 harg6 arg7 harg7 arg8 harg8 arg9 harg9 arg10 harg10 arg11 harg11 hc0 x0 x1 x2 x3 x4 x5 x6 x7 (ix3 h a l) = st2 x1 x2 x4 x5 x6 (k0_pay2 (F := Ideal)) h a l := by
  frame_open
  simp (disch := decide) only [↓ View.readCov_skip, ↓ View.readCov_cons_toLoadRect, ↓ View.readCov_fill]
  frame_out
  match h with
  | 0 =>
    refine (canon_skip 3 0 (by decide) _ _ _ a l).trans ?_
    refine (canon_skip 3 0 (by decide) _ _ _ a l).trans ?_
    refine (canon_skip 2 0 (by decide) _ _ _ a l).trans ?_
    refine (canon_skip 2 0 (by decide) _ _ _ a l).trans ?_
    refine (canon_skip 1 0 (by decide) _ _ _ a l).trans ?_
    refine (canon_skip 1 0 (by decide) _ _ _ a l).trans ?_
    refine (canon_hit 0 _ _ _ a l).trans ?_
    refine (congrFun (show _ = stT (F := Ideal) (lgv 0) (cdv 0) (kT1 x4 x5 x6 (ldH x1 0 inb_S256x512_S256x128_0_0)) (ldV x2 0 1 inb_S256x1024_S128x256_128_0) (stT (F := Ideal) (lgv 0) (cdv 0) (kT0 x4 x5 x6 (ldH x1 0 inb_S256x512_S256x128_0_0)) (ldV x2 0 0 inb_S256x1024_S128x256_0_0) (ldS (k0_pay2 (F := Ideal)) 0 inb_S4x128x256_S1x128x256_0_0_0)) from rfl) (ix3 0 a l)).trans ?_
    exact s2_eq x1 x2 x4 x5 x6 (k0_pay2 (F := Ideal)) 0 _ _ _ _ 0 a l
  | 1 =>
    refine (canon_skip 3 1 (by decide) _ _ _ a l).trans ?_
    refine (canon_skip 3 1 (by decide) _ _ _ a l).trans ?_
    refine (canon_skip 2 1 (by decide) _ _ _ a l).trans ?_
    refine (canon_skip 2 1 (by decide) _ _ _ a l).trans ?_
    refine (canon_hit 1 _ _ _ a l).trans ?_
    refine (congrFun (show _ = stT (F := Ideal) (lgv 1) (cdv 1) (kT1 x4 x5 x6 (ldH x1 1 inb_S256x512_S256x128_0_128)) (ldV x2 1 1 inb_S256x1024_S128x256_128_256) (stT (F := Ideal) (lgv 1) (cdv 1) (kT0 x4 x5 x6 (ldH x1 1 inb_S256x512_S256x128_0_128)) (ldV x2 1 0 inb_S256x1024_S128x256_0_256) (ldS (k0_pay2 (F := Ideal)) 1 inb_S4x128x256_S1x128x256_1_0_0)) from rfl) (ix3 0 a l)).trans ?_
    exact s2_eq x1 x2 x4 x5 x6 (k0_pay2 (F := Ideal)) 1 _ _ _ _ 0 a l
  | 2 =>
    refine (canon_skip 3 2 (by decide) _ _ _ a l).trans ?_
    refine (canon_skip 3 2 (by decide) _ _ _ a l).trans ?_
    refine (canon_hit 2 _ _ _ a l).trans ?_
    refine (congrFun (show _ = stT (F := Ideal) (lgv 2) (cdv 2) (kT1 x4 x5 x6 (ldH x1 2 inb_S256x512_S256x128_0_256)) (ldV x2 2 1 inb_S256x1024_S128x256_128_512) (stT (F := Ideal) (lgv 2) (cdv 2) (kT0 x4 x5 x6 (ldH x1 2 inb_S256x512_S256x128_0_256)) (ldV x2 2 0 inb_S256x1024_S128x256_0_512) (ldS (k0_pay2 (F := Ideal)) 2 inb_S4x128x256_S1x128x256_2_0_0)) from rfl) (ix3 0 a l)).trans ?_
    exact s2_eq x1 x2 x4 x5 x6 (k0_pay2 (F := Ideal)) 2 _ _ _ _ 0 a l
  | 3 =>
    refine (canon_hit 3 _ _ _ a l).trans ?_
    refine (congrFun (show _ = stT (F := Ideal) (lgv 3) (cdv 3) (kT1 x4 x5 x6 (ldH x1 3 inb_S256x512_S256x128_0_384)) (ldV x2 3 1 inb_S256x1024_S128x256_128_768) (stT (F := Ideal) (lgv 3) (cdv 3) (kT0 x4 x5 x6 (ldH x1 3 inb_S256x512_S256x128_0_384)) (ldV x2 3 0 inb_S256x1024_S128x256_0_768) (ldS (k0_pay2 (F := Ideal)) 3 inb_S4x128x256_S1x128x256_3_0_0)) from rfl) (ix3 0 a l)).trans ?_
    exact s2_eq x1 x2 x4 x5 x6 (k0_pay2 (F := Ideal)) 3 _ _ _ _ 0 a l

end Cert.KernelIdeal.Pieces
-- ==== Proof.StateB.lean ====
module

public import proofs.«01_k».proof.Proof.Stores

@[expose] public section
set_option maxRecDepth 16384
noncomputable section

/-! The states every other point leaves. -/
namespace Cert.KernelIdeal.Pieces
open Idealize.ShloMosaic Idealize.ShloMosaic.TcCoe Idealize.ShloMosaic.Tactic Cert.KernelIdeal.Gen Cert.Chunk Cert.KernelIdeal.Tile

/-- The states any other point leaves, over the states it finds. -/
theorem st_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x1024 .f32) (harg9 : arg9.IsWhole) (arg10 : Memref sig .tc .vmem S256x1024 .f32) (harg10 : arg10.IsWhole) (arg11 : Memref sig .tc .vmem S4x128x256 .f32) (harg11 : arg11.IsWhole) (hc0 : ¬cond0_0 i)
    (x0 : Vec Ideal S256x512 .f32) (x1 : Vec Ideal S256x512 .f32) (x2 : Vec Ideal S256x1024 .f32) (x3 : Vec Ideal S256x1024 .f32) (x4 : Vec Ideal S256x1 .f32) (x5 : Vec Ideal S1x128 .f32) (x6 : Vec Ideal S1x128 .f32) (x7 : Vec Ideal S1x1024 .f32) (xs0 : Vec Ideal S4x128x256 .f32) (h : Fin 4) (a : Fin 128) (l : Fin 256) :
    sout0_B_0 c i arg2 harg2 arg3 harg3 arg4 harg4 arg5 harg5 arg6 harg6 arg7 harg7 arg8 harg8 arg9 harg9 arg10 harg10 arg11 harg11 hc0 x0 x1 x2 x3 x4 x5 x6 x7 xs0 (ix3 h a l) = st2 x1 x2 x4 x5 x6 xs0 h a l := by
  frame_open
  simp (disch := decide) only [↓ View.readCov_skip, ↓ View.readCov_cons_toLoadRect, ↓ View.readCov_fill]
  frame_out
  match h with
  | 0 =>
    refine (canon_skip 3 0 (by decide) _ _ _ a l).trans ?_
    refine (canon_skip 3 0 (by decide) _ _ _ a l).trans ?_
    refine (canon_skip 2 0 (by decide) _ _ _ a l).trans ?_
    refine (canon_skip 2 0 (by decide) _ _ _ a l).trans ?_
    refine (canon_skip 1 0 (by decide) _ _ _ a l).trans ?_
    refine (canon_skip 1 0 (by decide) _ _ _ a l).trans ?_
    refine (canon_hit 0 _ _ _ a l).trans ?_
    refine (congrFun (show _ = stT (F := Ideal) (lgv 0) (cdv 0) (kT1 x4 x5 x6 (ldH x1 0 inb_S256x512_S256x128_0_0)) (ldV x2 0 1 inb_S256x1024_S128x256_128_0) (stT (F := Ideal) (lgv 0) (cdv 0) (kT0 x4 x5 x6 (ldH x1 0 inb_S256x512_S256x128_0_0)) (ldV x2 0 0 inb_S256x1024_S128x256_0_0) (ldS xs0 0 inb_S4x128x256_S1x128x256_0_0_0)) from rfl) (ix3 0 a l)).trans ?_
    exact s2_eq x1 x2 x4 x5 x6 xs0 0 _ _ _ _ 0 a l
  | 1 =>
    refine (canon_skip 3 1 (by decide) _ _ _ a l).trans ?_
    refine (canon_skip 3 1 (by decide) _ _ _ a l).trans ?_
    refine (canon_skip 2 1 (by decide) _ _ _ a l).trans ?_
    refine (canon_skip 2 1 (by decide) _ _ _ a l).trans ?_
    refine (canon_hit 1 _ _ _ a l).trans ?_
    refine (congrFun (show _ = stT (F := Ideal) (lgv 1) (cdv 1) (kT1 x4 x5 x6 (ldH x1 1 inb_S256x512_S256x128_0_128)) (ldV x2 1 1 inb_S256x1024_S128x256_128_256) (stT (F := Ideal) (lgv 1) (cdv 1) (kT0 x4 x5 x6 (ldH x1 1 inb_S256x512_S256x128_0_128)) (ldV x2 1 0 inb_S256x1024_S128x256_0_256) (ldS xs0 1 inb_S4x128x256_S1x128x256_1_0_0)) from rfl) (ix3 0 a l)).trans ?_
    exact s2_eq x1 x2 x4 x5 x6 xs0 1 _ _ _ _ 0 a l
  | 2 =>
    refine (canon_skip 3 2 (by decide) _ _ _ a l).trans ?_
    refine (canon_skip 3 2 (by decide) _ _ _ a l).trans ?_
    refine (canon_hit 2 _ _ _ a l).trans ?_
    refine (congrFun (show _ = stT (F := Ideal) (lgv 2) (cdv 2) (kT1 x4 x5 x6 (ldH x1 2 inb_S256x512_S256x128_0_256)) (ldV x2 2 1 inb_S256x1024_S128x256_128_512) (stT (F := Ideal) (lgv 2) (cdv 2) (kT0 x4 x5 x6 (ldH x1 2 inb_S256x512_S256x128_0_256)) (ldV x2 2 0 inb_S256x1024_S128x256_0_512) (ldS xs0 2 inb_S4x128x256_S1x128x256_2_0_0)) from rfl) (ix3 0 a l)).trans ?_
    exact s2_eq x1 x2 x4 x5 x6 xs0 2 _ _ _ _ 0 a l
  | 3 =>
    refine (canon_hit 3 _ _ _ a l).trans ?_
    refine (congrFun (show _ = stT (F := Ideal) (lgv 3) (cdv 3) (kT1 x4 x5 x6 (ldH x1 3 inb_S256x512_S256x128_0_384)) (ldV x2 3 1 inb_S256x1024_S128x256_128_768) (stT (F := Ideal) (lgv 3) (cdv 3) (kT0 x4 x5 x6 (ldH x1 3 inb_S256x512_S256x128_0_384)) (ldV x2 3 0 inb_S256x1024_S128x256_0_768) (ldS xs0 3 inb_S4x128x256_S1x128x256_3_0_0)) from rfl) (ix3 0 a l)).trans ?_
    exact s2_eq x1 x2 x4 x5 x6 xs0 3 _ _ _ _ 0 a l

end Cert.KernelIdeal.Pieces
-- ==== Proof.Array.lean ====
module

public import proofs.«01_k».proof.Proof.Blocks
public import proofs.«01_k».proof.Proof.Decay
public import proofs.«01_k».proof.Proof.OutA
public import proofs.«01_k».proof.Proof.OutB
public import proofs.«01_k».proof.Proof.StateA
public import proofs.«01_k».proof.Proof.StateB

@[expose] public section
set_option maxRecDepth 16384
noncomputable section

/-! The kernel's array: point after point the scratch holds the sequence's states, and the blocks written back are the mixer's. -/
namespace Cert.KernelIdeal.Array
open Idealize.ShloMosaic Idealize.ShloMosaic.TcCoe Cert.KernelIdeal.Gen Cert.Chunk Cert.Layer Cert.KernelIdeal.Entry Cert.KernelIdeal.Tile Cert.KernelIdeal.Pieces
  Cert.KernelIdeal.Blocks Cert.KernelIdeal.Decay

variable (m : (ℓ : Loc nD τ sig) → Buf (Elt Ideal) ℓ) (c : Dev nD)

/-- The states in a scratch of 128 by 256 lanes a head: on the key and value lanes the layer's before chunk `C` of batch row `b`, zero beyond the values. -/
def Holds (S : Fin 4 → Fin 128 → Fin 256 → EReal) (b : Fin 8) (C : ℕ) : Prop :=
  ∀ h, (∀ a l, S h (keyLane a) (valLane l) = St (arg0 m c) (arg1 m c) b h C a l) ∧ ∀ a l, 192 ≤ l.val → S h a l = 0

/-- One chunk of a point takes the states on by one. -/
theorem holds_step (t : Fin cfg0.N) (cc : Fin 2) (S : Fin 4 → Fin 128 → Fin 256 → EReal) (hS : Holds m c S (bat t) (chk t cc)) :
    Holds m c (fun h => stp (lgv h) (cdv h) (kL (X0_1 m c t) (iblk m c 4 t) (iblk m c 5 t) (iblk m c 6 t) h cc) (vL (X0_2 m c t) h cc) (S h))
      (bat t) (chk t cc + 1) := by
  intro h
  refine ⟨fun a l => ?_, fun a l hl => stp_zero _ _ _ _ _ _ _ (fun j => v_off m c t h cc j l hl) ((hS h).2 a l hl)⟩
  show stp _ _ _ _ _ _ _ = stp _ _ _ _ _ _ _
  unfold stp
  rw [(hS h).1 a l, lg_eq, cd_eq]
  simp only [k_key m c t, v_val m c t]

theorem chk1 (t : Fin cfg0.N) : chk t 1 = chk t 0 + 1 := by simp [chk]

variable (t : Fin cfg0.N) (S : Vec Ideal S4x128x256 .f32) (hS : Holds m c (st0 S) (bat t) (chk t 0))
include hS

theorem holds1 : Holds m c (st1 (X0_1 m c t) (X0_2 m c t) (iblk m c 4 t) (iblk m c 5 t) (iblk m c 6 t) S) (bat t) (chk t 1) := by
  rw [chk1]; exact holds_step m c t 0 _ hS
theorem holds2 : Holds m c (st2 (X0_1 m c t) (X0_2 m c t) (iblk m c 4 t) (iblk m c 5 t) (iblk m c 6 t) S) (bat t) (chk t 0 + 2) := by
  have h := holds_step m c t 1 _ (holds1 m c t S hS)
  rw [chk1] at h; exact h
theorem holdsB (cc : Fin 2) : Holds m c (fun h => stB (X0_1 m c t) (X0_2 m c t) (iblk m c 4 t) (iblk m c 5 t) (iblk m c 6 t) S h cc) (bat t) (chk t cc) := by
  match cc with
  | 0 => exact hS
  | 1 => exact holds1 m c t S hS

/-- What a head of the padded block reads: the layer's on the value lanes, zero beyond. -/
theorem read_val (h : Fin 4) (cc : Fin 2) (i : Fin 128) (l : Fin 192) :
    mix (lgv h) (qL (X0_0 m c t) (iblk m c 4 t) (iblk m c 5 t) (iblk m c 6 t) h cc) (kL (X0_1 m c t) (iblk m c 4 t) (iblk m c 5 t) (iblk m c 6 t) h cc)
      (vL (X0_2 m c t) h cc) (stB (X0_1 m c t) (X0_2 m c t) (iblk m c 4 t) (iblk m c 5 t) (iblk m c 6 t) S h cc) i (valLane l)
      = Layer.read (arg0 m c) (arg1 m c) (bat t) h (chk t cc) i l := by
  rw [mix_pad _ _ _ _ _ (q_off m c t h cc), lg_eq, Layer.read]
  have hb := (holdsB m c t S hS cc h).1
  simp only [q_key m c t, k_key m c t, v_val m c t, hb]
theorem read_off (h : Fin 4) (cc : Fin 2) (i : Fin 128) (l : Fin 256) (hl : 192 ≤ l.val) :
    mix (lgv h) (qL (X0_0 m c t) (iblk m c 4 t) (iblk m c 5 t) (iblk m c 6 t) h cc) (kL (X0_1 m c t) (iblk m c 4 t) (iblk m c 5 t) (iblk m c 6 t) h cc)
      (vL (X0_2 m c t) h cc) (stB (X0_1 m c t) (X0_2 m c t) (iblk m c 4 t) (iblk m c 5 t) (iblk m c 6 t) S h cc) i l = 0 :=
  mix_zero _ _ _ _ _ _ _ (fun j => v_off m c t h cc j l hl) (fun a => (holdsB m c t S hS cc h).2 a l hl)

/-- The block written back. -/
theorem y_val (h : Fin 4) (cc : Fin 2) (i : Fin 128) (l : Fin 192) :
    yB (X0_0 m c t) (X0_1 m c t) (X0_2 m c t) (X0_3 m c t) (iblk m c 4 t) (iblk m c 5 t) (iblk m c 6 t) (iblk m c 7 t) S h cc i (valLane l)
      = Y (arg0 m c) (arg1 m c) (arg2 m c) (bat t) h (chk t cc) i l := by
  rw [yB, gatedPad_val _ _ _ (read_off m c t S hS h cc i), Y]
  simp only [read_val m c t S hS, w_val m c t, g_val m c t]
omit hS in
theorem y_off (h : Fin 4) (cc : Fin 2) (i : Fin 128) (l : Fin 256) (hl : 192 ≤ l.val) :
    yB (X0_0 m c t) (X0_1 m c t) (X0_2 m c t) (X0_3 m c t) (iblk m c 4 t) (iblk m c 5 t) (iblk m c 6 t) (iblk m c 7 t) S h cc i l = 0 :=
  gatedPad_zero _ _ _ _ hl

/-- An index of the block in the mixer's array. -/
theorem y_at (y : S256x1024.Idx) (r : Fin 16384) (l : Fin 1024) (hr : r.val = 256 * t.val + (y 0).val) (hl : l.val = (y 1).val) :
    yAt (X0_0 m c t) (X0_1 m c t) (X0_2 m c t) (X0_3 m c t) (iblk m c 4 t) (iblk m c 5 t) (iblk m c 6 t) (iblk m c 7 t) S y
      = out (arg0 m c) (arg1 m c) (arg2 m c) r l := by
  have h0 : (y 0).val < 256 := (y 0).isLt
  have h1 : (y 1).val < 1024 := (y 1).isLt
  have ht := t_lt t
  rw [yAt, out]
  by_cases hv : l.val % 256 < 192
  · rw [dif_pos hv]
    have e : (⟨(y 1).val % 256, by omega⟩ : Fin 256) = valLane ⟨l.val % 256, hv⟩ := Fin.ext (by simp only [valLane]; omega)
    rw [e, y_val m c t S hS]
    congr 1
    · exact Fin.ext (by simp only [bat]; omega)
    · exact Fin.ext (by dsimp only; omega)
    · simp only [chk]; omega
    · exact Fin.ext (by dsimp only; omega)
  · rw [dif_neg hv]
    exact y_off m c t S _ _ _ _ (by dsimp only; omega)

omit t S hS

/-- What a point leaves, at an index: it begins a sequence. -/
theorem outs_A (t : Fin cfg0.N) (h0 : t.val % 8 = 0) (y : S256x1024.Idx) : (outsAt0 m c t.val t.isLt).1 y = yAt (X0_0 m c t) (X0_1 m c t) (X0_2 m c t) (X0_3 m c t) (iblk m c 4 t) (iblk m c 5 t) (iblk m c 6 t) (iblk m c 7 t) (k0_pay2 (F := Ideal)) y := by
  rw [outsAt0_A m c t h0]
  dsimp only
  rw [out_A]
theorem scr_A (t : Fin cfg0.N) (h0 : t.val % 8 = 0) : st0 (outsAt0 m c t.val t.isLt).2 = st2 (X0_1 m c t) (X0_2 m c t) (iblk m c 4 t) (iblk m c 5 t) (iblk m c 6 t) (k0_pay2 (F := Ideal)) := by
  funext h a l
  rw [outsAt0_A m c t h0]
  dsimp only
  rw [st0, st_A]

/-- It goes on from the point before. -/
theorem outs_B (t : Fin cfg0.N) (h0 : ¬t.val % 8 = 0) (y : S256x1024.Idx) : (outsAt0 m c t.val t.isLt).1 y
    = yAt (X0_0 m c t) (X0_1 m c t) (X0_2 m c t) (X0_3 m c t) (iblk m c 4 t) (iblk m c 5 t) (iblk m c 6 t) (iblk m c 7 t) (outsAt0 m c (t.val - 1) (Nat.lt_of_le_of_lt (Nat.sub_le _ _) t.isLt)).2 y := by
  rw [outsAt0_B m c t h0]
  dsimp only
  rw [out_B]
theorem scr_B (t : Fin cfg0.N) (h0 : ¬t.val % 8 = 0) : st0 (outsAt0 m c t.val t.isLt).2
    = st2 (X0_1 m c t) (X0_2 m c t) (iblk m c 4 t) (iblk m c 5 t) (iblk m c 6 t) (outsAt0 m c (t.val - 1) (Nat.lt_of_le_of_lt (Nat.sub_le _ _) t.isLt)).2 := by
  funext h a l
  rw [outsAt0_B m c t h0]
  dsimp only
  rw [st0, st_B]

/-- A scratch of zeros holds the states before the first chunk. -/
theorem holds_zero (b : Fin 8) : Holds m c (st0 (k0_pay2 (F := Ideal))) b 0 := by
  have hz : ∀ (h : Fin 4) (a : Fin 128) (l : Fin 256), st0 (k0_pay2 (F := Ideal)) h a l = 0 := fun h a l => zero_bits
  exact fun h => ⟨fun a l => hz h _ _, fun a l _ => hz h a l⟩

/-- After each point the scratch holds the states after its two chunks. -/
theorem scratch_holds (n : ℕ) : ∀ t : Fin cfg0.N, t.val = n → Holds m c (st0 (outsAt0 m c t.val t.isLt).2) (bat t) (chk t 0 + 2) := by
  induction n with
  | zero =>
    intro t ht
    rw [scr_A m c t (by omega)]
    refine holds2 m c t _ ?_
    rw [show chk t 0 = 0 by simp only [chk]; show 2 * (t.val % 8) + 0 = 0; omega]
    exact holds_zero m c _
  | succ n ih =>
    intro t ht
    by_cases h0 : t.val % 8 = 0
    · rw [scr_A m c t h0]
      refine holds2 m c t _ ?_
      rw [show chk t 0 = 0 by simp only [chk]; show 2 * (t.val % 8) + 0 = 0; omega]
      exact holds_zero m c _
    · rw [scr_B m c t h0]
      refine holds2 m c t _ ?_
      have hp := ih ⟨t.val - 1, by have := t.isLt; omega⟩ (by dsimp only; omega)
      rw [show bat ⟨t.val - 1, by have := t.isLt; omega⟩ = bat t from Fin.ext (by simp only [bat]; omega),
        show chk ⟨t.val - 1, by have := t.isLt; omega⟩ 0 + 2 = chk t 0 by simp only [chk]; omega] at hp
      exact hp

/-- The block written back at a point, at an index, is the mixer's. -/
theorem block_at (t : Fin cfg0.N) (y : S256x1024.Idx) (r : Fin 16384) (l : Fin 1024) (hr : r.val = 256 * t.val + (y 0).val) (hl : l.val = (y 1).val) :
    (outsAt0 m c t.val t.isLt).1 y = out (arg0 m c) (arg1 m c) (arg2 m c) r l := by
  by_cases h0 : t.val % 8 = 0
  · rw [outs_A m c t h0]
    refine y_at m c t _ ?_ y r l hr hl
    rw [show chk t 0 = 0 by simp only [chk]; show 2 * (t.val % 8) + 0 = 0; omega]
    exact holds_zero m c _
  · rw [outs_B m c t h0]
    refine y_at m c t _ ?_ y r l hr hl
    have hp := scratch_holds m c (t.val - 1) ⟨t.val - 1, by have := t.isLt; omega⟩ rfl
    rw [show bat ⟨t.val - 1, by have := t.isLt; omega⟩ = bat t from Fin.ext (by simp only [bat]; omega),
      show chk ⟨t.val - 1, by have := t.isLt; omega⟩ 0 + 2 = chk t 0 by simp only [chk]; omega] at hp
    exact hp

/-- The kernel's array is the mixer's. -/
theorem array_eq (i : S16384x1024.Idx) : KernelIdeal.Value.G8 m c i = out (arg0 m c) (arg1 m c) (arg2 m c) (i 0) (i 1) := by
  have h0 : (i 0).val < 16384 := (i 0).isLt
  have h1 : (i 1).val < 1024 := (i 1).isLt
  have hp : KernelIdeal.Value.pt8Of i < cfg0.N := by
    rw [show cfg0.N = 64 from N_0]
    show 1 * ((i 0).val / 256 - 0) + 1 * ((i 1).val / 1024 - 0) < 64
    omega
  unfold KernelIdeal.Value.G8
  rw [dif_pos hp, ← KernelIdeal.Value.outsAt0_sweep m c _ hp]
  refine block_at m c ⟨_, hp⟩ _ (i 0) (i 1) ?_ ?_
  · show (i 0).val = 256 * (1 * ((i 0).val / 256 - 0) + 1 * ((i 1).val / 1024 - 0)) + (i 0).val % 256
    omega
  · show (i 1).val = (i 1).val % 1024
    omega

end Cert.KernelIdeal.Array
-- ==== Proof.Reading.lean ====
module

public import proofs.«01_k».proof.Proof.Gen.ReferenceIdeal.Run
public import proofs.«01_k».proof.Proof.Layer
public import proofs.«01_k».proof.Proof.Tile
public import Idealize.ShloMosaic.Lib.Pointwise
public import Idealize.ShloMosaic.Lib.WordCmp
public import Idealize.ShloMosaic.Lib.Tactic.CleanTypes

@[expose] public section
set_option maxRecDepth 16384
noncomputable section

/-! What the reference's arrays hold at an index: the layer's queries, keys, values and decays. -/
namespace Cert.ReferenceIdeal.Reading
open Idealize.ShloMosaic Idealize.ShloMosaic.TcCoe Idealize.ShloMosaic.StableHlo Idealize.ShloMosaic.Tactic Cert.Chunk Cert.Layer Cert.ReferenceIdeal.Value

variable (V0 : Valuation τ sig (Elt Ideal))

/-- The arguments as functions of their indices. -/
def A (b : Fin 8) (s : Fin 2048) (l : Fin 2560) : EReal := (V0 (Proc.devRef .tc main_arg0) : Vec Ideal S8x2048x2560 .f32) (ix3 b s l)
def ps (b : Fin 8) (s : Fin 2048) : EReal := (FloatOps.sitofp .f32 ((V0 (Proc.devRef .tc main_arg1) : Vec Ideal S8x2048 .i32) (ix2 b s)) : Ideal .f32)
def g (l : Fin 768) : EReal := (V0 (Proc.devRef .tc main_arg2) : Vec Ideal S768 .f32) (ix1 l)

/-- Chunks of 128 steps, the head before them. -/
theorem chunks (x : FVec Ideal S8x2048x4x96 .f32) (b : Fin 8) (h : Fin 4) (C : Fin 16) (i : Fin 128) (a : Fin 96) :
    (transpose S8x4x16x128x96 [0, 3, 1, 2, 4] (shapeCast S8x16x128x4x96 x Gen.shapeCasts_S8x2048x4x96_S8x16x128x4x96) Gen.transposes_S8x16x128x4x96_S8x4x16x128x96_0_3_1_2_4) (ix5 b h C i a)
      = x (ix4 b ⟨128 * C.val + i.val, by omega⟩ h a) := by
  pointwise
  congr 2; exact Fin.ext (by dsimp only; omega)
/-- Two halves of 48 lanes. -/
theorem halves (x y : FVec Ideal S8x2048x4x48 .f32) (b : Fin 8) (s : Fin 2048) (h : Fin 4) (a : Fin 96) :
    (concatenate S8x2048x4x96 3 [⟨S8x2048x4x48, x⟩, ⟨S8x2048x4x48, y⟩] Gen.concatenates_S8x2048x4x48_S8x2048x4x48_S8x2048x4x96_d3) (ix4 b s h a)
      = if ha : a.val < 48 then x (ix4 b s h ⟨a.val, ha⟩) else y (ix4 b s h ⟨a.val - 48, by omega⟩) := by
  pointwise
/-- The kept products of keys and values, and the two products of what a step reads. -/
theorem dot_kv (k : FVec Ideal S8x4x16x128x96 .f32) (v : FVec Ideal S8x4x16x128x192 .f32) (b : Fin 8) (h : Fin 4) (C : Fin 16) (a : Fin 96) (l : Fin 192) :
    (Host.dotGeneral (F := Ideal) dot_S8x4x16x128x96_S8x4x16x128x192_S8x4x16x96x192_3_3_4_4_012_012 none k v) (ix5 b h C a l)
      = ∑ j, k (ix5 b h C j a) * v (ix5 b h C j l) := by
  pointwise
theorem dot_qk (k : FVec Ideal S8x4x16x128x96 .f32) (v : FVec Ideal S8x4x16x128x96 .f32) (b : Fin 8) (h : Fin 4) (C : Fin 16) (a : Fin 128) (l : Fin 128) :
    (Host.dotGeneral (F := Ideal) dot_S8x4x16x128x96_S8x4x16x128x96_S8x4x16x128x128_4_4_3_3_012_012 none k v) (ix5 b h C a l)
      = ∑ j, k (ix5 b h C a j) * v (ix5 b h C l j) := by
  pointwise
theorem dot_av (k : FVec Ideal S8x4x16x128x128 .f32) (v : FVec Ideal S8x4x16x128x192 .f32) (b : Fin 8) (h : Fin 4) (C : Fin 16) (a : Fin 128) (l : Fin 192) :
    (Host.dotGeneral (F := Ideal) dot_S8x4x16x128x128_S8x4x16x128x192_S8x4x16x128x192_4_3_3_4_012_012 none k v) (ix5 b h C a l)
      = ∑ j, k (ix5 b h C a j) * v (ix5 b h C j l) := by
  pointwise
theorem dot_qs (k : FVec Ideal S8x4x16x128x96 .f32) (v : FVec Ideal S8x4x16x96x192 .f32) (b : Fin 8) (h : Fin 4) (C : Fin 16) (a : Fin 128) (l : Fin 192) :
    (Host.dotGeneral (F := Ideal) dot_S8x4x16x128x96_S8x4x16x96x192_S8x4x16x128x192_4_3_3_4_012_012 none k v) (ix5 b h C a l)
      = ∑ j, k (ix5 b h C a j) * v (ix5 b h C j l) := by
  pointwise
/-- Two products with an angle's cosine and sine. -/
theorem pair_sub (x y : FVec Ideal S8x2048x4x48 .f32) (c s : FVec Ideal S8x2048x1x48 .f32) (b : Fin 8) (t : Fin 2048) (h : Fin 4) (p : Fin 48) :
    (subf (mulf x (broadcastInDim S8x2048x4x48 ![0, 1, 2, 3] Gen.bcast_S8x2048x1x48_S8x2048x4x48_0_1_2_3 c)) (mulf y (broadcastInDim S8x2048x4x48 ![0, 1, 2, 3] Gen.bcast_S8x2048x1x48_S8x2048x4x48_0_1_2_3 s)) : FVec Ideal S8x2048x4x48 .f32) (ix4 b t h p)
      = x (ix4 b t h p) * c (ix4 b t 0 p) - y (ix4 b t h p) * s (ix4 b t 0 p) := by
  pointwise
theorem pair_add (x y : FVec Ideal S8x2048x4x48 .f32) (c s : FVec Ideal S8x2048x1x48 .f32) (b : Fin 8) (t : Fin 2048) (h : Fin 4) (p : Fin 48) :
    (addf (mulf x (broadcastInDim S8x2048x4x48 ![0, 1, 2, 3] Gen.bcast_S8x2048x1x48_S8x2048x4x48_0_1_2_3 c)) (mulf y (broadcastInDim S8x2048x4x48 ![0, 1, 2, 3] Gen.bcast_S8x2048x1x48_S8x2048x4x48_0_1_2_3 s)) : FVec Ideal S8x2048x4x48 .f32) (ix4 b t h p)
      = x (ix4 b t h p) * c (ix4 b t 0 p) + y (ix4 b t h p) * s (ix4 b t 0 p) := by
  pointwise

/-- The angles, their cosines and sines. -/
theorem ang_at (b : Fin 8) (t : Fin 2048) (p : Fin 48) : (res_main_v15 V0 : Vec Ideal S8x2048x48 .f32) (ix3 b t p) = ang (ps V0) b t p := by
  unfold res_main_v15
  clean_types
  pointwise
  rfl
theorem cos_at (b : Fin 8) (t : Fin 2048) (p : Fin 48) : (res_main_v17 V0 : Vec Ideal S8x2048x1x48 .f32) (ix4 b t 0 p) = Ideal.cos (ang (ps V0) b t p) := by
  unfold res_main_v17
  clean_types
  pointwise
  rw [ang_at]
theorem sin_at (b : Fin 8) (t : Fin 2048) (p : Fin 48) : (res_main_v19 V0 : Vec Ideal S8x2048x1x48 .f32) (ix4 b t 0 p) = Ideal.sin (ang (ps V0) b t p) := by
  unfold res_main_v19
  clean_types
  pointwise
  rw [ang_at]

/-- The halves of the queries and the keys before they are turned. -/
theorem v26_at (b : Fin 8) (t : Fin 2048) (h : Fin 4) (p : Fin 48) : (res_main_v26 V0 : Vec Ideal S8x2048x4x48 .f32) (ix4 b t h p) = A V0 b t ⟨96 * h.val + p.val, by omega⟩ := by
  unfold res_main_v26 res_main_v25 res_main_v20
  clean_types
  pointwise
  exact congrArg (A V0 b t) (Fin.ext (by dsimp only; omega))
theorem v27_at (b : Fin 8) (t : Fin 2048) (h : Fin 4) (p : Fin 48) : (res_main_v27 V0 : Vec Ideal S8x2048x4x48 .f32) (ix4 b t h p) = A V0 b t ⟨96 * h.val + (p.val + 48), by omega⟩ := by
  unfold res_main_v27 res_main_v25 res_main_v20
  clean_types
  pointwise
  exact congrArg (A V0 b t) (Fin.ext (by dsimp only; omega))
theorem v40_at (b : Fin 8) (t : Fin 2048) (h : Fin 4) (p : Fin 48) : (res_main_v40 V0 : Vec Ideal S8x2048x4x48 .f32) (ix4 b t h p) = A V0 b t ⟨384 + (96 * h.val + p.val), by omega⟩ := by
  unfold res_main_v40 res_main_v39 res_main_v20
  clean_types
  pointwise
  exact congrArg (A V0 b t) (Fin.ext (by dsimp only; omega))
theorem v41_at (b : Fin 8) (t : Fin 2048) (h : Fin 4) (p : Fin 48) : (res_main_v41 V0 : Vec Ideal S8x2048x4x48 .f32) (ix4 b t h p) = A V0 b t ⟨384 + (96 * h.val + (p.val + 48)), by omega⟩ := by
  unfold res_main_v41 res_main_v39 res_main_v20
  clean_types
  pointwise
  exact congrArg (A V0 b t) (Fin.ext (by dsimp only; omega))

/-- Two halves turned against each other. -/
theorem turned_at (x y : FVec Ideal S8x2048x4x48 .f32) (c s : FVec Ideal S8x2048x1x48 .f32) (b : Fin 8) (t : Fin 2048) (h : Fin 4) (a : Fin 96)
    (f : Fin 96 → EReal) (th : Fin 48 → EReal) (hx : ∀ p : Fin 48, x (ix4 b t h p) = f ⟨p.val, by omega⟩) (hy : ∀ p : Fin 48, y (ix4 b t h p) = f ⟨p.val + 48, by omega⟩)
    (hc : ∀ p, c (ix4 b t 0 p) = Ideal.cos (th p)) (hs : ∀ p, s (ix4 b t 0 p) = Ideal.sin (th p)) :
    (concatenate S8x2048x4x96 3 [⟨S8x2048x4x48, (subf (mulf x (broadcastInDim S8x2048x4x48 ![0, 1, 2, 3] Gen.bcast_S8x2048x1x48_S8x2048x4x48_0_1_2_3 c)) (mulf y (broadcastInDim S8x2048x4x48 ![0, 1, 2, 3] Gen.bcast_S8x2048x1x48_S8x2048x4x48_0_1_2_3 s)) : FVec Ideal S8x2048x4x48 .f32)⟩,
      ⟨S8x2048x4x48, (addf (mulf y (broadcastInDim S8x2048x4x48 ![0, 1, 2, 3] Gen.bcast_S8x2048x1x48_S8x2048x4x48_0_1_2_3 c)) (mulf x (broadcastInDim S8x2048x4x48 ![0, 1, 2, 3] Gen.bcast_S8x2048x1x48_S8x2048x4x48_0_1_2_3 s)) : FVec Ideal S8x2048x4x48 .f32)⟩] Gen.concatenates_S8x2048x4x48_S8x2048x4x48_S8x2048x4x96_d3) (ix4 b t h a)
      = turned f th a := by
  rw [halves]
  unfold turned
  by_cases ha : a.val < 48
  · rw [dif_pos ha, dif_pos ha, pair_sub, hx, hy, hc, hs]
  · rw [dif_neg ha, dif_neg ha, pair_add, hx, hy, hc, hs]
    have e : (⟨a.val - 48 + 48, by omega⟩ : Fin 96) = a := Fin.ext (by dsimp only; omega)
    rw [e]

theorem time_of (C : Fin 16) (i : Fin 128) : (⟨128 * C.val + i.val, by omega⟩ : Fin 2048) = time C.val i :=
  Fin.ext (Nat.mod_eq_of_lt (by omega)).symm

/-- The queries, the keys, the values. -/
theorem q_at (b : Fin 8) (h : Fin 4) (C : Fin 16) (i : Fin 128) (a : Fin 96) :
    (res_main_v56 V0 : Vec Ideal S8x4x16x128x96 .f32) (ix5 b h C i a) = Q (A V0) (ps V0) b h C.val i a := by
  unfold res_main_v56
  clean_types
  refine (chunks _ b h C i a).trans ?_
  rw [time_of]
  exact turned_at _ _ _ _ _ _ _ _ _ _ (v26_at V0 b _ h) (v27_at V0 b _ h) (cos_at V0 b _) (sin_at V0 b _)
theorem k_at (b : Fin 8) (h : Fin 4) (C : Fin 16) (i : Fin 128) (a : Fin 96) :
    (res_main_v58 V0 : Vec Ideal S8x4x16x128x96 .f32) (ix5 b h C i a) = K (A V0) (ps V0) b h C.val i a := by
  unfold res_main_v58
  clean_types
  refine (chunks _ b h C i a).trans ?_
  rw [time_of]
  exact congrArg (· * scale) (turned_at _ _ _ _ _ _ _ _ (fun a : Fin 96 => A V0 b (time C.val i) ⟨384 + (96 * h.val + a.val), by omega⟩) _ (v40_at V0 b _ h) (v41_at V0 b _ h) (cos_at V0 b _) (sin_at V0 b _))
theorem v_at (b : Fin 8) (h : Fin 4) (C : Fin 16) (i : Fin 128) (l : Fin 192) :
    (res_main_v61 V0 : Vec Ideal S8x4x16x128x192 .f32) (ix5 b h C i l) = Layer.V (A V0) b h C.val i l := by
  unfold res_main_v61 res_main_v20
  clean_types
  pointwise
  unfold Layer.V
  rw [← time_of]
  exact congrArg₂ (A V0 b) (Fin.ext (by dsimp only; omega)) (Fin.ext (by dsimp only; omega))

theorem real_two : Ideal.ofBits .f32 0x40000000#32 = ((2 : ℝ) : EReal) := by
  simp [Ideal.ofBits, Ideal.ieee, -EReal.coe_mul]; norm_num
theorem real_m5 : Ideal.ofBits .f32 0xC0A00000#32 = ((-5 : ℝ) : EReal) := by
  simp [Ideal.ofBits, Ideal.ieee, -EReal.coe_mul]; norm_num
theorem real_128 : Ideal.ofBits .f32 0x43000000#32 = ((128 : ℝ) : EReal) := by
  simp [Ideal.ofBits, Ideal.ieee, -EReal.coe_mul]; norm_num
theorem real_192 : Ideal.ofBits .f32 0x43400000#32 = ((192 : ℝ) : EReal) := by
  simp [Ideal.ofBits, Ideal.ieee, -EReal.coe_mul]; norm_num
theorem decay_pos (h : Fin 4) : (0 : ℝ) < 1 - 1 / 2 ^ (5 + h.val) := by
  fin_cases h <;> norm_num
theorem decay_pow (h : Fin 4) : (2 : ℝ) ^ ((-5 : ℝ) - ((h.val : ℕ) : ℝ)) = 1 / 2 ^ (5 + h.val) := by
  rw [show (-5 : ℝ) - ((h.val : ℕ) : ℝ) = -((5 + h.val : ℕ) : ℝ) by push_cast; ring, Real.rpow_neg (by norm_num), Real.rpow_natCast, one_div]

/-- The logarithms of the decays, and the decays over a chunk. -/
theorem lg_at (h : Fin 4) : (res_main_v69 V0 : Vec Ideal S4 .f32) (ix1 h) = lg h := by
  unfold res_main_v69
  clean_types
  pointwise
  rw [Cert.KernelIdeal.Tile.word_real h.val (by omega), real_two, real_m5]
  show Ideal.log (((1 - (2 : ℝ) ^ ((-5 : ℝ) - ((h.val : ℕ) : ℝ)) : ℝ)) : EReal) = _
  rw [decay_pow]
  exact if_neg (not_le.mpr (decay_pos h))
theorem cd_at (h : Fin 4) : (res_main_v109 V0 : Vec Ideal S1x4x1x1 .f32) (ix4 0 h 0 0) = cd h := by
  unfold res_main_v109
  clean_types
  pointwise
  rw [lg_at, real_128]
  unfold lg cd
  show (((Real.exp (128 * Real.log (1 - 1 / 2 ^ (5 + h.val))) : ℝ)) : EReal) = _
  congr 1
  rw [show (128 : ℝ) = ((128 : ℕ) : ℝ) by norm_num, Real.exp_nat_mul, Real.exp_log (decay_pos h)]
theorem step_at (i : Fin 128) : (res_main_v70 V0 : Vec Ideal S128 .f32) (ix1 i) = (((i : ℕ) : ℝ) : EReal) := by
  unfold res_main_v70
  clean_types
  pointwise
  exact Cert.KernelIdeal.Tile.word_real i.val (by omega)
theorem rel_at (i j : Fin 128) : (res_main_v75 V0 : Vec Ideal S128x128 .f32) (ix2 i j) = ((((i : ℕ) : ℝ) - ((j : ℕ) : ℝ) : ℝ) : EReal) := by
  unfold res_main_v75
  clean_types
  pointwise
  rw [step_at, step_at]
  rfl

/-- The weights of a chunk's steps in the state after it. -/
theorem zeta_at (t : FVec Ideal S128 .f32) (x : FVec Ideal S4 .f32) (b : Fin 8) (h : Fin 4) (C : Fin 16) (j : Fin 128) (a : Fin 96)
    (ht : t (ix1 j) = (((j : ℕ) : ℝ) : EReal)) (hx : x (ix1 h) = lg h) :
    (broadcastInDim S8x4x16x128x96 ![0, 1, 2, 3, 4] Gen.bcast_S1x4x1x128x1_S8x4x16x128x96_0_1_2_3_4 (broadcastInDim S1x4x1x128x1 ![1, 2, 3, 4] Gen.bcast_S4x1x128x1_S1x4x1x128x1_1_2_3_4 (broadcastInDim S4x1x128x1 ![0, 2] Gen.bcast_S4x128_S4x1x128x1_0_2 (Host.exp (mulf (broadcastInDim S4x128 ![0, 1] Gen.bcast_S1x128_S4x128_0_1 (broadcastInDim S1x128 ![1] Gen.bcast_S128_S1x128_1 (subf (broadcastInDim S128 ![] Gen.bcast_S_S128 (constant S_ .f32 0x42FE0000#32)) t))) (broadcastInDim S4x128 ![0, 1] Gen.bcast_S4x1_S4x128_0_1 (broadcastInDim S4x1 ![0] Gen.bcast_S4_S4x1_0 x)))))) : FVec Ideal S8x4x16x128x96 .f32) (ix5 b h C j a)
      = zeta (lg h) j := by
  pointwise
  rw [ht, hx, Cert.KernelIdeal.Tile.bits_127]
  rfl
/-- The weight of the state before a chunk in its steps. -/
theorem xi_at (t : FVec Ideal S128 .f32) (x : FVec Ideal S4 .f32) (b : Fin 8) (h : Fin 4) (C : Fin 16) (j : Fin 128) (a : Fin 192)
    (ht : t (ix1 j) = (((j : ℕ) : ℝ) : EReal)) (hx : x (ix1 h) = lg h) :
    ((broadcastInDim S8x4x16x128x192 ![0, 1, 2, 3, 4] Gen.bcast_S1x4x1x128x1_S8x4x16x128x192_0_1_2_3_4 (broadcastInDim S1x4x1x128x1 ![1, 2, 3, 4] Gen.bcast_S4x1x128x1_S1x4x1x128x1_1_2_3_4 (broadcastInDim S4x1x128x1 ![0, 2] Gen.bcast_S4x128_S4x1x128x1_0_2 (Host.exp (mulf (broadcastInDim S4x128 ![0, 1] Gen.bcast_S1x128_S4x128_0_1 (broadcastInDim S1x128 ![1] Gen.bcast_S128_S1x128_1 (addf t (broadcastInDim S128 ![] Gen.bcast_S_S128 (constant S_ .f32 0x3F800000#32))))) (broadcastInDim S4x128 ![0, 1] Gen.bcast_S4x1_S4x128_0_1 (broadcastInDim S4x1 ![0] Gen.bcast_S4_S4x1_0 x))))))) : FVec Ideal S8x4x16x128x192 .f32) (ix5 b h C j a)
      = xi (lg h) j := by
  pointwise
  rw [ht, hx, xi, EReal.coe_add]
  rfl
/-- The weights of a chunk's steps among themselves. -/
theorem dec_at (r : FVec Ideal S128x128 .f32) (x : FVec Ideal S4 .f32) (b : Fin 8) (h : Fin 4) (C : Fin 16) (i j : Fin 128)
    (hr : r (ix2 i j) = ((((i : ℕ) : ℝ) - ((j : ℕ) : ℝ) : ℝ) : EReal)) (hx : x (ix1 h) = lg h) :
    ((broadcastInDim S8x4x16x128x128 ![0, 1, 2, 3, 4] Gen.bcast_S1x4x1x128x128_S8x4x16x128x128_0_1_2_3_4 (broadcastInDim S1x4x1x128x128 ![1, 2, 3, 4] Gen.bcast_S4x1x128x128_S1x4x1x128x128_1_2_3_4 (broadcastInDim S4x1x128x128 ![0, 2, 3] Gen.bcast_S4x128x128_S4x1x128x128_0_2_3 (select (broadcastInDim S4x128x128 ![1, 2] Gen.bcast_S128x128_S4x128x128_1_2 (cmpf .oge r (broadcastInDim S128x128 ![] Gen.bcast_S_S128x128 (constant S_ .f32 0x00000000#32)))) (Host.exp (mulf (broadcastInDim S4x128x128 ![0, 1, 2] Gen.bcast_S1x128x128_S4x128x128_0_1_2 (broadcastInDim S1x128x128 ![1, 2] Gen.bcast_S128x128_S1x128x128_1_2 (maximumf r (broadcastInDim S128x128 ![] Gen.bcast_S_S128x128 (constant S_ .f32 0x00000000#32))))) (broadcastInDim S4x128x128 ![0, 1, 2] Gen.bcast_S4x1x1_S4x128x128_0_1_2 (broadcastInDim S4x1x1 ![0] Gen.bcast_S4_S4x1x1_0 x)))) (broadcastInDim S4x128x128 ![] Gen.bcast_S_S4x128x128 (id (constant S_ .f32 0x00000000#32))))))) : FVec Ideal S8x4x16x128x128 .f32) (ix5 b h C i j)
      = dec (lg h) i j := by
  pointwise
  rw [hr, hx, dec]
  by_cases hl : j ≤ i
  · have h' : (0 : ℝ) ≤ ((i : ℕ) : ℝ) - ((j : ℕ) : ℝ) := sub_nonneg.mpr (by exact_mod_cast hl)
    rw [if_pos hl, if_pos (EReal.coe_nonneg.mpr h'), max_eq_left (EReal.coe_nonneg.mpr h')]
  · have h' : ¬ (0 : ℝ) ≤ ((i : ℕ) : ℝ) - ((j : ℕ) : ℝ) := fun hc => hl (by exact_mod_cast sub_nonneg.mp hc)
    rw [if_neg hl, if_neg (fun hc => h' (EReal.coe_nonneg.mp hc))]
    exact Cert.KernelIdeal.Tile.zero_bits
/-- What a chunk's keys and values add to the state. -/
theorem kv_at (b : Fin 8) (h : Fin 4) (C : Fin 16) (a : Fin 96) (l : Fin 192) :
    (res_main_v105 V0 : Vec Ideal S8x4x16x96x192 .f32) (ix5 b h C a l)
      = ∑ j, (K (A V0) (ps V0) b h C.val j a * zeta (lg h) j) * Layer.V (A V0) b h C.val j l := by
  unfold res_main_v105
  clean_types
  refine (dot_kv _ _ b h C a l).trans (Finset.sum_congr rfl fun j _ => ?_)
  exact congrArg₂ (· * ·) (congrArg₂ (· * ·) (k_at V0 b h C j a) (zeta_at _ _ b h C j a (step_at V0 j) (lg_at V0 h))) (v_at V0 b h C j l)
/-- The states before the sixteen chunks, one after another. -/
theorem cat_at (x0 x1 x2 x3 x4 x5 x6 x7 x8 x9 x10 x11 x12 x13 x14 x15 : FVec Ideal S8x4x96x192 .f32) (b : Fin 8) (h : Fin 4) (C : Fin 16) (a : Fin 96) (l : Fin 192) :
    (concatenate S8x4x16x96x192 2 [⟨S8x4x1x96x192, ((broadcastInDim S8x4x1x96x192 ![0, 1, 3, 4] Gen.bcast_S8x4x96x192_S8x4x1x96x192_0_1_3_4 x0) : FVec Ideal S8x4x1x96x192 .f32)⟩, ⟨S8x4x1x96x192, ((broadcastInDim S8x4x1x96x192 ![0, 1, 3, 4] Gen.bcast_S8x4x96x192_S8x4x1x96x192_0_1_3_4 x1) : FVec Ideal S8x4x1x96x192 .f32)⟩, ⟨S8x4x1x96x192, ((broadcastInDim S8x4x1x96x192 ![0, 1, 3, 4] Gen.bcast_S8x4x96x192_S8x4x1x96x192_0_1_3_4 x2) : FVec Ideal S8x4x1x96x192 .f32)⟩, ⟨S8x4x1x96x192, ((broadcastInDim S8x4x1x96x192 ![0, 1, 3, 4] Gen.bcast_S8x4x96x192_S8x4x1x96x192_0_1_3_4 x3) : FVec Ideal S8x4x1x96x192 .f32)⟩, ⟨S8x4x1x96x192, ((broadcastInDim S8x4x1x96x192 ![0, 1, 3, 4] Gen.bcast_S8x4x96x192_S8x4x1x96x192_0_1_3_4 x4) : FVec Ideal S8x4x1x96x192 .f32)⟩, ⟨S8x4x1x96x192, ((broadcastInDim S8x4x1x96x192 ![0, 1, 3, 4] Gen.bcast_S8x4x96x192_S8x4x1x96x192_0_1_3_4 x5) : FVec Ideal S8x4x1x96x192 .f32)⟩, ⟨S8x4x1x96x192, ((broadcastInDim S8x4x1x96x192 ![0, 1, 3, 4] Gen.bcast_S8x4x96x192_S8x4x1x96x192_0_1_3_4 x6) : FVec Ideal S8x4x1x96x192 .f32)⟩, ⟨S8x4x1x96x192, ((broadcastInDim S8x4x1x96x192 ![0, 1, 3, 4] Gen.bcast_S8x4x96x192_S8x4x1x96x192_0_1_3_4 x7) : FVec Ideal S8x4x1x96x192 .f32)⟩, ⟨S8x4x1x96x192, ((broadcastInDim S8x4x1x96x192 ![0, 1, 3, 4] Gen.bcast_S8x4x96x192_S8x4x1x96x192_0_1_3_4 x8) : FVec Ideal S8x4x1x96x192 .f32)⟩, ⟨S8x4x1x96x192, ((broadcastInDim S8x4x1x96x192 ![0, 1, 3, 4] Gen.bcast_S8x4x96x192_S8x4x1x96x192_0_1_3_4 x9) : FVec Ideal S8x4x1x96x192 .f32)⟩, ⟨S8x4x1x96x192, ((broadcastInDim S8x4x1x96x192 ![0, 1, 3, 4] Gen.bcast_S8x4x96x192_S8x4x1x96x192_0_1_3_4 x10) : FVec Ideal S8x4x1x96x192 .f32)⟩, ⟨S8x4x1x96x192, ((broadcastInDim S8x4x1x96x192 ![0, 1, 3, 4] Gen.bcast_S8x4x96x192_S8x4x1x96x192_0_1_3_4 x11) : FVec Ideal S8x4x1x96x192 .f32)⟩, ⟨S8x4x1x96x192, ((broadcastInDim S8x4x1x96x192 ![0, 1, 3, 4] Gen.bcast_S8x4x96x192_S8x4x1x96x192_0_1_3_4 x12) : FVec Ideal S8x4x1x96x192 .f32)⟩, ⟨S8x4x1x96x192, ((broadcastInDim S8x4x1x96x192 ![0, 1, 3, 4] Gen.bcast_S8x4x96x192_S8x4x1x96x192_0_1_3_4 x13) : FVec Ideal S8x4x1x96x192 .f32)⟩, ⟨S8x4x1x96x192, ((broadcastInDim S8x4x1x96x192 ![0, 1, 3, 4] Gen.bcast_S8x4x96x192_S8x4x1x96x192_0_1_3_4 x14) : FVec Ideal S8x4x1x96x192 .f32)⟩, ⟨S8x4x1x96x192, ((broadcastInDim S8x4x1x96x192 ![0, 1, 3, 4] Gen.bcast_S8x4x96x192_S8x4x1x96x192_0_1_3_4 x15) : FVec Ideal S8x4x1x96x192 .f32)⟩] Gen.concatenates_S8x4x1x96x192_S8x4x1x96x192_S8x4x1x96x192_S8x4x1x96x192_S8x4x1x96x192_S8x4x1x96x192_S8x4x1x96x192_S8x4x1x96x192_S8x4x1x96x192_S8x4x1x96x192_S8x4x1x96x192_S8x4x1x96x192_S8x4x1x96x192_S8x4x1x96x192_S8x4x1x96x192_S8x4x1x96x192_S8x4x16x96x192_d2 : FVec Ideal S8x4x16x96x192 .f32) (ix5 b h C a l)
      = (![x0, x1, x2, x3, x4, x5, x6, x7, x8, x9, x10, x11, x12, x13, x14, x15] : Fin 16 → FVec Ideal S8x4x96x192 .f32) C (ix4 b h a l) := by
  fin_cases C <;> pointwise
/-- The state before each chunk. -/
theorem st0_at (b : Fin 8) (h : Fin 4) (a : Fin 96) (l : Fin 192) : (res_main_v110 V0 : Vec Ideal S8x4x96x192 .f32) (ix4 b h a l) = St (A V0) (ps V0) b h 0 a l := by
  unfold res_main_v110
  clean_types
  pointwise
  rfl
theorem st1_at (b : Fin 8) (h : Fin 4) (a : Fin 96) (l : Fin 192) : (res_main_v115 V0 : Vec Ideal S8x4x96x192 .f32) (ix4 b h a l) = St (A V0) (ps V0) b h 1 a l := by
  unfold res_main_v115
  clean_types
  pointwise
  rw [cd_at, st0_at, kv_at]
  rfl
theorem st2_at (b : Fin 8) (h : Fin 4) (a : Fin 96) (l : Fin 192) : (res_main_v120 V0 : Vec Ideal S8x4x96x192 .f32) (ix4 b h a l) = St (A V0) (ps V0) b h 2 a l := by
  unfold res_main_v120
  clean_types
  pointwise
  rw [cd_at, st1_at, kv_at]
  rfl
theorem st3_at (b : Fin 8) (h : Fin 4) (a : Fin 96) (l : Fin 192) : (res_main_v125 V0 : Vec Ideal S8x4x96x192 .f32) (ix4 b h a l) = St (A V0) (ps V0) b h 3 a l := by
  unfold res_main_v125
  clean_types
  pointwise
  rw [cd_at, st2_at, kv_at]
  rfl
theorem st4_at (b : Fin 8) (h : Fin 4) (a : Fin 96) (l : Fin 192) : (res_main_v130 V0 : Vec Ideal S8x4x96x192 .f32) (ix4 b h a l) = St (A V0) (ps V0) b h 4 a l := by
  unfold res_main_v130
  clean_types
  pointwise
  rw [cd_at, st3_at, kv_at]
  rfl
theorem st5_at (b : Fin 8) (h : Fin 4) (a : Fin 96) (l : Fin 192) : (res_main_v135 V0 : Vec Ideal S8x4x96x192 .f32) (ix4 b h a l) = St (A V0) (ps V0) b h 5 a l := by
  unfold res_main_v135
  clean_types
  pointwise
  rw [cd_at, st4_at, kv_at]
  rfl
theorem st6_at (b : Fin 8) (h : Fin 4) (a : Fin 96) (l : Fin 192) : (res_main_v140 V0 : Vec Ideal S8x4x96x192 .f32) (ix4 b h a l) = St (A V0) (ps V0) b h 6 a l := by
  unfold res_main_v140
  clean_types
  pointwise
  rw [cd_at, st5_at, kv_at]
  rfl
theorem st7_at (b : Fin 8) (h : Fin 4) (a : Fin 96) (l : Fin 192) : (res_main_v145 V0 : Vec Ideal S8x4x96x192 .f32) (ix4 b h a l) = St (A V0) (ps V0) b h 7 a l := by
  unfold res_main_v145
  clean_types
  pointwise
  rw [cd_at, st6_at, kv_at]
  rfl
theorem st8_at (b : Fin 8) (h : Fin 4) (a : Fin 96) (l : Fin 192) : (res_main_v150 V0 : Vec Ideal S8x4x96x192 .f32) (ix4 b h a l) = St (A V0) (ps V0) b h 8 a l := by
  unfold res_main_v150
  clean_types
  pointwise
  rw [cd_at, st7_at, kv_at]
  rfl
theorem st9_at (b : Fin 8) (h : Fin 4) (a : Fin 96) (l : Fin 192) : (res_main_v155 V0 : Vec Ideal S8x4x96x192 .f32) (ix4 b h a l) = St (A V0) (ps V0) b h 9 a l := by
  unfold res_main_v155
  clean_types
  pointwise
  rw [cd_at, st8_at, kv_at]
  rfl
theorem st10_at (b : Fin 8) (h : Fin 4) (a : Fin 96) (l : Fin 192) : (res_main_v160 V0 : Vec Ideal S8x4x96x192 .f32) (ix4 b h a l) = St (A V0) (ps V0) b h 10 a l := by
  unfold res_main_v160
  clean_types
  pointwise
  rw [cd_at, st9_at, kv_at]
  rfl
theorem st11_at (b : Fin 8) (h : Fin 4) (a : Fin 96) (l : Fin 192) : (res_main_v165 V0 : Vec Ideal S8x4x96x192 .f32) (ix4 b h a l) = St (A V0) (ps V0) b h 11 a l := by
  unfold res_main_v165
  clean_types
  pointwise
  rw [cd_at, st10_at, kv_at]
  rfl
theorem st12_at (b : Fin 8) (h : Fin 4) (a : Fin 96) (l : Fin 192) : (res_main_v170 V0 : Vec Ideal S8x4x96x192 .f32) (ix4 b h a l) = St (A V0) (ps V0) b h 12 a l := by
  unfold res_main_v170
  clean_types
  pointwise
  rw [cd_at, st11_at, kv_at]
  rfl
theorem st13_at (b : Fin 8) (h : Fin 4) (a : Fin 96) (l : Fin 192) : (res_main_v175 V0 : Vec Ideal S8x4x96x192 .f32) (ix4 b h a l) = St (A V0) (ps V0) b h 13 a l := by
  unfold res_main_v175
  clean_types
  pointwise
  rw [cd_at, st12_at, kv_at]
  rfl
theorem st14_at (b : Fin 8) (h : Fin 4) (a : Fin 96) (l : Fin 192) : (res_main_v180 V0 : Vec Ideal S8x4x96x192 .f32) (ix4 b h a l) = St (A V0) (ps V0) b h 14 a l := by
  unfold res_main_v180
  clean_types
  pointwise
  rw [cd_at, st13_at, kv_at]
  rfl
theorem st15_at (b : Fin 8) (h : Fin 4) (a : Fin 96) (l : Fin 192) : (res_main_v185 V0 : Vec Ideal S8x4x96x192 .f32) (ix4 b h a l) = St (A V0) (ps V0) b h 15 a l := by
  unfold res_main_v185
  clean_types
  pointwise
  rw [cd_at, st14_at, kv_at]
  rfl
/-- The state before chunk `C`, picked among the sixteen. -/
theorem states_at (b : Fin 8) (h : Fin 4) (C : Fin 16) (a : Fin 96) (l : Fin 192) :
    (![res_main_v110 V0, res_main_v115 V0, res_main_v120 V0, res_main_v125 V0, res_main_v130 V0, res_main_v135 V0, res_main_v140 V0, res_main_v145 V0, res_main_v150 V0, res_main_v155 V0, res_main_v160 V0, res_main_v165 V0, res_main_v170 V0, res_main_v175 V0, res_main_v180 V0, res_main_v185 V0] : Fin 16 → FVec Ideal S8x4x96x192 .f32) C (ix4 b h a l) = St (A V0) (ps V0) b h C.val a l := by
  fin_cases C
  · exact st0_at V0 b h a l
  · exact st1_at V0 b h a l
  · exact st2_at V0 b h a l
  · exact st3_at V0 b h a l
  · exact st4_at V0 b h a l
  · exact st5_at V0 b h a l
  · exact st6_at V0 b h a l
  · exact st7_at V0 b h a l
  · exact st8_at V0 b h a l
  · exact st9_at V0 b h a l
  · exact st10_at V0 b h a l
  · exact st11_at V0 b h a l
  · exact st12_at V0 b h a l
  · exact st13_at V0 b h a l
  · exact st14_at V0 b h a l
  · exact st15_at V0 b h a l
/-- What a step reads, over any queries, keys, values, states and weights. -/
theorem reads_at (q k : FVec Ideal S8x4x16x128x96 .f32) (v X : FVec Ideal S8x4x16x128x192 .f32) (D : FVec Ideal S8x4x16x128x128 .f32) (S : FVec Ideal S8x4x16x96x192 .f32) (b : Fin 8) (h : Fin 4) (C : Fin 16) (i : Fin 128) (l : Fin 192) :
    (addf (Host.dotGeneral (F := Ideal) (φ₁ := .f32) (φ₂ := .f32) dot_S8x4x16x128x128_S8x4x16x128x192_S8x4x16x128x192_4_3_3_4_012_012 none (mulf (Host.dotGeneral (F := Ideal) (φ₁ := .f32) (φ₂ := .f32) dot_S8x4x16x128x96_S8x4x16x128x96_S8x4x16x128x128_4_4_3_3_012_012 none q k) D) v)
      (mulf (Host.dotGeneral (F := Ideal) (φ₁ := .f32) (φ₂ := .f32) dot_S8x4x16x128x96_S8x4x16x96x192_S8x4x16x128x192_4_3_3_4_012_012 none q S) X) : FVec Ideal S8x4x16x128x192 .f32) (ix5 b h C i l)
      = (∑ j, ((∑ a, q (ix5 b h C i a) * k (ix5 b h C j a)) * D (ix5 b h C i j)) * v (ix5 b h C j l)) + (∑ a, q (ix5 b h C i a) * S (ix5 b h C a l)) * X (ix5 b h C i l) := by
  pointwise
/-- What the heads read. -/
theorem read_at (b : Fin 8) (h : Fin 4) (C : Fin 16) (i : Fin 128) (l : Fin 192) :
    (res_main_v221 V0 : Vec Ideal S8x4x16x128x192 .f32) (ix5 b h C i l) = Layer.read (A V0) (ps V0) b h C.val i l := by
  unfold res_main_v221
  clean_types
  refine (reads_at _ _ _ _ _ _ b h C i l).trans ?_
  unfold Layer.read mix
  refine congrArg₂ (· + ·) (Finset.sum_congr rfl fun j _ => ?_) (congrArg₂ (· * ·) (Finset.sum_congr rfl fun a _ => ?_) ?_)
  · rw [v_at]
    refine congrArg (· * _) (congrArg₂ (· * ·) (Finset.sum_congr rfl fun a _ => ?_) ?_)
    · rw [q_at, k_at]
    · exact dec_at _ _ b h C i j (rel_at V0 i j) (lg_at V0 h)
  · rw [q_at]
    refine congrArg (_ * ·) ?_
    exact (cat_at _ _ _ _ _ _ _ _ _ _ _ _ _ _ _ _ b h C a l).trans (states_at V0 b h C a l)
  · exact xi_at _ _ b h C i l (step_at V0 i) (lg_at V0 h)

end Cert.ReferenceIdeal.Reading
-- ==== Proof.Returned.lean ====
module

public import proofs.«01_k».proof.Proof.Reading

@[expose] public section
set_option maxRecDepth 16384
noncomputable section

/-! What the reference returns at an index: the layer's array. -/
namespace Cert.ReferenceIdeal.Returned
open Idealize.ShloMosaic Idealize.ShloMosaic.TcCoe Idealize.ShloMosaic.StableHlo Idealize.ShloMosaic.Tactic Cert.Chunk Cert.Layer Cert.ReferenceIdeal.Value Cert.ReferenceIdeal.Reading

variable (V0 : Valuation τ sig (Elt Ideal))

/-- What the heads read, by time step. -/
theorem heads_at (b : Fin 8) (t : Fin 2048) (h : Fin 4) (l : Fin 192) :
    (res_main_v223 V0 : Vec Ideal S8x2048x4x192 .f32) (ix4 b t h l) = Layer.read (A V0) (ps V0) b h (t.val / 128) ⟨t.val % 128, by omega⟩ l := by
  unfold res_main_v223
  clean_types
  pointwise
  exact read_at V0 b h ⟨t.val / 128, by omega⟩ ⟨t.val % 128, by omega⟩ l

/-- A mean over a head's 192 lanes. -/
theorem sum_at (x : FVec Ideal S8x2048x4x192 .f32) (b : Fin 8) (t : Fin 2048) (h : Fin 4) :
    (Host.reduceAdd x (constant S_ .f32 0x00000000#32) Gen.reducesTo_S8x2048x4x192_S8x2048x4_d3 Gen.h_S_ : FVec Ideal S8x2048x4 .f32) (ix3 b t h) = ∑ l, x (ix4 b t h l) := by
  pointwise
theorem quot_at (x : FVec Ideal S8x2048x4 .f32) (b : Fin 8) (t : Fin 2048) (h : Fin 4) :
    (Host.divf (broadcastInDim S8x2048x4x1 ![0, 1, 2] Gen.bcast_S8x2048x4_S8x2048x4x1_0_1_2 x) (broadcastInDim S8x2048x4x1 ![] Gen.bcast_S_S8x2048x4x1 (constant S_ .f32 0x43400000#32)) : FVec Ideal S8x2048x4x1 .f32) (ix4 b t h 0)
      = Ideal.div (x (ix3 b t h)) ((192 : ℝ) : EReal) := by
  pointwise
  rw [real_192]
theorem mean_at (x : FVec Ideal S8x2048x4x192 .f32) (b : Fin 8) (t : Fin 2048) (h : Fin 4) :
    (Host.divf (broadcastInDim S8x2048x4x1 ![0, 1, 2] Gen.bcast_S8x2048x4_S8x2048x4x1_0_1_2 (Host.reduceAdd x (constant S_ .f32 0x00000000#32) Gen.reducesTo_S8x2048x4x192_S8x2048x4_d3 Gen.h_S_)) (broadcastInDim S8x2048x4x1 ![] Gen.bcast_S_S8x2048x4x1 (constant S_ .f32 0x43400000#32)) : FVec Ideal S8x2048x4x1 .f32) (ix4 b t h 0)
      = Ideal.div (∑ l, x (ix4 b t h l)) ((192 : ℝ) : EReal) :=
  (quot_at _ b t h).trans (by rw [sum_at])

/-- The mean, and the lanes less their mean. -/
theorem v227_at (b : Fin 8) (t : Fin 2048) (h : Fin 4) :
    (res_main_v227 V0 : Vec Ideal S8x2048x4x1 .f32) (ix4 b t h 0) = Ideal.div (∑ l, Layer.read (A V0) (ps V0) b h (t.val / 128) ⟨t.val % 128, by omega⟩ l) ((192 : ℝ) : EReal) := by
  unfold res_main_v227
  clean_types
  refine (mean_at _ b t h).trans ?_
  simp only [heads_at]
theorem less_at (x : FVec Ideal S8x2048x4x192 .f32) (m : FVec Ideal S8x2048x4x1 .f32) (b : Fin 8) (t : Fin 2048) (h : Fin 4) (l : Fin 192) :
    (subf x (broadcastInDim S8x2048x4x192 ![0, 1, 2, 3] Gen.bcast_S8x2048x4x1_S8x2048x4x192_0_1_2_3 m) : FVec Ideal S8x2048x4x192 .f32) (ix4 b t h l) = x (ix4 b t h l) - m (ix4 b t h 0) := by
  pointwise
theorem v229_at (b : Fin 8) (t : Fin 2048) (h : Fin 4) (l : Fin 192) :
    (res_main_v229 V0 : Vec Ideal S8x2048x4x192 .f32) (ix4 b t h l) = dev (Layer.read (A V0) (ps V0) b h (t.val / 128) ⟨t.val % 128, by omega⟩) l := by
  unfold res_main_v229
  clean_types
  refine (less_at _ _ b t h l).trans ?_
  rw [heads_at, v227_at]
  rfl

/-- The gate. -/
theorem gate_at (b : Fin 8) (t : Fin 2048) (l : Fin 768) :
    (res_main_v24 V0 : Vec Ideal S8x2048x768 .f32) (ix3 b t l) = A V0 b t ⟨1536 + l.val, by omega⟩ := by
  unfold res_main_v24 res_main_v20
  clean_types
  pointwise
  rfl

/-- A head's lanes under their norm and its weights. -/
theorem normed (m : FVec Ideal S8x2048x4x192 .f32) (q : FVec Ideal S8x2048x4x1 .f32) (gw : FVec Ideal S768 .f32) (b : Fin 8) (t : Fin 2048) (h : Fin 4) (l : Fin 192) :
    (mulf (mulf m (broadcastInDim S8x2048x4x192 ![0, 1, 2, 3] Gen.bcast_S8x2048x4x1_S8x2048x4x192_0_1_2_3 (Host.rsqrt (addf q (broadcastInDim S8x2048x4x1 ![] Gen.bcast_S_S8x2048x4x1 (constant S_ .f32 0x3727C5AC#32)))))) (broadcastInDim S8x2048x4x192 ![0, 1, 2, 3] Gen.bcast_S1x1x4x192_S8x2048x4x192_0_1_2_3 (broadcastInDim S1x1x4x192 ![2, 3] Gen.bcast_S4x192_S1x1x4x192_2_3 (shapeCast S4x192 gw Gen.shapeCasts_S768_S4x192))) : FVec Ideal S8x2048x4x192 .f32) (ix4 b t h l)
      = (m (ix4 b t h l) * Ideal.rsqrt (q (ix4 b t h 0) + eps)) * gw (ix1 ⟨192 * h.val + l.val, by omega⟩) := by
  pointwise
  unfold eps
  congr 3
  exact Fin.ext (by dsimp only; omega)

/-- A gate times what it lets through. -/
theorem gated_at (v24 : FVec Ideal S8x2048x768 .f32) (w : FVec Ideal S8x2048x4x192 .f32) (b : Fin 8) (t : Fin 2048) (h : Fin 4) (l : Fin 192) :
    ((mulf (mulf v24 (Host.divf (broadcastInDim S8x2048x768 ![] Gen.bcast_S_S8x2048x768 (constant S_ .f32 0x3F800000#32)) (addf (broadcastInDim S8x2048x768 ![] Gen.bcast_S_S8x2048x768 (constant S_ .f32 0x3F800000#32)) (Host.exp (Host.negf v24))))) (shapeCast S8x2048x768 w Gen.shapeCasts_S8x2048x4x192_S8x2048x768)) : FVec Ideal S8x2048x768 .f32) (ix3 b t ⟨192 * h.val + l.val, by omega⟩)
      = (v24 (ix3 b t ⟨192 * h.val + l.val, by omega⟩) * Ideal.logistic (v24 (ix3 b t ⟨192 * h.val + l.val, by omega⟩))) * w (ix4 b t h l) := by
  pointwise
  refine congrArg₂ (· * ·) rfl (congrArg w ?_)
  have e1 : (192 * h.val + l.val) / 192 = h.val := by omega
  have e2 : (192 * h.val + l.val) % 192 = l.val := by omega
  simp only [e1, e2]

/-- Heads of 192 lanes in slots of 256: the lanes, and the zeros behind them. -/
theorem lanes_at (z : FVec Ideal S8x2048x768 .f32) (r : Fin 16384) (l : Fin 1024) (hl : l.val % 256 < 192) :
    (shapeCast S16384x1024 (pad S16384x4x256 ![0, 0, 0] ![0, 0, 64] ![0, 0, 0] (shapeCast S16384x4x192 z Gen.shapeCasts_S8x2048x768_S16384x4x192) (sitofp .f32 (constantI S_ 32 0#32)) Gen.pads_S16384x4x192_S16384x4x256_000_000_0640 Gen.h_S_) Gen.shapeCasts_S16384x4x256_S16384x1024 : FVec Ideal S16384x1024 .f32) (ix2 r l)
      = z (ix3 ⟨r.val / 2048, by omega⟩ ⟨r.val % 2048, by omega⟩ ⟨192 * (l.val / 256) + l.val % 256, by omega⟩) := by
  pointwise
  rw [dif_pos ⟨by omega, hl⟩]
  exact congrArg (fun n => z (ix3 _ _ n)) (Fin.ext (by dsimp only; omega))
theorem zeros_at (z : FVec Ideal S8x2048x768 .f32) (r : Fin 16384) (l : Fin 1024) (hl : ¬l.val % 256 < 192) :
    (shapeCast S16384x1024 (pad S16384x4x256 ![0, 0, 0] ![0, 0, 64] ![0, 0, 0] (shapeCast S16384x4x192 z Gen.shapeCasts_S8x2048x768_S16384x4x192) (sitofp .f32 (constantI S_ 32 0#32)) Gen.pads_S16384x4x192_S16384x4x256_000_000_0640 Gen.h_S_) Gen.shapeCasts_S16384x4x256_S16384x1024 : FVec Ideal S16384x1024 .f32) (ix2 r l) = 0 := by
  pointwise
  rw [dif_neg (fun hc => hl hc.2)]
  exact (Cert.KernelIdeal.Tile.word_real 0 (by norm_num)).trans (by norm_num)

/-- The layer's array, on a head's lanes and behind them. -/
theorem out_lanes (X : Fin 8 → Fin 2048 → Fin 2560 → EReal) (p : Fin 8 → Fin 2048 → EReal) (w : Fin 768 → EReal) (r : Fin 16384) (l : Fin 1024) (h : l.val % 256 < 192) :
    out X p w r l = Y X p w ⟨r.val / 2048, by omega⟩ ⟨l.val / 256, by omega⟩ (r.val % 2048 / 128) ⟨r.val % 128, by omega⟩ ⟨l.val % 256, h⟩ := dif_pos h
theorem out_zeros (X : Fin 8 → Fin 2048 → Fin 2560 → EReal) (p : Fin 8 → Fin 2048 → EReal) (w : Fin 768 → EReal) (r : Fin 16384) (l : Fin 1024) (h : ¬l.val % 256 < 192) :
    out X p w r l = 0 := dif_neg h

/-- The gate of a step's chunk. -/
theorem gate_of (b : Fin 8) (t : Fin 2048) (h : Fin 4) (l : Fin 192) :
    A V0 b t ⟨1536 + (192 * h.val + l.val), by omega⟩ = Layer.G (A V0) b h (t.val / 128) ⟨t.val % 128, by omega⟩ l := by
  unfold Layer.G
  exact congrArg (fun s => A V0 b s _) (Fin.ext (by simp only [time]; omega))

/-- The returned array on a head's lanes, over any arrays it is made of. -/
theorem made_at (v24 : FVec Ideal S8x2048x768 .f32) (v223 v229 : FVec Ideal S8x2048x4x192 .f32) (v227 : FVec Ideal S8x2048x4x1 .f32) (gw : FVec Ideal S768 .f32) (r : Fin 16384) (l : Fin 1024) (h : l.val % 256 < 192)
    (b : Fin 8) (t : Fin 2048) (k : Fin 4) (a : Fin 192) (hb : b = ⟨r.val / 2048, by omega⟩) (ht : t = ⟨r.val % 2048, by omega⟩) (hk : k = ⟨l.val / 256, by omega⟩) (ha : a = ⟨l.val % 256, h⟩) :
    (shapeCast S16384x1024 (pad S16384x4x256 ![0, 0, 0] ![0, 0, 64] ![0, 0, 0] (shapeCast S16384x4x192 (mulf (mulf v24 (Host.divf (broadcastInDim S8x2048x768 ![] Gen.bcast_S_S8x2048x768 (constant S_ .f32 0x3F800000#32)) (addf (broadcastInDim S8x2048x768 ![] Gen.bcast_S_S8x2048x768 (constant S_ .f32 0x3F800000#32)) (Host.exp (Host.negf v24))))) (shapeCast S8x2048x768 (mulf (mulf (subf v223 (broadcastInDim S8x2048x4x192 ![0, 1, 2, 3] Gen.bcast_S8x2048x4x1_S8x2048x4x192_0_1_2_3 v227)) (broadcastInDim S8x2048x4x192 ![0, 1, 2, 3] Gen.bcast_S8x2048x4x1_S8x2048x4x192_0_1_2_3 (Host.rsqrt (addf (Host.divf (broadcastInDim S8x2048x4x1 ![0, 1, 2] Gen.bcast_S8x2048x4_S8x2048x4x1_0_1_2 (Host.reduceAdd (mulf v229 v229) (constant S_ .f32 0x00000000#32) Gen.reducesTo_S8x2048x4x192_S8x2048x4_d3 Gen.h_S_)) (broadcastInDim S8x2048x4x1 ![] Gen.bcast_S_S8x2048x4x1 (constant S_ .f32 0x43400000#32))) (broadcastInDim S8x2048x4x1 ![] Gen.bcast_S_S8x2048x4x1 (constant S_ .f32 0x3727C5AC#32)))))) (broadcastInDim S8x2048x4x192 ![0, 1, 2, 3] Gen.bcast_S1x1x4x192_S8x2048x4x192_0_1_2_3 (broadcastInDim S1x1x4x192 ![2, 3] Gen.bcast_S4x192_S1x1x4x192_2_3 (shapeCast S4x192 gw Gen.shapeCasts_S768_S4x192)))) Gen.shapeCasts_S8x2048x4x192_S8x2048x768)) Gen.shapeCasts_S8x2048x768_S16384x4x192) (sitofp .f32 (constantI S_ 32 0#32)) Gen.pads_S16384x4x192_S16384x4x256_000_000_0640 Gen.h_S_) Gen.shapeCasts_S16384x4x256_S16384x1024 : FVec Ideal S16384x1024 .f32) (ix2 r l)
      = (v24 (ix3 b t ⟨192 * k.val + a.val, by omega⟩) * Ideal.logistic (v24 (ix3 b t ⟨192 * k.val + a.val, by omega⟩)))
        * (((v223 (ix4 b t k a) - v227 (ix4 b t k 0)) * Ideal.rsqrt (Ideal.div (∑ a, v229 (ix4 b t k a) * v229 (ix4 b t k a)) ((192 : ℝ) : EReal) + eps)) * gw (ix1 ⟨192 * k.val + a.val, by omega⟩)) := by
  subst hb ht hk ha
  rw [lanes_at _ r l h]
  refine (gated_at _ _ _ _ ⟨l.val / 256, by omega⟩ ⟨l.val % 256, h⟩).trans ?_
  rw [normed, less_at, mean_at]
  rfl

/-- The reference's array is the layer's. -/
theorem array_at (r : Fin 16384) (l : Fin 1024) :
    (shapeCast S16384x1024 (pad S16384x4x256 ![0, 0, 0] ![0, 0, 64] ![0, 0, 0] (shapeCast S16384x4x192 (mulf (mulf (res_main_v24 V0) (Host.divf (broadcastInDim S8x2048x768 ![] Gen.bcast_S_S8x2048x768 (constant S_ .f32 0x3F800000#32)) (addf (broadcastInDim S8x2048x768 ![] Gen.bcast_S_S8x2048x768 (constant S_ .f32 0x3F800000#32)) (Host.exp (Host.negf (res_main_v24 V0)))))) (shapeCast S8x2048x768 (mulf (mulf (subf (res_main_v223 V0) (broadcastInDim S8x2048x4x192 ![0, 1, 2, 3] Gen.bcast_S8x2048x4x1_S8x2048x4x192_0_1_2_3 (res_main_v227 V0))) (broadcastInDim S8x2048x4x192 ![0, 1, 2, 3] Gen.bcast_S8x2048x4x1_S8x2048x4x192_0_1_2_3 (Host.rsqrt (addf (Host.divf (broadcastInDim S8x2048x4x1 ![0, 1, 2] Gen.bcast_S8x2048x4_S8x2048x4x1_0_1_2 (Host.reduceAdd (mulf (res_main_v229 V0) (res_main_v229 V0)) (constant S_ .f32 0x00000000#32) Gen.reducesTo_S8x2048x4x192_S8x2048x4_d3 Gen.h_S_)) (broadcastInDim S8x2048x4x1 ![] Gen.bcast_S_S8x2048x4x1 (constant S_ .f32 0x43400000#32))) (broadcastInDim S8x2048x4x1 ![] Gen.bcast_S_S8x2048x4x1 (constant S_ .f32 0x3727C5AC#32)))))) (broadcastInDim S8x2048x4x192 ![0, 1, 2, 3] Gen.bcast_S1x1x4x192_S8x2048x4x192_0_1_2_3 (broadcastInDim S1x1x4x192 ![2, 3] Gen.bcast_S4x192_S1x1x4x192_2_3 (shapeCast S4x192 (V0 (Proc.devRef .tc main_arg2)) Gen.shapeCasts_S768_S4x192)))) Gen.shapeCasts_S8x2048x4x192_S8x2048x768)) Gen.shapeCasts_S8x2048x768_S16384x4x192) (sitofp .f32 (constantI S_ 32 0#32)) Gen.pads_S16384x4x192_S16384x4x256_000_000_0640 Gen.h_S_) Gen.shapeCasts_S16384x4x256_S16384x1024 : FVec Ideal S16384x1024 .f32) (ix2 r l) = out (A V0) (ps V0) (g V0) r l := by
  by_cases h : l.val % 256 < 192
  · refine (made_at _ _ _ _ _ r l h _ _ _ _ rfl rfl rfl rfl).trans (Eq.trans ?_ (out_lanes _ _ _ r l h).symm)
    have ht : (⟨r.val % 128, by omega⟩ : Fin 128) = ⟨r.val % 2048 % 128, by omega⟩ := Fin.ext (by dsimp only; omega)
    rw [gate_at, gate_of V0 _ _ ⟨l.val / 256, by omega⟩ ⟨l.val % 256, h⟩, ht, heads_at, v227_at]
    simp only [v229_at]
    rfl
  · exact (zeros_at _ r l h).trans (out_zeros _ _ _ r l h).symm

end Cert.ReferenceIdeal.Returned
-- ==== Proof.ExpLaunch.lean ====
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section
set_option maxRecDepth 16384
noncomputable section

/-! The launch of the experts' call: what the arrays hold when it starts, the three tables, the windows' blocks and the buffers
    that the body is handed. -/
namespace Cert.Kernel2Ideal.Experts
open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer when the call starts: after the routing and the two reshapes of the biases. -/
abbrev VAfter (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) (fun b => m (c, b)) b
theorem exists_V : ∃ W : (c : Dev nD) → (b : Ref sig .tc) → Buf (Elt F) ((c : Thread nD τ).loc b), W = VAfter m := ⟨_, rfl⟩
/-- The same, known by `V_eq` alone. -/
def V : (c : Dev nD) → (b : Ref sig .tc) → Buf (Elt F) ((c : Thread nD τ).loc b) := Classical.choose (exists_V m)
theorem V_eq : V m = VAfter m := Classical.choose_spec (exists_V m)

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor
theorem fresh9 : (hostOps0_9 : List (HloOp τ sig (Elt F))).Forall fun op => op.fresh = ∅ := by
  simp only [List.Forall]; repeat' constructor
theorem fresh10 : (hostOps0_10 : List (HloOp τ sig (Elt F))).Forall fun op => op.fresh = ∅ := by
  simp only [List.Forall]; repeat' constructor
theorem fresh11 : (hostOps0_11 : List (HloOp τ sig (Elt F))).Forall fun op => op.fresh = ∅ := by
  simp only [List.Forall]; repeat' constructor
theorem fresh12 : (hostOps0_12 : List (HloOp τ sig (Elt F))).Forall fun op => op.fresh = ∅ := by
  simp only [List.Forall]; repeat' constructor
theorem fresh13 : (hostOps0_13 : List (HloOp τ sig (Elt F))).Forall fun op => op.fresh = ∅ := by
  simp only [List.Forall]; repeat' constructor
theorem fresh14 : (hostOps0_14 : List (HloOp τ sig (Elt F))).Forall fun op => op.fresh = ∅ := by
  simp only [List.Forall]; repeat' constructor

set_option maxHeartbeats 800000 in
/-- The host's part runs up to the call. -/
theorem main_to_call (𝒱₀ : Variants) : Pipeline.HMainP (Ix := Unit) (Name := ℕ) (U := UR sig nD τ) (Lvl := ℕ) pcfgs 0 defs₀ 𝒱₀ m (main (F := F)) (V m) := by
  rw [V_eq]
  exact Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub⟩)
    (by simp only [List.Forall]; exact ⟨fresh0, fresh1, fresh2, fresh3, fresh4, fresh5, fresh6, fresh7, fresh8, fresh9, fresh10, fresh11, fresh12, fresh13, fresh14⟩) main_chain

/-- The host's part writes no argument. -/
theorem V_kept (c : Dev nD) (b : Ref sig .tc) (hb : b ∈ [main_arg0, main_arg1, main_arg2, main_arg3, main_arg4, main_arg5]) : V m c b = m ((c : Thread nD τ).loc b) :=
  (congrFun (congrFun (V_eq m) c) b).trans <| StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, List.flatten_cons, List.flatten_nil, List.append_nil, List.cons_append, List.nil_append, List.Forall,
      StableHlo.nullary_writes, StableHlo.unary_writes, StableHlo.binary_writes, StableHlo.ternary_writes, StableHlo.reshape_writes, Finset.mem_singleton]
    repeat' apply And.intro
    all_goals
      refine StableHlo.devRef_ne_of_ne fun h => ?_
      subst h
      revert hb
      decide))

/-- The tables: each block's expert, its number of rows with a token, and the number of blocks in use. -/
def tbl : pre0.Contents (Elt F) := fun j => V m (0 : Dev nD) (pre0.ref j)
theorem V_tbl (c : Dev nD) (j : Fin 3) : V m c (pre0.ref j) = tbl m j := by
  obtain rfl : c = 0 := Subsingleton.elim _ _; rfl
/-- Every block that the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tM0 : Memref sig .tc .smem S160 .i32 := Memref.whole main_v38
abbrev tM1 : Memref sig .tc .smem S160 .i32 := Memref.whole main_v50
abbrev tM2 : Memref sig .tc .smem S1 .i32 := Memref.whole main_v54

/-- A table's buffer, held for reading. -/
abbrev TBuf (c : Dev nD) {S : Shape} {e : EltTy} (M : Memref sig .tc .smem S e) : Type := Buf (Elt F) (M.view.loc (c : Thread nD τ))
abbrev tPt (c : Dev nD) {S : Shape} {e : EltTy} (M : Memref sig .tc .smem S e) (f : TBuf (F := F) c M) : sProp 𝕄 :=
  M.view.loc (c : Thread nD τ) ↦{fullShare.right} f

theorem tables_split (c : Dev nD) : (Pipeline.ΦT pre0 (tbl m) c : sProp 𝕄) = iprop(tPt c tM0 (tbl m 0) ∗ tPt c tM1 (tbl m 1) ∗ tPt c tM2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t` of its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Where the body leaves an input's block as it is, the input's buffer holds its block at every point. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The windows' buffers at point `t`, and the two scratch buffers of the rounded weights. -/
abbrev w0 (hO : Ok m) (t : Fin (cfgM m hO).N) : Memref sig .tc .vmem S512x512 .i32 := spec0_0.stage ((cfgM m hO).slots t 0)
abbrev w1 (hO : Ok m) (t : Fin (cfgM m hO).N) : Memref sig .tc .vmem S1x1x1024x2048 .f32 := spec0_1.stage ((cfgM m hO).slots t 1)
abbrev w2 (hO : Ok m) (t : Fin (cfgM m hO).N) : Memref sig .tc .vmem S1x1x1x2048 .f32 := spec0_2.stage ((cfgM m hO).slots t 2)
abbrev w3 (hO : Ok m) (t : Fin (cfgM m hO).N) : Memref sig .tc .vmem S1x1x1024x1024 .f32 := spec0_3.stage ((cfgM m hO).slots t 3)
abbrev w4 (hO : Ok m) (t : Fin (cfgM m hO).N) : Memref sig .tc .vmem S1x1x1x1024 .f32 := spec0_4.stage ((cfgM m hO).slots t 4)
abbrev w5 (hO : Ok m) (t : Fin (cfgM m hO).N) : Memref sig .tc .vmem S512x1024 .bf16 := spec0_5.stage ((cfgM m hO).slots t 5)
abbrev sM0 : Memref sig .tc .vmem S1024x2048 .bf16 := Memref.whole cc0_scratch0
abbrev sM1 : Memref sig .tc .vmem S1024x1024 .bf16 := Memref.whole cc0_scratch1

/-- What the launch hands the body besides the windows: the scratch buffers at some contents and the generator's register. -/
theorem rest_split (c : Dev nD) :
    (Pipeline.ΦA spec0 c : sProp 𝕄)
      = iprop(iprop((∃ d, owns (c : Thread nD τ) sM0 fullShare d) ∗ (∃ d, owns (c : Thread nD τ) sM1 fullShare d)) ∗ (∃ r, prngReg c r)) := by
  unfold Pipeline.ΦA; rw [scopedRest0_eq]; simp only [sM0, sM1, owns_whole]; try rfl

/-- The body as it is called at point `t`. -/
abbrev bodyAt (a : (pcfg0 (F := F)).Adm) (t : Fin (cfg0 a).N) : Prog (TpuEff nD τ sig (Elt F) Λ₀ .tc) PUnit :=
  cc0_experts (grid0.coords t) (Memref.whole main_v38) (Memref.isWhole_whole _) (Memref.whole main_v50) (Memref.isWhole_whole _) (Memref.whole main_v54) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)
theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

end Cert.Kernel2Ideal.Experts

end
-- ==== Proof.ExpRun.lean ====
module

public import proofs.«01_k».proof.Proof.ExpLaunch
public import Idealize.ShloMosaic.Lib.VecWindow

@[expose] public section
set_option maxRecDepth 16384
noncomputable section

/-! The experts' body at one point of the grid, in its three cases: a block in use whose expert is new, a block in use whose
    expert is the one before, and a block that is not in use. -/
namespace Cert.Kernel2Ideal.Experts
open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg4 : Memref sig .tc .vmem S512x512 .i32) (harg4 : arg4.IsWhole) (arg5 : Memref sig .tc .vmem S1x1x1024x2048 .f32) (harg5 : arg5.IsWhole)
  (arg6 : Memref sig .tc .vmem S1x1x1x2048 .f32) (harg6 : arg6.IsWhole) (arg7 : Memref sig .tc .vmem S1x1x1024x1024 .f32) (harg7 : arg7.IsWhole)
  (arg8 : Memref sig .tc .vmem S1x1x1x1024 .f32) (harg8 : arg8.IsWhole) (arg9 : Memref sig .tc .vmem S512x1024 .bf16) (harg9 : arg9.IsWhole)
  (arg10 : Memref sig .tc .vmem S1024x2048 .bf16) (harg10 : arg10.IsWhole) (arg11 : Memref sig .tc .vmem S1024x1024 .bf16) (harg11 : arg11.IsWhole)
  (x0 : Vec F S512x512 .i32) (x1 : Vec F S1x1x1024x2048 .f32) (x2 : Vec F S1x1x1x2048 .f32) (x3 : Vec F S1x1x1024x1024 .f32)
  (x4 : Vec F S1x1x1x1024 .f32) (s0 : Vec F S1024x2048 .bf16) (s1 : Vec F S1024x1024 .bf16)
  (t0 : TBuf (F := F) c tM0) (t1 : TBuf (F := F) c tM1) (t2 : TBuf (F := F) c tM2)

/-- The words that the body reads of the tables: the number of blocks in use, the expert of the block before and of this one, the
    number of this block's rows with a token. -/
def wUsed : BitVec 32 := View.readAt (Elt F) tM2.view (Rect.unit (s := S1) ![0] S1.size inb_S1_S1_0).toLoadRect t2 (Shape.Idx.first (s := S1) (by decide))
def wPrev : BitVec 32 := View.readAt (Elt F) tM0.view (Rect.unit (s := S160) (k0_off2 i) S1.size (k0_off2_inb i)).toLoadRect t0 (Shape.Idx.first (s := S1) (by decide))
def wCur : BitVec 32 := View.readAt (Elt F) tM0.view (Rect.unit (s := S160) (k0_off3 i) S1.size (k0_off3_inb i)).toLoadRect t0 (Shape.Idx.first (s := S1) (by decide))
def wValid : BitVec 32 := View.readAt (Elt F) tM1.view (Rect.unit (s := S160) (k0_off4 i) S1.size (k0_off4_inb i)).toLoadRect t1 (Shape.Idx.first (s := S1) (by decide))
/-- The block is in use. -/
abbrev Used : Prop := k0_cond1 i (wUsed c t2) = 1#1
/-- The block's expert is new: the first block, or another expert than the block before. -/
abbrev Fresh : Prop := Scalar.cmpi .ne (Scalar.extui (Scalar.ori (Scalar.cmpi .eq (BitVec.ofNat 32 (i 0).val) 0#32) (Scalar.cmpi .ne (wPrev c i t0) (wCur c i t0))) : BitVec 32) 0#32 = 1#1
/-- The two rounded weights that the block is multiplied with. -/
def upW : Vec F S1024x2048 .bf16 := if Fresh c i t0 then k0_pay3 x1 else s0
def downW : Vec F S1024x1024 .bf16 := if Fresh c i t0 then k0_pay4 x3 else s1
/-- What the body leaves in the two scratch buffers and in the result's. -/
def leftUp : Vec F S1024x2048 .bf16 := if Used c i t2 then upW c i x1 s0 t0 else s0
def leftDown : Vec F S1024x1024 .bf16 := if Used c i t2 then downW c i x3 s1 t0 else s1
def leftOut : Vec F S512x1024 .bf16 :=
  if Used c i t2 then
    k0_pay1 (k0_pay6 (wValid c i t1) x0 (upW c i x1 s0 t0) x2) (k0_pay7 (wValid c i t1) x0 (upW c i x1 s0 t0) x2) k0_pay8 (downW c i x3 s1 t0) x4 else k0_pay2

/-- A block that is not in use is one whose index is not below the number in use. -/
theorem not_used (w : BitVec 32) : k0_cond3 i w = 1#1 ↔ ¬ k0_cond1 i w = 1#1 := by
  have h1 : ∀ b : Bool, (Scalar.cmpi .ne (Scalar.extui (BitVec.ofBool b) : BitVec 32) 0#32 = 1#1) ↔ b = true := by decide
  unfold k0_cond3 k0_cond1
  refine (h1 ((w).sle (BitVec.ofNat 32 (i 0).val))).trans (Iff.trans ?_ (not_congr (h1 ((BitVec.ofNat 32 (i 0).val).slt w))).symm)
  simp only [BitVec.sle, BitVec.slt, decide_eq_true_eq, not_lt]

section Whole
variable {sp : Space} {S : Shape} {e : EltTy} (v : View sig .tc sp S e) {off off' : Fin S.rank → ℕ}
  (inb : ∀ a, off a + S.size a ≤ S.size a) (inb' : ∀ a, off' a + S.size a ≤ S.size a)

/-- A buffer that is stored whole under a condition. -/
theorem read_if_stored (f : v.ty.Contents (Elt F)) (p : Prop) [Decidable p] (w x : S.Idx → Elt F e) (h : v.read (Elt F) f = x) :
    v.read (Elt F) (if _hc : p then v.writes (Elt F) f [⟨Rect.unit off S.size inb, w⟩] else f) = if p then w else x := by
  by_cases hp : p
  · rw [dif_pos hp, if_pos hp]; exact View.read_writes_full v f inb w []
  · rw [dif_neg hp, if_neg hp]; exact h
/-- The same under two conditions. -/
theorem read_if_if_stored (f : v.ty.Contents (Elt F)) (q p : Prop) [Decidable q] [Decidable p] (w x : S.Idx → Elt F e) (h : v.read (Elt F) f = x) :
    v.read (Elt F) (if _hq : q then (if _hc : p then v.writes (Elt F) f [⟨Rect.unit off S.size inb, w⟩] else f) else f) = if q then (if p then w else x) else x := by
  by_cases hq : q
  · rw [dif_pos hq, if_pos hq]; exact read_if_stored v inb f p w x h
  · rw [dif_neg hq, if_neg hq]; exact h
/-- A whole load of it. -/
theorem load_if_stored (f : v.ty.Contents (Elt F)) (p : Prop) [Decidable p] (w x : S.Idx → Elt F e) (h : v.read (Elt F) f = x) :
    v.readAt (Elt F) (Rect.unit off' S.size inb').toLoadRect (if _hc : p then v.writes (Elt F) f [⟨Rect.unit off S.size inb, w⟩] else f) = if p then w else x :=
  (View.readAt_full v _ inb').trans (read_if_stored v inb f p w x h)
/-- A whole load of a buffer that holds `x`. -/
theorem load_whole (f : v.ty.Contents (Elt F)) (x : S.Idx → Elt F e) (h : v.read (Elt F) f = x) :
    v.readAt (Elt F) (Rect.unit off' S.size inb').toLoadRect f = x := (View.readAt_full v _ inb').trans h
/-- A buffer that is stored whole under `p`, and then under `q` which is the opposite. -/
theorem read_either_stored (f : v.ty.Contents (Elt F)) (q p : Prop) [Decidable q] [Decidable p] (hqp : q ↔ ¬ p) (w z : S.Idx → Elt F e) :
    v.read (Elt F) (if _hq : q then v.writes (Elt F) (if _hc : p then v.writes (Elt F) f [⟨Rect.unit off S.size inb, w⟩] else f) [⟨Rect.unit off' S.size inb', z⟩]
      else (if _hc : p then v.writes (Elt F) f [⟨Rect.unit off S.size inb, w⟩] else f)) = if p then w else z := by
  by_cases hp : p
  · rw [dif_neg (fun h => hqp.1 h hp), if_pos hp, dif_pos hp]; exact View.read_writes_full v f inb w []
  · rw [dif_pos (hqp.2 hp), if_neg hp]; exact View.read_writes_full v _ inb' z []
end Whole

set_option maxHeartbeats 2000000 in
/-- One run of the body, whatever the tables hold. -/
theorem run_body (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ (∃ d, owns (c : Thread nD τ) arg9 fullShare d)
        ∗ owns (c : Thread nD τ) arg10 fullShare s0 ∗ owns (c : Thread nD τ) arg11 fullShare s1
        ∗ tPt c tM0 t0 ∗ tPt c tM1 t1 ∗ tPt c tM2 t2
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg8 fullShare x4 ∗ owns (c : Thread nD τ) arg9 fullShare (leftOut c i x0 x1 x2 x3 x4 s0 s1 t0 t1 t2)
            ∗ owns (c : Thread nD τ) arg10 fullShare (leftUp c i x1 s0 t0 t2) ∗ owns (c : Thread nD τ) arg11 fullShare (leftDown c i x3 s1 t0 t2)
            ∗ tPt c tM0 t0 ∗ tPt c tM1 t1 ∗ tPt c tM2 t2) -∗ K ⟨⟩))
      ⊢ wp frame (wpE (defs₀ (F := F)) Variants.none c none) E (cc0_experts i tM0 (Memref.isWhole_whole _) tM1 (Memref.isWhole_whole _) tM2 (Memref.isWhole_whole _) arg4 harg4 arg5 harg5 arg6 harg6 arg7 harg7 arg8 harg8 arg9 harg9 arg10 harg10 arg11 harg11) K := by
  simp only [cc0_experts_eq_skeleton]; unfold cc0_experts_skel; simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
  obtain rfl := harg4.eq_unread hf0; obtain rfl := harg5.eq_unread hf1; obtain rfl := harg6.eq_unread hf2; obtain rfl := harg7.eq_unread hf3; obtain rfl := harg8.eq_unread hf4
  obtain rfl := harg10.eq_unread hs0; obtain rfl := harg11.eq_unread hs1
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    refine (read_either_stored arg9.view _ _ f5 _ _ (not_used i _) _ _).trans ?_
    unfold leftOut Used
    refine if_congr Iff.rfl ?_ rfl
    unfold run_body.sl.r_4 run_body.sl.r_5 run_body.sl.v35 run_body.sl.v57 run_body.sl.v59
    rw [load_whole arg4.view _ _ _ hf0, load_whole arg6.view _ _ _ hf2, load_whole arg8.view _ _ _ hf4, load_whole arg5.view _ _ _ hf1,
      load_whole arg7.view _ _ _ hf3, load_if_stored arg11.view _ _ _ _ _ _ hs1, load_if_stored arg10.view _ _ _ _ _ _ hs0]
    rfl
  isplitl [HS0]
  · iexists _; isplitr; swap; · iexact HS0
    ipureintro
    refine (read_if_if_stored arg10.view _ _ _ _ _ _ hs0).trans ?_
    rw [load_whole arg5.view _ _ _ hf1]
    rfl
  isplitl [HS1]
  · iexists _; isplitr; swap; · iexact HS1
    ipureintro
    refine (read_if_if_stored arg11.view _ _ _ _ _ _ hs1).trans ?_
    rw [load_whole arg7.view _ _ _ hf3]
    rfl
  isplitl [HT0]; · iexact HT0
  isplitl [HT1]; · iexact HT1
  iexact HT2

end Cert.Kernel2Ideal.Experts

end
-- ==== Proof.ExpWords.lean ====
module

public import proofs.«01_k».proof.Proof.ExpRun
public import Idealize.ShloMosaic.Lib.Pipeline.ValueKit.Point
public import Idealize.ShloMosaic.Lib.ValueIdxCore

@[expose] public section
set_option maxRecDepth 16384
noncomputable section

/-! The words of the three tables, and the blocks that the windows take of their arrays by them. -/
namespace Cert.Kernel2Ideal.Experts
open Idealize.ShloMosaic Idealize.ShloMosaic.TcCoe Cert.Kernel2Ideal Cert.Kernel2Ideal.Gen

variable {F : FTy → Type} [FloatOps F]
variable (m : (ℓ : Loc nD τ sig) → Buf (Elt F) ℓ) (c : Dev nD)

/-- Point `t` of the grid is block `t`. -/
theorem coord : ∀ t : Fin grid0.N, (grid0.coords t 0).val = t.val := by decide +kernel
abbrev pt (t : Fin grid0.N) : Fin 160 := ⟨t.val, lt_of_lt_of_eq t.isLt N_0⟩

/-- Block `j`'s expert and its number of rows with a token, and the number of blocks in use. -/
def be (j : Fin 160) : BitVec 32 := (tbl m 0 : S160.Idx → BitVec 32) (ix1 j)
def nv (j : Fin 160) : BitVec 32 := (tbl m 1 : S160.Idx → BitVec 32) (ix1 j)
def nu : BitVec 32 := (tbl m 2 : S1.Idx → BitVec 32) (ix1 0)

theorem small (n : ℕ) (h : n < 160) : (BitVec.ofNat 32 n).toNat = n := by
  rw [BitVec.toNat_ofNat]; omega

/-- An index of a table is its one coordinate. -/
theorem at_word (f : S160.Idx → BitVec 32) (y : S160.Idx) (j : Fin 160) (h : (y 0).val = j.val) : f y = f (ix1 j) := by
  congr 1; funext a; obtain rfl : a = 0 := Subsingleton.elim _ _; exact Fin.ext h
theorem at_one_word (f : S1.Idx → BitVec 32) (y : S1.Idx) : f y = f (ix1 0) := by
  congr 1; funext a; obtain rfl : a = 0 := Subsingleton.elim _ _; exact Subsingleton.elim (α := Fin 1) _ _

variable (t : Fin grid0.N)

theorem small_pt : (BitVec.ofNat 32 t.val).toNat = t.val := small _ (lt_of_lt_of_eq t.isLt N_0)

theorem wUsed_eq : wUsed c (tbl m 2) = nu m := by
  unfold wUsed nu
  exact at_one_word (tbl m 2 : S1.Idx → BitVec 32) _
theorem wCur_eq : wCur c (grid0.coords t) (tbl m 0) = be m (pt t) := by
  unfold wCur be
  refine at_word (tbl m 0 : S160.Idx → BitVec 32) _ _ ?_
  show k0_off3 (grid0.coords t) 0 + 1 * 0 = t.val
  show (BitVec.ofNat 32 (grid0.coords t 0).val).toNat + 1 * 0 = t.val
  rw [coord, small_pt]; rfl
theorem wValid_eq : wValid c (grid0.coords t) (tbl m 1) = nv m (pt t) := by
  unfold wValid nv
  refine at_word (tbl m 1 : S160.Idx → BitVec 32) _ _ ?_
  show (BitVec.ofNat 32 (grid0.coords t 0).val).toNat + 1 * 0 = t.val
  rw [coord, small_pt]; rfl
theorem wPrev_eq (u : Fin grid0.N) (h : u.val + 1 = t.val) : wPrev c (grid0.coords t) (tbl m 0) = be m (pt u) := by
  unfold wPrev be
  refine at_word (tbl m 0 : S160.Idx → BitVec 32) _ _ ?_
  show (Scalar.indexCast (Scalar.maxsi (Scalar.subi (BitVec.ofNat 32 (grid0.coords t 0).val) 1#32) 0#32)).toNat + 1 * 0 = u.val
  rw [coord]
  have key : ∀ n : Fin 159, (Scalar.indexCast (Scalar.maxsi (Scalar.subi (BitVec.ofNat 32 (n.val + 1)) 1#32) 0#32)).toNat + 1 * 0 = n.val := by decide +kernel
  rw [← h]
  exact key ⟨u.val, by have := (pt t).isLt; simp only [pt] at this; omega⟩

/-- A block is in use where its number is below the number in use. -/
theorem used_iff : Used c (grid0.coords t) (tbl m 2) ↔ (t.val : ℤ) < (nu m).toInt := by
  have h1 : ∀ b : Bool, (Scalar.cmpi .ne (Scalar.extui (BitVec.ofBool b) : BitVec 32) 0#32 = 1#1) ↔ b = true := by decide
  unfold Used; rw [wUsed_eq]; unfold k0_cond1
  refine (h1 ((BitVec.ofNat 32 (grid0.coords t 0).val).slt (nu m))).trans ?_
  rw [coord, BitVec.slt, decide_eq_true_eq]
  have h2 : (BitVec.ofNat 32 t.val).toInt = t.val := by
    have := (pt t).isLt; simp only [pt] at this
    rw [BitVec.toInt_eq_toNat_of_lt (by rw [small _ this]; omega), small _ this]
  rw [h2]
/-- Where a block's expert is not new, the block before has the same. -/
theorem same_of_not_fresh (h : ¬ Fresh c (grid0.coords t) (tbl m 0)) :
    ∃ u : Fin grid0.N, u.val + 1 = t.val ∧ be m (pt u) = be m (pt t) := by
  have h1 : ∀ a b : Bool, (Scalar.cmpi .ne (Scalar.extui (Scalar.ori (BitVec.ofBool a) (BitVec.ofBool b)) : BitVec 32) 0#32 = 1#1) ↔ a = true ∨ b = true := by decide
  have h2 := fun hh => h ((h1 ((BitVec.ofNat 32 (grid0.coords t 0).val) == 0#32) ((wPrev c (grid0.coords t) (tbl m 0)) != (wCur c (grid0.coords t) (tbl m 0)))).2 hh)
  have h0 : t.val ≠ 0 := fun h0 => h2 (Or.inl (by rw [coord, h0]; rfl))
  let u : Fin grid0.N := ⟨t.val - 1, by omega⟩
  have hu : u.val + 1 = t.val := by show t.val - 1 + 1 = t.val; omega
  refine ⟨u, hu, ?_⟩
  have h3 : ¬ (be m (pt u) != be m (pt t)) = true := by
    rw [← wPrev_eq m c t u hu, ← wCur_eq m c t]; exact fun h3 => h2 (Or.inr h3)
  simpa using h3

variable (hO : Ok m)

/-- The blocks' indices. -/
theorem at_one (y : S160.Idx) (h : (y 0).val = t.val) : (tbl m 0 : S160.Idx → BitVec 32) y = be m (pt t) := at_word _ y (pt t) h
theorem load_at (inb) (h1) : (tbl m).at 0 (Rect.unit (s := S160) (k0_off1 (grid0.coords t)) S1.size inb) h1 = be m (pt t) := by
  refine at_one m t _ ?_
  show (BitVec.ofNat 32 (grid0.coords t 0).val).toNat + 1 * 0 = t.val
  rw [coord, small_pt]; rfl
theorem index1 : ((cfgM m hO).win 1).index t = ![0, (be m (pt t)).toNat, 0, 0] := by
  rw [← load_at m t (k0_off1_inb _) numel1_S1]; rfl
theorem index2 : ((cfgM m hO).win 2).index t = ![0, (be m (pt t)).toNat, 0, 0] := by
  rw [← load_at m t (k0_off1_inb _) numel1_S1]; rfl
theorem index3 : ((cfgM m hO).win 3).index t = ![0, (be m (pt t)).toNat, 0, 0] := by
  rw [← load_at m t (k0_off1_inb _) numel1_S1]; rfl
theorem index4 : ((cfgM m hO).win 4).index t = ![0, (be m (pt t)).toNat, 0, 0] := by
  rw [← load_at m t (k0_off1_inb _) numel1_S1]; rfl
theorem index5 : ((cfgM m hO).win 5).index t = ![t.val, 0] := by
  show ![(BitVec.ofNat 32 (grid0.coords t 0).val).toNat, 0] = _
  rw [coord, small_pt]
theorem index0 : ((cfgM m hO).win 0).index t = ![(Scalar.minsi (BitVec.ofNat 32 t.val) (Scalar.subi (nu m) 1#32)).toNat, 0] := by
  have h : (tbl m).at 2 (Rect.unit (s := S1) ![0] S1.size inb_S1_S1_0) numel1_S1 = nu m := by
    unfold nu
    exact at_one_word (tbl m 2 : S1.Idx → BitVec 32) _
  rw [← h, ← coord t]; rfl

/-- The weights' blocks are those of the block's expert: two blocks with one expert have the same. -/
theorem iblk1_congr (u : Fin grid0.N) (h : be m (pt u) = be m (pt t)) : iblk m hO c 1 u = iblk m hO c 1 t := by
  have hi := (index1 m u hO).trans ((congrArg (fun e : BitVec 32 => ![0, e.toNat, 0, 0]) h).trans (index1 m t hO).symm)
  funext y
  show V m c (Pipeline.arrRef spec0 1) ((((cfgM m hO).win 1).rect u).emb y) = V m c (Pipeline.arrRef spec0 1) ((((cfgM m hO).win 1).rect t).emb y)
  congr 1; funext a; apply Fin.ext
  show ((cfgM m hO).win 1).index u a * _ + 1 * (y a).val = ((cfgM m hO).win 1).index t a * _ + 1 * (y a).val
  rw [hi]
theorem iblk3_congr (u : Fin grid0.N) (h : be m (pt u) = be m (pt t)) : iblk m hO c 3 u = iblk m hO c 3 t := by
  have hi := (index3 m u hO).trans ((congrArg (fun e : BitVec 32 => ![0, e.toNat, 0, 0]) h).trans (index3 m t hO).symm)
  funext y
  show V m c (Pipeline.arrRef spec0 3) ((((cfgM m hO).win 3).rect u).emb y) = V m c (Pipeline.arrRef spec0 3) ((((cfgM m hO).win 3).rect t).emb y)
  congr 1; funext a; apply Fin.ext
  show ((cfgM m hO).win 3).index u a * _ + 1 * (y a).val = ((cfgM m hO).win 3).index t a * _ + 1 * (y a).val
  rw [hi]

section Blocks
variable (e : Fin 32) (he : e.val = (be m (pt t)).toNat)
include he
/-- The blocks at an index, in their arrays. -/
theorem iblk1_at (r : Fin 1024) (s : Fin 2048) :
    (iblk m hO c 1 t : Vec F S1x1x1024x2048 .f32) (ix4 0 0 r s) = (V m c main_arg2 : Vec F S4x32x1024x2048 .f32) (ix4 0 e r s) := by
  have hi := index1 m t hO
  blk_point [iblk, hi, he]
theorem iblk2_at (s : Fin 2048) :
    (iblk m hO c 2 t : Vec F S1x1x1x2048 .f32) (ix4 0 0 0 s) = (V m c main_v57 : Vec F S4x32x1x2048 .f32) (ix4 0 e 0 s) := by
  have hi := index2 m t hO
  blk_point [iblk, hi, he]
theorem iblk3_at (r s : Fin 1024) :
    (iblk m hO c 3 t : Vec F S1x1x1024x1024 .f32) (ix4 0 0 r s) = (V m c main_arg4 : Vec F S4x32x1024x1024 .f32) (ix4 0 e r s) := by
  have hi := index3 m t hO
  blk_point [iblk, hi, he]
theorem iblk4_at (s : Fin 1024) :
    (iblk m hO c 4 t : Vec F S1x1x1x1024 .f32) (ix4 0 0 0 s) = (V m c main_v58 : Vec F S4x32x1x1024 .f32) (ix4 0 e 0 s) := by
  have hi := index4 m t hO
  blk_point [iblk, hi, he]
end Blocks
theorem iblk0_at (h : (t.val : ℤ) < (nu m).toInt) (r s : Fin 512) (R : Fin 81920) (hR : R.val = 512 * t.val + r.val) :
    (iblk m hO c 0 t : Vec F S512x512 .i32) (ix2 r s) = (V m c main_arg0 : Vec F S81920x512 .i32) (ix2 R s) := by
  have hm : (Scalar.minsi (BitVec.ofNat 32 t.val) (Scalar.subi (nu m) 1#32)).toNat = t.val := by
    have hs := small_pt t
    have hl : t.val < 160 := lt_of_lt_of_eq t.isLt N_0
    have hn := BitVec.toInt_eq_toNat_cond (nu m)
    have hlt := (nu m).isLt
    have h1 : (Scalar.subi (nu m) 1#32).toNat = (nu m).toNat - 1 := by
      show ((nu m) - 1#32).toNat = _
      rw [BitVec.toNat_sub]; simp only [BitVec.toNat_ofNat]
      split_ifs at hn <;> omega
    have h2 : (nu m).toNat < 2 ^ 31 ∧ t.val < (nu m).toNat := by split_ifs at hn <;> omega
    have hT : (BitVec.ofNat 32 t.val).toInt = t.val := by rw [BitVec.toInt_eq_toNat_of_lt (by omega), hs]
    have hU : (Scalar.subi (nu m) 1#32).toInt = ((nu m).toNat - 1 : ℕ) := by rw [BitVec.toInt_eq_toNat_of_lt (by omega), h1]
    unfold Scalar.minsi IntOp.minsi
    rw [BitVec.slt, hT, hU]
    split_ifs with hc
    · exact hs
    · simp only [decide_eq_true_eq] at hc; rw [h1]; omega
  have hi := index0 m t hO
  rw [hm] at hi
  blk_point [iblk, hi, hR]
end Cert.Kernel2Ideal.Experts

end
-- ==== Proof.ExpFrame.lean ====
module

public import proofs.«01_k».proof.Proof.ExpWords

@[expose] public section
set_option maxRecDepth 16384
noncomputable section

/-! The experts' call from launch to end: at each block the two scratch buffers hold the rounded weights of the block's expert, so
    the result's block is what the body makes of the blocks of that point alone. -/
namespace Cert.Kernel2Ideal.Experts
open Idealize.ShloMosaic Idealize.ShloMosaic.TcCoe Idealize.ShloMosaic.Tactic Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hO : Ok m) (c : Dev nD)

/-- What the result's block holds after point `t`. -/
def outT (t : Fin (cfgM m hO).N) : Vec F S512x1024 .bf16 :=
  if Used c (grid0.coords t) (tbl m 2) then
    k0_pay1 (k0_pay6 (wValid c (grid0.coords t) (tbl m 1)) (iblk m hO c 0 t) (k0_pay3 (iblk m hO c 1 t)) (iblk m hO c 2 t))
      (k0_pay7 (wValid c (grid0.coords t) (tbl m 1)) (iblk m hO c 0 t) (k0_pay3 (iblk m hO c 1 t)) (iblk m hO c 2 t)) k0_pay8 (k0_pay4 (iblk m hO c 3 t)) (iblk m hO c 4 t)
  else k0_pay2

/-- What the scratch buffers hold before point `n`: the weights of the block before, where that was in use. -/
def Held (n : ℕ) (s0 : Vec F S1024x2048 .bf16) (s1 : Vec F S1024x1024 .bf16) : Prop :=
  ∀ u : Fin (cfgM m hO).N, u.val + 1 = n → Used c (grid0.coords u) (tbl m 2) → s0 = k0_pay3 (iblk m hO c 1 u) ∧ s1 = k0_pay4 (iblk m hO c 3 u)

/-- A block in use after another is after one in use. -/
theorem used_before (u t : Fin grid0.N) (h : u.val + 1 = t.val) (ht : Used c (grid0.coords t) (tbl m 2)) : Used c (grid0.coords u) (tbl m 2) := by
  rw [used_iff] at ht ⊢; omega

/-- The weights that a block in use is multiplied with are those of its expert, rounded at this block or kept from before. -/
theorem weights (t : Fin (cfgM m hO).N) (s0 : Vec F S1024x2048 .bf16) (s1 : Vec F S1024x1024 .bf16) (hH : Held m hO c t.val s0 s1)
    (hU : Used c (grid0.coords t) (tbl m 2)) :
    upW c (grid0.coords t) (iblk m hO c 1 t) s0 (tbl m 0) = k0_pay3 (iblk m hO c 1 t)
      ∧ downW c (grid0.coords t) (iblk m hO c 3 t) s1 (tbl m 0) = k0_pay4 (iblk m hO c 3 t) := by
  unfold upW downW
  by_cases hF : Fresh c (grid0.coords t) (tbl m 0)
  · rw [if_pos hF, if_pos hF]; exact ⟨rfl, rfl⟩
  · rw [if_neg hF, if_neg hF]
    obtain ⟨u, hu, he⟩ := same_of_not_fresh m c t hF
    obtain ⟨h0, h1⟩ := hH u hu (used_before m c u t hu hU)
    rw [h0, h1, iblk1_congr m c t hO u he, iblk3_congr m c t hO u he]
    exact ⟨rfl, rfl⟩

theorem out_eq (t : Fin (cfgM m hO).N) (s0 : Vec F S1024x2048 .bf16) (s1 : Vec F S1024x1024 .bf16) (hH : Held m hO c t.val s0 s1) :
    leftOut c (grid0.coords t) (iblk m hO c 0 t) (iblk m hO c 1 t) (iblk m hO c 2 t) (iblk m hO c 3 t) (iblk m hO c 4 t) s0 s1 (tbl m 0) (tbl m 1) (tbl m 2)
      = outT m hO c t := by
  unfold leftOut outT
  by_cases hU : Used c (grid0.coords t) (tbl m 2)
  · obtain ⟨h0, h1⟩ := weights m hO c t s0 s1 hH hU
    rw [if_pos hU, if_pos hU, h0, h1]
  · rw [if_neg hU, if_neg hU]
theorem held_next (t : Fin (cfgM m hO).N) (s0 : Vec F S1024x2048 .bf16) (s1 : Vec F S1024x1024 .bf16) (hH : Held m hO c t.val s0 s1) :
    Held m hO c (t.val + 1) (leftUp c (grid0.coords t) (iblk m hO c 1 t) s0 (tbl m 0) (tbl m 2)) (leftDown c (grid0.coords t) (iblk m hO c 3 t) s1 (tbl m 0) (tbl m 2)) := by
  intro u hu hU
  obtain rfl : u = t := Fin.ext (Nat.succ.inj hu)
  obtain ⟨h0, h1⟩ := weights m hO c u s0 s1 hH hU
  unfold leftUp leftDown
  rw [if_pos hU, if_pos hU, h0, h1]; exact ⟨rfl, rfl⟩

/-- The proof data of the call. -/
def dats (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outT m hO c t
  Φ n := iprop((∃ s0 s1, ⌜Held m hO c n.val s0 s1⌝ ∗ owns (c : Thread nD τ) sM0 fullShare s0 ∗ owns (c : Thread nD τ) sM1 fullShare s1)
    ∗ (∃ r, prngReg c r) ∗ Pipeline.ΦT pre0 (tbl m) c)
  q _ := fullShare
  owed _ := 0

theorem A_eq (w : Fin (cfgM m hO).W) : (dats m hO 0 c).A w = V m c (Pipeline.arrRef spec0 w) := by dsimp only [dats]
theorem after0 (t : Fin (cfgM m hO).N) : (dats m hO 0 c).after 0 t = iblk m hO c 0 t := by dsimp only [dats]; rfl
theorem after1 (t : Fin (cfgM m hO).N) : (dats m hO 0 c).after 1 t = iblk m hO c 1 t := by dsimp only [dats]; rfl
theorem after2 (t : Fin (cfgM m hO).N) : (dats m hO 0 c).after 2 t = iblk m hO c 2 t := by dsimp only [dats]; rfl
theorem after3 (t : Fin (cfgM m hO).N) : (dats m hO 0 c).after 3 t = iblk m hO c 3 t := by dsimp only [dats]; rfl
theorem after4 (t : Fin (cfgM m hO).N) : (dats m hO 0 c).after 4 t = iblk m hO c 4 t := by dsimp only [dats]; rfl
theorem after5 (t : Fin (cfgM m hO).N) : (dats m hO 0 c).after 5 t = outT m hO c t := by dsimp only [dats]; rfl
theorem before0 (t : Fin (cfgM m hO).N) (d) : (dats m hO 0 c).before 0 t d = iblk m hO c 0 t := before0_of m hO (dats m hO 0 c) (A_eq m hO c 0) (after0 m hO c) t d
theorem before1 (t : Fin (cfgM m hO).N) (d) : (dats m hO 0 c).before 1 t d = iblk m hO c 1 t := before1_of m hO (dats m hO 0 c) (A_eq m hO c 1) (after1 m hO c) t d
theorem before2 (t : Fin (cfgM m hO).N) (d) : (dats m hO 0 c).before 2 t d = iblk m hO c 2 t := before2_of m hO (dats m hO 0 c) (A_eq m hO c 2) (after2 m hO c) t d
theorem before3 (t : Fin (cfgM m hO).N) (d) : (dats m hO 0 c).before 3 t d = iblk m hO c 3 t := before3_of m hO (dats m hO 0 c) (A_eq m hO c 3) (after3 m hO c) t d
theorem before4 (t : Fin (cfgM m hO).N) (d) : (dats m hO 0 c).before 4 t d = iblk m hO c 4 t := before4_of m hO (dats m hO 0 c) (A_eq m hO c 4) (after4 m hO c) t d

/-- What the body is handed at point `t`, -/
def bodyPre (t : Fin (cfgM m hO).N) : sProp 𝕄 :=
  iprop((dats m hO 0 c).Φ t.castSucc ∗ (dats m hO 0 c).owesAt () t.castSucc
    ∗ (∃ d, owns (c : Thread nD τ) (w0 m hO t) fullShare ((dats m hO 0 c).before 0 t d))
    ∗ (∃ d, owns (c : Thread nD τ) (w1 m hO t) fullShare ((dats m hO 0 c).before 1 t d))
    ∗ (∃ d, owns (c : Thread nD τ) (w2 m hO t) fullShare ((dats m hO 0 c).before 2 t d))
    ∗ (∃ d, owns (c : Thread nD τ) (w3 m hO t) fullShare ((dats m hO 0 c).before 3 t d))
    ∗ (∃ d, owns (c : Thread nD τ) (w4 m hO t) fullShare ((dats m hO 0 c).before 4 t d))
    ∗ (∃ d, owns (c : Thread nD τ) (w5 m hO t) fullShare ((dats m hO 0 c).before 5 t d)))
/-- and what it hands back. -/
def bodyPost (t : Fin (cfgM m hO).N) : sProp 𝕄 :=
  iprop((dats m hO 0 c).Φ t.succ ∗ (dats m hO 0 c).owesAt () t.succ
    ∗ owns (c : Thread nD τ) (w0 m hO t) fullShare ((dats m hO 0 c).after 0 t)
    ∗ owns (c : Thread nD τ) (w1 m hO t) fullShare ((dats m hO 0 c).after 1 t)
    ∗ owns (c : Thread nD τ) (w2 m hO t) fullShare ((dats m hO 0 c).after 2 t)
    ∗ owns (c : Thread nD τ) (w3 m hO t) fullShare ((dats m hO 0 c).after 3 t)
    ∗ owns (c : Thread nD τ) (w4 m hO t) fullShare ((dats m hO 0 c).after 4 t)
    ∗ owns (c : Thread nD τ) (w5 m hO t) fullShare ((dats m hO 0 c).after 5 t))

set_option maxHeartbeats 800000 in
/-- The body at any point. -/
theorem body_sound (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4]
  rw [show (dats m hO 0 c).owesAt () t.succ = (dats m hO 0 c).owesAt () t.castSucc from rfl, after0, after1, after2, after3, after4, after5]
  rw [show (dats m hO 0 c).Φ t.castSucc = iprop((∃ s0 s1, ⌜Held m hO c t.val s0 s1⌝ ∗ owns (c : Thread nD τ) sM0 fullShare s0 ∗ owns (c : Thread nD τ) sM1 fullShare s1)
      ∗ (∃ r, prngReg c r) ∗ Pipeline.ΦT pre0 (tbl m) c) from rfl,
    show (dats m hO 0 c).Φ t.succ = iprop((∃ s0 s1, ⌜Held m hO c (t.val + 1) s0 s1⌝ ∗ owns (c : Thread nD τ) sM0 fullShare s0 ∗ owns (c : Thread nD τ) sM1 fullShare s1)
      ∗ (∃ r, prngReg c r) ∗ Pipeline.ΦT pre0 (tbl m) c) from rfl, tables_split]
  iintro ⟨⟨⟨%s0, %s1, %hH, HS0, HS1⟩, Hg, ⟨HT0, HT1, HT2⟩⟩, Ho, ⟨%d0, H0⟩, ⟨%d1, H1⟩, ⟨%d2, H2⟩, ⟨%d3, H3⟩, ⟨%d4, H4⟩, ⟨%d5, H5⟩⟩
  iapply (run_body c (grid0.coords t) _ _ _ _ _ _ _ _ _ _ _ _ _ _ _ _ (iblk m hO c 0 t) (iblk m hO c 1 t) (iblk m hO c 2 t) (iblk m hO c 3 t) (iblk m hO c 4 t) s0 s1 (tbl m 0) (tbl m 1) (tbl m 2) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0 HS1]
    · iexists _; iexists _
      isplitr; · ipureintro; exact held_next m hO c t s0 s1 hH
      isplitl [HS0]; · iexact HS0
      iexact HS1
    isplitl [Hg]; · iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  rw [← out_eq m hO c t s0 s1 hH]
  iexact H5

/-- The result's buffer is written at every point. -/
theorem never_idle (i : grid0.Coords) (w : BitVec 32) : (!(k0_cond1 i w == 1#1) && !(k0_cond3 i w == 1#1)) = false := by
  by_cases h1 : k0_cond1 i w = 1#1
  · rw [h1]; rfl
  · rw [(not_used i w).2 h1, Bool.and_eq_false_iff]; exact Or.inr rfl
theorem idle_no (pf : pre0.Contents (Elt F)) (i : grid0.Coords) : idle0 (F := F) pf 5 i = false := never_idle i (pf.atD 2 ![0])
set_option maxHeartbeats 4000000 in
theorem idle5 (t : Fin (cfgM m hO).N) : (cfgM m hO).idle 5 ((cfgM m hO).grid.coords t) = false := idle_no (tbl m) (grid0.coords t)

theorem body_obligation : BodyObligation (dats (F := F) m hO 0 c) (defs₀ (F := F)) Variants.none () Set.univ := fun t => by
  rw [bigSep_W0, bigSep_W0, body_row m hO, idle5]
  exact triple_restated (body_sound m hO c t) rfl .rfl fun _ => .rfl

theorem enter : iprop(Pipeline.ΦA spec0 c ∗ Pipeline.ΦT pre0 (tbl m) c) ⊢ (dats (F := F) m hO 0 c).Φ 0 := by
  rw [rest_split, show (dats m hO 0 c).Φ 0 = iprop((∃ s0 s1, ⌜Held m hO c 0 s0 s1⌝ ∗ owns (c : Thread nD τ) sM0 fullShare s0 ∗ owns (c : Thread nD τ) sM1 fullShare s1)
      ∗ (∃ r, prngReg c r) ∗ Pipeline.ΦT pre0 (tbl m) c) from rfl]
  iintro ⟨⟨⟨⟨%s0, HS0⟩, ⟨%s1, HS1⟩⟩, Hg⟩, HT⟩
  isplitl [HS0 HS1]
  · iexists s0; iexists s1
    isplitr; · ipureintro; exact fun u hu => absurd hu (Nat.succ_ne_zero _)
    isplitl [HS0]; · iexact HS0
    iexact HS1
  isplitl [Hg]; · iexact Hg
  iexact HT
theorem leave : (dats (F := F) m hO 0 c).Φ (Fin.last (cfgM m hO).N) ⊢ Pipeline.ΦA spec0 c := by
  rw [rest_split, show (dats m hO 0 c).Φ (Fin.last (cfgM m hO).N) = iprop((∃ s0 s1, ⌜Held m hO c (cfgM m hO).N s0 s1⌝ ∗ owns (c : Thread nD τ) sM0 fullShare s0 ∗ owns (c : Thread nD τ) sM1 fullShare s1)
      ∗ (∃ r, prngReg c r) ∗ Pipeline.ΦT pre0 (tbl m) c) from rfl]
  iintro ⟨⟨%s0, %s1, -, HS0, HS1⟩, Hg, -⟩
  isplitl [HS0 HS1]
  · isplitl [HS0]
    · iexists _; iexact HS0
    iexists _; iexact HS1
  iexact Hg

set_option backward.isDefEq.respectTransparency.types false in
/-- The run: every array of the call ends as the proof data say, and every other buffer as the call found it. -/
theorem run_main : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_to_call m Variants.none) (hA := A_eq m hO) (hpf := V_tbl m)
    (hin := enter m hO) (hout := leave m hO)

/-- The arguments end as they began. -/
theorem args_kept (r : PUnit × MemSt nD τ sig (Elt F)) (h : Pipeline.FramePost (Pipeline.pin pcfgs fun _ => adm m hO) (dats m hO) 0 (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have k := V_kept m c
  have out : ∀ b : Ref sig .tc, b ∈ Pipeline.restRefs sig spec0 → b ∈ [main_arg0, main_arg1, main_arg2, main_arg3, main_arg4, main_arg5] → r.2.mem ((c.tc : Thread nD τ).loc b) = m ((c.tc : Thread nD τ).loc b) :=
    fun b hb h0 => ((h c).2 b hb).trans (k b h0)
  refine ⟨?_, out main_arg1 (by decide) (by decide), ?_, out main_arg3 (by decide) (by decide), ?_, out main_arg5 (by decide) (by decide)⟩
  · exact ((h c).1 0).trans (((dats m hO 0 c).arrAt_in 0 rfl _).trans ((A_eq m hO c 0).trans (k main_arg0 (by decide))))
  · exact ((h c).1 1).trans (((dats m hO 0 c).arrAt_in 1 rfl _).trans ((A_eq m hO c 1).trans (k main_arg2 (by decide))))
  · exact ((h c).1 3).trans (((dats m hO 0 c).arrAt_in 3 rfl _).trans ((A_eq m hO c 3).trans (k main_arg4 (by decide))))

end Cert.Kernel2Ideal.Experts

end
-- ==== Proof.Route.lean ====
module

public import proofs.«01_k».proof.Proof.ExpLaunch
public import Idealize.ShloMosaic.Lib.Routing.OpsOne
public import Idealize.ShloMosaic.Lib.StableHlo.Predicate
public import Idealize.ShloMosaic.Lib.Pointwise
public import Idealize.ShloMosaic.Lib.ValueIdx

@[expose] public section
set_option maxRecDepth 16384
noncomputable section

/-! The routing's tables from the router's choices: the number of every expert's rows, where the experts' rows end, every
    block's expert, its number of rows with a token and the number of blocks in use. -/
namespace Cert.Kernel2Ideal.Route
open Idealize.ShloMosaic Idealize.ShloMosaic.TcCoe Idealize.ShloMosaic.Tactic Cert.Kernel2Ideal Cert.Kernel2Ideal.Gen

/-- How often a token has an expert among its choices. -/
def sel (idx : IVec S16384x4 32) : IVec S16384x32 32 :=
  Host.reduce IntOp.addi (extui 32 (cmpi .eq (broadcastInDim S16384x4x32 ![0, 1, 2] bcast_S16384x4x1_S16384x4x32_0_1_2 (broadcastInDim S16384x4x1 ![0, 1] bcast_S16384x4_S16384x4x1_0_1 idx))
    (broadcastInDim S16384x4x32 ![0, 1, 2] bcast_S1x1x32_S16384x4x32_0_1_2 (broadcastInDim S1x1x32 ![2] bcast_S32_S1x1x32_2 (iotaInDim S32 32 0)))) natLt_1_32)
    (constantI S_ 32 0#32) reducesTo_S16384x4x32_S16384x32_d1 h_S_
/-- An expert's number of rows, as the kernel counts: the last of the running sums over the tokens. -/
def counts (x : IVec S16384x32 32) : IVec S32 32 :=
  shapeCast S32 (extractStridedSlice S1x32 ![16383, 0]
    (Host.reduceWindow IntOp.addi ![16384, 1] ![1, 1] ![16383, 0] ![0, 0] x (broadcastInDim S_ ![] bcast_S_S_ (constantI S_ 32 0#32)) reduceWindows_S16384x32_S16384x32_w16384s1p16383_0_w1s1p0_0 h_S_)
    slices_S16384x32_S1x32_16383_0) shapeCasts_S1x32_S32
/-- The rows of an expert, padded to whole blocks. -/
def padded (c : IVec S32 32) : IVec S32 32 :=
  let x : IVec S32 32 := subi (addi c (broadcastInDim S32 ![] bcast_S_S32 (constantI S_ 32 512#32))) (broadcastInDim S32 ![] bcast_S_S32 (constantI S_ 32 1#32))
  let d : IVec S_ 32 := id (constantI S_ 32 512#32)
  let q : IVec S32 32 := Host.divsi x (broadcastInDim S32 ![] bcast_S_S32 d)
  muli (select (andi (cmpi .ne (signi x) (broadcastInDim S32 ![] bcast_S_S32 (signi d))) (cmpi .ne (Host.remsi x (broadcastInDim S32 ![] bcast_S_S32 d)) (broadcastInDim S32 ![] bcast_S_S32 (constantI S_ 32 0#32))))
    (subi q (broadcastInDim S32 ![] bcast_S_S32 (constantI S_ 32 1#32))) q) (broadcastInDim S32 ![] bcast_S_S32 (constantI S_ 32 512#32))
/-- Where the experts' padded rows end. -/
def ends (p : IVec S32 32) : IVec S32 32 :=
  Host.reduceWindow IntOp.addi ![32] ![1] ![31] ![0] p (broadcastInDim S_ ![] bcast_S_S_ (constantI S_ 32 0#32)) reduceWindows_S32_S32_w32s1p31_0 h_S_
/-- Where the blocks start. -/
def starts : IVec S160 32 := muli (iotaInDim S160 32 0) (broadcastInDim S160 ![] bcast_S_S160 (constantI S_ 32 512#32))
/-- Every block's expert. -/
def expert (e : IVec S32 32) : IVec S160 32 :=
  minsi (Host.reduce IntOp.addi (extui 32 (cmpi .sge (broadcastInDim S160x32 ![0, 1] bcast_S160x1_S160x32_0_1 (broadcastInDim S160x1 ![0] bcast_S160_S160x1_0 starts))
      (broadcastInDim S160x32 ![0, 1] bcast_S1x32_S160x32_0_1 (broadcastInDim S1x32 ![1] bcast_S32_S1x32_1 e))) natLt_1_32) (constantI S_ 32 0#32) reducesTo_S160x32_S160_d1 h_S_)
    (broadcastInDim S160 ![] bcast_S_S160 (constantI S_ 32 31#32))
/-- Where the rows of a block's expert end: an entry of `v`, picked by a sum over the experts. -/
def picked (b : IVec S160 32) (v : IVec S32 32) : IVec S160 32 :=
  Host.reduce IntOp.addi (select (cmpi .eq (broadcastInDim S160x32 ![0, 1] bcast_S160x1_S160x32_0_1 (broadcastInDim S160x1 ![0] bcast_S160_S160x1_0 b))
      (broadcastInDim S160x32 ![0, 1] bcast_S1x32_S160x32_0_1 (broadcastInDim S1x32 ![1] bcast_S32_S1x32_1 (iotaInDim S32 32 0))))
      (broadcastInDim S160x32 ![0, 1] bcast_S1x32_S160x32_0_1 (broadcastInDim S1x32 ![1] bcast_S32_S1x32_1 v)) (broadcastInDim S160x32 ![] bcast_S_S160x32 (id (constantI S_ 32 0#32)))) (constantI S_ 32 0#32) reducesTo_S160x32_S160_d1 h_S_
/-- A number of rows between none and a whole block. -/
def clipped (x : IVec S160 32) : IVec S160 32 :=
  minsi (broadcastInDim S160 ![] bcast_S_S160 (id (constantI S_ 32 512#32))) (maxsi (broadcastInDim S160 ![] bcast_S_S160 (id (constantI S_ 32 0#32))) x)
/-- The number of blocks in use. -/
def used (e : IVec S32 32) : IVec S_ 32 :=
  let x : IVec S_ 32 := shapeCast S_ (extractStridedSlice S1 ![31] e slices_S32_S1_31) shapeCasts_S1_S_
  let d : IVec S_ 32 := id (constantI S_ 32 512#32)
  select (andi (cmpi .ne (signi x) (signi d)) (cmpi .ne (Host.remsi x d) (constantI S_ 32 0#32))) (subi (Host.divsi x d) (constantI S_ 32 1#32)) (Host.divsi x d)

/-! ## What they hold -/

theorem fold_sum {ι : Type} [DecidableEq ι] (S : Finset ι) (f : ι → BitVec 32) : S.fold IntOp.addi 0#32 f = ∑ i ∈ S, f i := by
  induction S using Finset.cons_induction with
  | empty => rfl
  | cons a S ha ih => rw [Finset.fold_cons, Finset.sum_cons, ih]; rfl

/-- A sum down the rows of a matrix. -/
theorem sum_rows {n k : ℕ} (x : IVec ⟨2, ![n, k]⟩ 32) (h : (⟨2, ![n, k]⟩ : Shape).ReducesTo [0] ⟨1, ![k]⟩) {u : Shape} (hu : 0 < u.numel) (j : Fin k) :
    Host.reduce IntOp.addi x (constantI u 32 0#32) h hu (ix1 j) = ∑ p : Fin n, x (ix2 p j) := by
  classical
  rw [Host.reduce_eq_fold]
  have hdrop : ∀ i : (⟨2, ![n, k]⟩ : Shape).Idx, h.drop i = ix1 j ↔ i 1 = j := by
    intro i
    have hv : (h.drop i 0 : Nat) = i 1 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![n, k]⟩ : Shape).Idx, i 1 = j → ix2 (i 0) j = i := fun i h1 => by
    funext b; match b with
    | ⟨0, _⟩ => rfl
    | ⟨1, _⟩ => exact h1.symm
  refine (fold_sum _ _).trans ?_
  exact Finset.sum_bij' (fun i _ => i 0) (fun p _ => ix2 p j) (fun _ _ => Finset.mem_univ _)
    (fun p _ => Finset.mem_filter.2 ⟨Finset.mem_univ _, (hdrop _).2 rfl⟩)
    (fun i hi => hback i ((hdrop i).1 (Finset.mem_filter.1 hi).2)) (fun _ _ => rfl)
    (fun i hi => congrArg x (hback i ((hdrop i).1 (Finset.mem_filter.1 hi).2)).symm)
/-- A sum along the rows of a matrix. -/
theorem sum_cols {n k : ℕ} (x : IVec ⟨2, ![n, k]⟩ 32) (h : (⟨2, ![n, k]⟩ : Shape).ReducesTo [1] ⟨1, ![n]⟩) {u : Shape} (hu : 0 < u.numel) (j : Fin n) :
    Host.reduce IntOp.addi x (constantI u 32 0#32) h hu (ix1 j) = ∑ p : Fin k, x (ix2 j p) := by
  classical
  rw [Host.reduce_eq_fold]
  have hdrop : ∀ i : (⟨2, ![n, k]⟩ : Shape).Idx, h.drop i = ix1 j ↔ i 0 = j := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![n, k]⟩ : Shape).Idx, i 0 = j → ix2 j (i 1) = i := fun i h1 => by
    funext b; match b with
    | ⟨0, _⟩ => exact h1.symm
    | ⟨1, _⟩ => rfl
  refine (fold_sum _ _).trans ?_
  exact Finset.sum_bij' (fun i _ => i 1) (fun p _ => ix2 j p) (fun _ _ => Finset.mem_univ _)
    (fun p _ => Finset.mem_filter.2 ⟨Finset.mem_univ _, (hdrop _).2 rfl⟩)
    (fun i hi => hback i ((hdrop i).1 (Finset.mem_filter.1 hi).2)) (fun _ _ => rfl)
    (fun i hi => congrArg x (hback i ((hdrop i).1 (Finset.mem_filter.1 hi).2)).symm)

/-- The last of the running sums is the sum over the tokens. -/
theorem counts_at (x : IVec S16384x32 32) (j : Fin 32) : counts x (ix1 j) = ∑ p : Fin 16384, x (ix2 p j) := by
  have h : counts x (ix1 j) = Host.reduceWindow IntOp.addi ![16384, 1] ![1, 1] ![16383, 0] ![0, 0] x (broadcastInDim S_ ![] bcast_S_S_ (constantI S_ 32 0#32)) reduceWindows_S16384x32_S16384x32_w16384s1p16383_0_w1s1p0_0 h_S_ (ix2 ⟨16383, by omega⟩ j) := by
    unfold counts
    generalize Host.reduceWindow IntOp.addi ![16384, 1] ![1, 1] ![16383, 0] ![0, 0] x (broadcastInDim S_ ![] bcast_S_S_ (constantI S_ 32 0#32)) reduceWindows_S16384x32_S16384x32_w16384s1p16383_0_w1s1p0_0 h_S_ = y
    pointwise
  rw [h]
  refine (Routing.cumsum_rows_sum (A := 16384) (Am1 := 16383) (N := 32) rfl x _ rfl _ _ ⟨16383, by omega⟩ j).trans ?_
  exact Finset.sum_congr rfl fun p _ => if_pos (Fin.le_def.mpr (by have := p.isLt; show p.val ≤ 16383; omega))

theorem counts_eq (x : IVec S16384x32 32) (h : (⟨2, ![16384, 32]⟩ : Shape).ReducesTo [0] ⟨1, ![32]⟩) (hu : 0 < S_.numel) :
    Host.reduce IntOp.addi x (constantI S_ 32 0#32) h hu = counts x := by
  funext i
  rw [show i = ix1 (i 0) from by funext a; obtain rfl : a = 0 := Subsingleton.elim _ _; rfl]
  exact (sum_rows x h hu (i 0)).trans (counts_at x (i 0)).symm

/-- Every block's expert is one of the 32. -/
theorem expert_range (e : IVec S32 32) (j : Fin 160) : (expert e (ix1 j)).toNat < 32 := by
  unfold expert
  have h := StableHlo.Predicate.toNat_reduce_count_cols (n := 160) (m := 32) (by norm_num) (cmpi .sge (broadcastInDim S160x32 ![0, 1] bcast_S160x1_S160x32_0_1 (broadcastInDim S160x1 ![0] bcast_S160_S160x1_0 starts))
      (broadcastInDim S160x32 ![0, 1] bcast_S1x32_S160x32_0_1 (broadcastInDim S1x32 ![1] bcast_S32_S1x32_1 e))) natLt_1_32 reducesTo_S160x32_S160_d1 h_S_ (ix1 j)
  have hc := Finset.card_le_univ (Finset.univ.filter (fun q : Fin 32 => (cmpi .sge (broadcastInDim S160x32 ![0, 1] bcast_S160x1_S160x32_0_1 (broadcastInDim S160x1 ![0] bcast_S160_S160x1_0 starts))
      (broadcastInDim S160x32 ![0, 1] bcast_S1x32_S160x32_0_1 (broadcastInDim S1x32 ![1] bcast_S32_S1x32_1 e))) (StableHlo.Predicate.ij ((ix1 j : (⟨1, ![160]⟩ : Shape).Idx) 0) q) = 1#1))
  rw [← h, Fintype.card_fin] at hc
  revert hc
  generalize Host.reduce IntOp.addi (extui 32 (cmpi .sge (broadcastInDim S160x32 ![0, 1] bcast_S160x1_S160x32_0_1 (broadcastInDim S160x1 ![0] bcast_S160_S160x1_0 starts))
      (broadcastInDim S160x32 ![0, 1] bcast_S1x32_S160x32_0_1 (broadcastInDim S1x32 ![1] bcast_S32_S1x32_1 e))) natLt_1_32) (constantI S_ 32 0#32) reducesTo_S160x32_S160_d1 h_S_ = y
  intro hc
  show (IntOp.minsi (y (ix1 j)) 31#32).toNat < 32
  generalize y (ix1 j) = w at hc
  have e1 := BitVec.toInt_eq_toNat_of_lt (x := w) (by omega)
  unfold IntOp.minsi
  simp only [BitVec.slt, e1, decide_eq_true_eq]
  split_ifs with hh
  · have : (31#32 : BitVec 32).toInt = 31 := by decide
    omega
  · decide

/-- The picked entry is the one of the block's expert. -/
theorem picked_at (b : IVec S160 32) (v : IVec S32 32) (j : Fin 160) (e : Fin 32) (he : b (ix1 j) = BitVec.ofNat 32 e.val) : picked b v (ix1 j) = v (ix1 e) := by
  unfold picked
  refine (sum_cols _ _ _ j).trans ?_
  have h (p : Fin 32) : (select (cmpi .eq (broadcastInDim S160x32 ![0, 1] bcast_S160x1_S160x32_0_1 (broadcastInDim S160x1 ![0] bcast_S160_S160x1_0 b))
      (broadcastInDim S160x32 ![0, 1] bcast_S1x32_S160x32_0_1 (broadcastInDim S1x32 ![1] bcast_S32_S1x32_1 (iotaInDim S32 32 0))))
      (broadcastInDim S160x32 ![0, 1] bcast_S1x32_S160x32_0_1 (broadcastInDim S1x32 ![1] bcast_S32_S1x32_1 v)) (broadcastInDim S160x32 ![] bcast_S_S160x32 (id (constantI S_ 32 0#32))) : IVec S160x32 32) (ix2 j p)
      = if e = p then v (ix1 p) else 0#32 := by
    have h1 := Routing.bcRows bcast_S160_S160x1_0 bcast_S160x1_S160x32_0_1 b j p
    have h2 := Routing.bcCols bcast_S32_S1x32_1 bcast_S1x32_S160x32_0_1 (iotaInDim S32 32 0 : IVec S32 32) j p
    have h3 := Routing.bcCols bcast_S32_S1x32_1 bcast_S1x32_S160x32_0_1 v j p
    show Scalar.select (IntOp.cmpi .eq (broadcastInDim S160x32 ![0, 1] bcast_S160x1_S160x32_0_1 (broadcastInDim S160x1 ![0] bcast_S160_S160x1_0 b) (ix2 j p)) (broadcastInDim S160x32 ![0, 1] bcast_S1x32_S160x32_0_1 (broadcastInDim S1x32 ![1] bcast_S32_S1x32_1 (iotaInDim S32 32 0)) (ix2 j p)))
      (broadcastInDim S160x32 ![0, 1] bcast_S1x32_S160x32_0_1 (broadcastInDim S1x32 ![1] bcast_S32_S1x32_1 v) (ix2 j p)) 0#32 = _
    erw [h1, h2, h3, he]
    show Scalar.select (IntOp.cmpi .eq (BitVec.ofNat 32 e.val) (BitVec.ofNat 32 p.val)) _ _ = _
    have : ∀ e p : Fin 32, IntOp.cmpi .eq (BitVec.ofNat 32 e.val) (BitVec.ofNat 32 p.val) = if e = p then 1#1 else 0#1 := by decide +kernel
    rw [this]
    unfold Scalar.select
    by_cases hep : e = p
    · rw [if_pos hep, if_pos hep]; rfl
    · rw [if_neg hep, if_neg hep]; rfl
  rw [Finset.sum_congr rfl fun p _ => h p]
  refine (Finset.sum_ite_eq Finset.univ e fun p => (v (ix1 p) : BitVec 32)).trans ?_
  exact if_pos (Finset.mem_univ _)

/-- Below a whole block, the clipped number says the same of a row. -/
theorem clipped_at (x : IVec S160 32) (j : Fin 160) (r : Fin 512) :
    IntOp.cmpi .slt (BitVec.ofNat 32 r.val) (clipped x (ix1 j)) = IntOp.cmpi .slt (BitVec.ofNat 32 r.val) (x (ix1 j)) := by
  show IntOp.cmpi .slt (BitVec.ofNat 32 r.val) (IntOp.minsi 512#32 (IntOp.maxsi 0#32 (x (ix1 j)))) = _
  generalize x (ix1 j) = w
  have hr : (BitVec.ofNat 32 r.val).toInt = r.val := StableHlo.Predicate.toInt_ofNat_small _ (by have := r.isLt; omega)
  have h5 : (512#32 : BitVec 32).toInt = 512 := by decide
  have h0 : (0#32 : BitVec 32).toInt = 0 := by decide
  have hl := r.isLt
  unfold IntOp.cmpi
  dsimp only
  congr 1
  simp only [BitVec.slt]
  refine decide_eq_decide.mpr ?_
  unfold IntOp.minsi IntOp.maxsi
  simp only [BitVec.slt, decide_eq_true_eq]
  rw [hr]
  split_ifs <;> simp only [h0, h5] at * <;> omega

end Cert.Kernel2Ideal.Route

end
-- ==== Proof.RouteTables.lean ====
module

public import proofs.«01_k».proof.Proof.Route
public import Idealize.ShloMosaic.Lib.StableHlo.ReadAt

@[expose] public section
set_option maxRecDepth 16384
noncomputable section

/-! The tables that the experts' call is given are those of `Route`, and its biases are the arguments with one axis more. -/
namespace Cert.Kernel2Ideal.Experts
open Idealize.ShloMosaic Idealize.ShloMosaic.TcCoe Idealize.ShloMosaic.Tactic Cert.Kernel2Ideal Cert.Kernel2Ideal.Gen Cert.Kernel2Ideal.Route

variable {F : FTy → Type} [FloatOps F]
variable (m : (ℓ : Loc nD τ sig) → Buf (Elt F) ℓ) (c : Dev nD)

/-- The router's choices, the experts' numbers of rows and the ends of their padded rows. -/
def choices : IVec S16384x4 32 := m ((c.tc : Thread nD τ).loc main_arg1)
def rows : IVec S32 32 := counts (sel (choices m c))
def stops : IVec S32 32 := ends (padded (rows m c))

set_option maxHeartbeats 4000000 in
theorem V_expert : (V m c main_v38 : IVec S160 32) = expert (stops m c) := by
  rw [V_eq]
  unfold VAfter
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V_rows : (V m c main_v50 : IVec S160 32)
    = clipped (subi (picked (expert (stops m c)) (addi (subi (stops m c) (padded (rows m c))) (rows m c))) starts) := by
  rw [V_eq]
  unfold VAfter
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V_used : (V m c main_v54 : IVec S1 32) = shapeCast S1 (used (stops m c)) shapeCasts_S_S1 := by
  rw [V_eq]
  unfold VAfter
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V_up : (V m c main_v57 : FVec F S4x32x1x2048 .f32) = shapeCast S4x32x1x2048 (m ((c.tc : Thread nD τ).loc main_arg3) : FVec F S4x32x2048 .f32) shapeCasts_S4x32x2048_S4x32x1x2048 := by
  rw [V_eq]
  unfold VAfter
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V_down : (V m c main_v58 : FVec F S4x32x1x1024 .f32) = shapeCast S4x32x1x1024 (m ((c.tc : Thread nD τ).loc main_arg5) : FVec F S4x32x1024 .f32) shapeCasts_S4x32x1024_S4x32x1x1024 := by
  rw [V_eq]
  unfold VAfter
  simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

end Cert.Kernel2Ideal.Experts

end
-- ==== Proof.Expert.lean ====
module

public import Idealize.ShloMosaic.Lib.Pointwise
public import Idealize.ShloMosaic.PureOps.Ideal

@[expose] public section
noncomputable section

/-! An expert's layer over the extended reals, at one row of a block: what the kernel's payloads and the reference's operations are
    both shown to hold. -/
namespace Cert.Expert
open Idealize.ShloMosaic

/-- The limit 7 of the gate and of the linear half, and the factor 1.702 (both as the program's f32 words). -/
def hi : EReal := (Ideal.ofBits .f32 1088421888#32 : EReal)
def lo : EReal := (Ideal.ofBits .f32 3235905536#32 : EReal)
def steep : EReal := (Ideal.ofBits .f32 1071242019#32 : EReal)

/-- One hidden number: the row times a column of the first weights, with the bias; a row without a token (`ok` is 0) counts as zeros. -/
def hid (ok : BitVec 1) (x w : Fin 1024 → EReal) (b : EReal) : EReal := (∑ k, Scalar.select ok (x k * w k) 0) + b
/-- The gated unit of a pair of hidden numbers. -/
def gated (g l : EReal) : EReal := min g hi * Ideal.logistic (steep * min g hi) * (min hi (max lo l) + 1)
/-- The row's activations, and what the expert gives for the row. -/
def act (ok : BitVec 1) (x : Fin 1024 → EReal) (w : Fin 1024 → Fin 2048 → EReal) (b : Fin 2048 → EReal) (j : Fin 1024) : EReal :=
  gated (hid ok x (fun k => w k ⟨j.val, by omega⟩) (b ⟨j.val, by omega⟩)) (hid ok x (fun k => w k ⟨1024 + j.val, by omega⟩) (b ⟨1024 + j.val, by omega⟩))
def row (ok : BitVec 1) (x : Fin 1024 → EReal) (w : Fin 1024 → Fin 2048 → EReal) (b : Fin 2048 → EReal) (w' : Fin 1024 → Fin 1024 → EReal)
    (b' : Fin 1024 → EReal) (s : Fin 1024) : EReal := (∑ j, act ok x w b j * w' j s) + b' s

end Cert.Expert

end
-- ==== Proof.Comb.lean ====
module

public import Idealize.ShloMosaic.Lib.Pointwise
public import Idealize.ShloMosaic.Lib.ValueIdx

@[expose] public section
noncomputable section

/-! A token's result: its four experts' rows weighted by the gates and added to the scaled input, then normalized over the row. -/
namespace Cert.Comb
open Idealize.ShloMosaic

/-- Entry `l` of a row of 512 words: the first half in the words' low parts, the second half in their high parts. -/
def entry (q : Fin 512 → BitVec 32) (l : Fin 1024) : EReal :=
  if h : l.val < 512 then Ideal.ofBits .f32 (IntOp.shli .vector (q ⟨l.val, h⟩) 16#32)
  else Ideal.ofBits .f32 (IntOp.andi (q ⟨l.val - 512, by omega⟩) 4294901760#32)

/-- The scaled input with the four weighted rows added one after another, at an entry. -/
def total (h : EReal) (g y : Fin 4 → EReal) : EReal :=
  Ideal.ofBits .f32 0x3FD744FD#32 * h + g 0 * y 0 + g 1 * y 1 + g 2 * y 2 + g 3 * y 3

/-- A row's mean. -/
def mean (z : Fin 1024 → EReal) : EReal := Ideal.div (∑ x, z x) (Ideal.ofBits .f32 0x44800000#32)

/-- A row less its mean, over the root of its variance, with a weight and a bias. -/
def normed (z : Fin 1024 → EReal) (g b : EReal) (l : Fin 1024) : EReal :=
  (z l - mean z) * Ideal.rsqrt (mean (fun x => (z x - mean z) * (z x - mean z)) + Ideal.ofBits .f32 0x3727C5AC#32) * g + b

/-- The sum over the rows first, then the input. -/
theorem total_sum (h : EReal) (g y : Fin 4 → EReal) : Ideal.ofBits .f32 0x3FD744FD#32 * h + ∑ k, g k * y k = total h g y := by
  unfold total
  rw [Fin.sum_univ_four]
  simp only [add_assoc]

/-- A row that counts only under `ok`, else as zero words: its entries count under `ok`, else as zeros. -/
theorem entry_masked (ok : BitVec 1) (q : Fin 512 → BitVec 32) (l : Fin 1024) :
    entry (fun j => Scalar.select ok (q j) 0#32) l = Scalar.select ok (entry q l) 0 := by
  have h0 : Ideal.ofBits .f32 0#32 = 0 := Ideal.ofBits_zero_f32
  have h1 : IntOp.shli .vector 0#32 16#32 = 0#32 := by decide
  have h2 : IntOp.andi 0#32 4294901760#32 = 0#32 := by decide
  unfold Scalar.select entry
  by_cases h : ok = 1
  · simp only [if_pos h]
  · simp only [if_neg h, h1, h2, h0, dite_eq_ite, ite_self]

end Cert.Comb

end
-- ==== Proof.ExpPay.lean ====
module

public import proofs.«01_k».proof.Proof.Gen.Kernel2Ideal.Skeleton
public import proofs.«01_k».proof.Proof.Expert
public import proofs.«01_k».proof.Proof.Comb
public import Idealize.ShloMosaic.Lib.Pointwise
public import Idealize.ShloMosaic.Lib.WordCmp
public import Idealize.ShloMosaic.Lib.Tactic.CleanTypes

@[expose] public section
set_option maxRecDepth 16384
noncomputable section

/-! What the experts' payloads hold at an index. -/
namespace Cert.Kernel2Ideal.Pay
open Idealize.ShloMosaic Idealize.ShloMosaic.TcCoe Idealize.ShloMosaic.Tactic Cert.Kernel2Ideal Cert.Kernel2Ideal.Gen

theorem up_at (w : Vec Ideal S1x1x1024x2048 .f32) (r : Fin 1024) (s : Fin 2048) : (k0_pay3 w) (ix2 r s) = w (ix4 0 0 r s) := by
  unfold k0_pay3; pointwise
theorem down_at (w : Vec Ideal S1x1x1024x1024 .f32) (r s : Fin 1024) : (k0_pay4 w) (ix2 r s) = w (ix4 0 0 r s) := by
  unfold k0_pay4; pointwise
theorem none_at (r : Fin 512) (s : Fin 1024) : (k0_pay2 (F := Ideal)) (ix2 r s) = (0 : EReal) := by
  unfold k0_pay2; pointwise
/-- The block's rows, unpacked from their words; a row without a token counts as zero words. -/
def rows (n : BitVec 32) (x : Vec Ideal S512x512 .i32) : FVec Ideal S512x1024 .bf16 :=
  truncf .bf16 (concatenate S512x1024 1
    [⟨S512x512, bitcastToFloat .f32 (shli (select (cmpi .slt (iota .tc S512x512 32 [0] iota_S512x512_d0_w32) (broadcast S512x512 n)) x (broadcast S512x512 0#32)) (broadcast S512x512 16#32))⟩,
      ⟨S512x512, bitcastToFloat .f32 (andi (select (cmpi .slt (iota .tc S512x512 32 [0] iota_S512x512_d0_w32) (broadcast S512x512 n)) x (broadcast S512x512 0#32)) (broadcast S512x512 4294901760#32))⟩]
    concatenates_S512x512_S512x512_S512x1024_d1 : FVec Ideal S512x1024 .f32) bitsLt_bf16_f32
/-- The first product with its bias. -/
def hidden (x : FVec Ideal S512x1024 .bf16) (w : FVec Ideal S1024x2048 .bf16) (b : FVec Ideal S1x1x1x2048 .f32) : FVec Ideal S512x2048 .f32 :=
  addf (matmul dot_S512x1024_S1024x2048_S512x2048_1_0_0_1_n_n none x w (constant S512x2048 .f32 0x00000000#32))
    (broadcastTo S512x2048 (shapeCast S1x2048 b shapeCasts_S1x1x1x2048_S1x2048) broadcasts_S1x2048_S512x2048)
theorem hidden_eq (n : BitVec 32) (x : Vec Ideal S512x512 .i32) (w : FVec Ideal S1024x2048 .bf16) (b : FVec Ideal S1x1x1x2048 .f32) :
    k0_pay5 (F := Ideal) n x w b = hidden (rows n x) w b := rfl
theorem rows_at (n : BitVec 32) (x : Vec Ideal S512x512 .i32) (r : Fin 512) (k : Fin 1024) :
    (rows n x) (ix2 r k) = (Scalar.select (IntOp.cmpi .slt (BitVec.ofNat 32 r.val) n) (Comb.entry (fun j => x (ix2 r j)) k) 0 : EReal) := by
  rw [← Comb.entry_masked]
  unfold rows Comb.entry
  pointwise
theorem hidden_at (x : FVec Ideal S512x1024 .bf16) (w : FVec Ideal S1024x2048 .bf16) (b : FVec Ideal S1x1x1x2048 .f32) (r : Fin 512) (s : Fin 2048) :
    (hidden x w b) (ix2 r s) = (∑ k, x (ix2 r k) * w (ix2 k s) : EReal) + b (ix4 0 0 0 s) := by
  unfold hidden; pointwise
theorem hid_at (n : BitVec 32) (x : Vec Ideal S512x512 .i32) (w : FVec Ideal S1024x2048 .bf16) (b : FVec Ideal S1x1x1x2048 .f32) (r : Fin 512) (s : Fin 2048) :
    (k0_pay5 (F := Ideal) n x w b) (ix2 r s)
      = Expert.hid (IntOp.cmpi .slt (BitVec.ofNat 32 r.val) n) (Comb.entry (fun j => x (ix2 r j))) (fun k => w (ix2 k s)) (b (ix4 0 0 0 s)) := by
  rw [hidden_eq, hidden_at]
  unfold Expert.hid
  refine congrArg (· + _) (Finset.sum_congr rfl fun k _ => ?_)
  rw [rows_at]
  unfold Scalar.select
  split <;> simp
theorem gate_at (n : BitVec 32) (x : Vec Ideal S512x512 .i32) (w : FVec Ideal S1024x2048 .bf16) (b : FVec Ideal S1x1x1x2048 .f32) (r : Fin 512) (s : Fin 1024) :
    (k0_pay6 (F := Ideal) n x w b) (ix2 r s) = (min ((k0_pay5 (F := Ideal) n x w b) (ix2 r ⟨s.val, by omega⟩)) Expert.hi : EReal) := by
  unfold k0_pay6; generalize k0_pay5 (F := Ideal) n x w b = h; pointwise; rfl
theorem lin_at (n : BitVec 32) (x : Vec Ideal S512x512 .i32) (w : FVec Ideal S1024x2048 .bf16) (b : FVec Ideal S1x1x1x2048 .f32) (r : Fin 512) (s : Fin 1024) :
    (k0_pay7 (F := Ideal) n x w b) (ix2 r s) = (max Expert.lo ((k0_pay5 (F := Ideal) n x w b) (ix2 r ⟨1024 + s.val, by omega⟩)) : EReal) := by
  unfold k0_pay7; generalize k0_pay5 (F := Ideal) n x w b = h; pointwise; rfl
theorem out_at (g l : FVec Ideal S512x1024 .f32) (w : FVec Ideal S1024x1024 .bf16) (b : FVec Ideal S1x1x1x1024 .f32) (r : Fin 512) (s : Fin 1024) :
    (k0_pay1 g l (k0_pay8 (F := Ideal)) w b) (ix2 r s)
      = (∑ j, g (ix2 r j) * Ideal.logistic (Expert.steep * g (ix2 r j)) * (min Expert.hi (l (ix2 r j)) + 1) * w (ix2 j s) : EReal) + b (ix4 0 0 0 s) := by
  unfold k0_pay1 k0_pay8; pointwise; rfl

/-- A block's row: the first product, the gate, the second product, on the block's own weights. -/
theorem row_at (n : BitVec 32) (x : Vec Ideal S512x512 .i32) (w : Vec Ideal S1x1x1024x2048 .f32) (b : FVec Ideal S1x1x1x2048 .f32)
    (w' : Vec Ideal S1x1x1024x1024 .f32) (b' : FVec Ideal S1x1x1x1024 .f32) (r : Fin 512) (s : Fin 1024) :
    (k0_pay1 (k0_pay6 n x (k0_pay3 w) b) (k0_pay7 n x (k0_pay3 w) b) (k0_pay8 (F := Ideal)) (k0_pay4 w') b') (ix2 r s)
      = Expert.row (IntOp.cmpi .slt (BitVec.ofNat 32 r.val) n) (Comb.entry (fun j => x (ix2 r j))) (fun k c => w (ix4 0 0 k c)) (fun c => b (ix4 0 0 0 c))
          (fun j c => w' (ix4 0 0 j c)) (fun c => b' (ix4 0 0 0 c)) s := by
  rw [out_at]; unfold Expert.row Expert.act Expert.gated
  refine congrArg (· + _) (Finset.sum_congr rfl fun j _ => ?_)
  rw [gate_at, lin_at, hid_at, hid_at, down_at]
  simp only [up_at]

end Cert.Kernel2Ideal.Pay

end
-- ==== Proof.ExpValue.lean ====
module

public import proofs.«01_k».proof.Proof.ExpFrame
public import proofs.«01_k».proof.Proof.ExpOk
public import proofs.«01_k».proof.Proof.ExpPay

@[expose] public section
set_option maxRecDepth 16384
noncomputable section

/-! The array that the experts' call returns: row `512 j + r` is row `r` of what block `j`'s point leaves. -/
namespace Cert.Kernel2Ideal.Experts
open Idealize.ShloMosaic Idealize.ShloMosaic.TcCoe Idealize.ShloMosaic.Tactic Cert.Kernel2Ideal Cert.Kernel2Ideal.Gen

section Array
variable {F : FTy → Type} [FloatOps F]
variable (m : (ℓ : Loc nD τ sig) → Buf (Elt F) ℓ) (ρ : Dev nD → PrngReg) (hO : Ok m) (c : Dev nD)

/-- The point of a row, and the row's place in its block. -/
abbrev ptOf (R : ℕ) (h : R < 81920) : Fin (cfgM m hO).N := (⟨R / 512, lt_of_lt_of_eq (by omega) N_0.symm⟩ : Fin grid0.N)
abbrev inBlock (R : ℕ) : Fin 512 := ⟨R % 512, by omega⟩

def G : Buf (Elt F) ((c : Thread nD τ).loc main_v59) := fun i : S81920x1024.Idx =>
  outT m hO c (ptOf m hO (i 0).val (i 0).isLt) (ix2 (inBlock (i 0).val) (i 1))

theorem outT_congr (t u : Fin (cfgM m hO).N) (h : t = u) (y z : S512x1024.Idx) (hy : y = z) : outT m hO c t y = outT m hO c u z := by subst h hy; rfl

theorem flushes (t : Fin (cfgM m hO).N) : ((cfgM m hO).win 5).flush t = true := by
  show Pipeline.Window.flush _ t = true
  rw [Pipeline.Window.flush_eq_flushOf]
  exact (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _)

/-- Where point `t`'s block lies in the array. -/
def emb5 (t : Fin (cfgM m hO).N) (y : S512x1024.Idx) : S81920x1024.Idx := (((cfgM m hO).win 5).blk t).view.emb y
theorem emb5_0 (t : Fin (cfgM m hO).N) (y : S512x1024.Idx) : (emb5 m hO t y 0).val = t.val * 512 + 1 * (y 0).val := by
  show ((cfgM m hO).win 5).index t (0 : Fin 2) * 512 + 1 * (y 0).val = _
  rw [index5 m t hO]; rfl
theorem emb5_1 (t : Fin (cfgM m hO).N) (y : S512x1024.Idx) : (emb5 m hO t y 1).val = 0 * 1024 + 1 * (y 1).val := by
  show ((cfgM m hO).win 5).index t (1 : Fin 2) * 1024 + 1 * (y 1).val = _
  rw [index5 m t hO]; rfl
theorem G_at (t : Fin (cfgM m hO).N) (y : S512x1024.Idx) : outT m hO c t y = G m hO c (emb5 m hO t y) := by
  have hy0 : (y 0).val < 512 := (y 0).isLt
  have h0 := emb5_0 m hO t y
  have h1 := emb5_1 m hO t y
  refine outT_congr m hO c _ _ (Fin.ext ?_) _ _ (funext fun a => Fin.ext ?_)
  · show t.val = (emb5 m hO t y 0).val / 512
    omega
  · match a with
    | ⟨0, _⟩ => show (y 0).val = (emb5 m hO t y 0).val % 512; omega
    | ⟨1, _⟩ => show (y 1).val = (emb5 m hO t y 1).val; omega
set_option maxHeartbeats 4000000 in
theorem flushed (t : Fin (cfgM m hO).N) : (dats m hO 0 c).flushed 5 t = (((cfgM m hO).win 5).blk t).view.read (Elt F) (G m hO c) := by
  show ((cfgM m hO).win 5).cut (grid0.coords t) ((dats m hO 0 c).after 5 t) = _
  rw [after5]
  funext y
  exact G_at m hO c t y

theorem mem_blk5 (t : Fin (cfgM m hO).N) (i : S81920x1024.Idx) :
    i ∈ (((cfgM m hO).win 5).blk t).view.set ↔ ∀ a : Fin 2, ((cfgM m hO).win 5).index t a * S512x1024.size a ≤ (i a).val ∧ (i a).val < ((cfgM m hO).win 5).index t a * S512x1024.size a + S512x1024.size a := by
  have e : (((cfgM m hO).win 5).blk t).view.set = (((cfgM m hO).win 5).rect t).set := View.set_slice_whole main_v59 _
  exact (iff_of_eq (congrArg (fun S : Finset S81920x1024.Idx => i ∈ S) e)).trans Rect.mem_set_unit

theorem covered (i : S81920x1024.Idx) : ∃ t : Fin (cfgM m hO).N, ((cfgM m hO).win 5).flush t = true ∧ i ∈ (((cfgM m hO).win 5).blk t).view.set := by
  refine ⟨ptOf m hO (i 0).val (i 0).isLt, flushes m hO _, ?_⟩
  rw [mem_blk5, index5]
  have h1 : (i 1).val < 1024 := (i 1).isLt
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

theorem final5 : (dats m hO 0 c).arrAt 5 (cfgM m hO).N = G m hO c :=
  (dats m hO 0 c).arrAt_eq_of_cover 5 _ (fun t _ => flushed m hO c t) (covered m hO)

/-- The run, with what it returns. -/
theorem run : θ_run defs (onTc (τ := τ) (main (F := F))) ⟨m, fun _ => 0, ρ⟩ (fun r => ∀ c : Dev nD,
      r.2.mem ((c.tc : Thread nD τ).loc main_v59) = G m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m hO c), args_kept m hO c r h.1⟩) (run_main m ρ hO)
end Array

section Value
variable (m : (ℓ : Loc nD τ sig) → Buf (Elt Ideal) ℓ) (hR : InRange m) (c : Dev nD)

/-- The biases as the call finds them: the arguments with one axis more. -/
theorem bias_up (e : Fin 32) (s : Fin 2048) : (V m c main_v57 : FVec Ideal S4x32x1x2048 .f32) (ix4 0 e 0 s) = (m ((c.tc : Thread nD τ).loc main_arg3) : FVec Ideal S4x32x2048 .f32) (ix3 0 e s) := by
  rw [V_up]; pointwise
theorem bias_down (e : Fin 32) (s : Fin 1024) : (V m c main_v58 : FVec Ideal S4x32x1x1024 .f32) (ix4 0 e 0 s) = (m ((c.tc : Thread nD τ).loc main_arg5) : FVec Ideal S4x32x1024 .f32) (ix3 0 e s) := by
  rw [V_down]; pointwise

/-- Row `r` of point `t`'s block: the layer of the block's expert where the block is in use, zeros elsewhere. -/
theorem outT_at (t : Fin grid0.N) (r : Fin 512) (s : Fin 1024) (R : Fin 81920) (hr : R.val = 512 * t.val + r.val)
    (e : Fin 32) (he : e.val = (be m (pt t)).toNat) :
    outT m (ok_of hR) c t (ix2 r s)
      = Scalar.select (IntOp.cmpi .slt (BitVec.ofNat 32 t.val) (nu m))
          (Expert.row (IntOp.cmpi .slt (BitVec.ofNat 32 r.val) (nv m (pt t))) (Comb.entry (fun k => (m ((c.tc : Thread nD τ).loc main_arg0) : Vec Ideal S81920x512 .i32) (ix2 R k)))
            (fun k l => (m ((c.tc : Thread nD τ).loc main_arg2) : FVec Ideal S4x32x1024x2048 .f32) (ix4 0 e k l)) (fun l => (m ((c.tc : Thread nD τ).loc main_arg3) : FVec Ideal S4x32x2048 .f32) (ix3 0 e l))
            (fun k l => (m ((c.tc : Thread nD τ).loc main_arg4) : FVec Ideal S4x32x1024x1024 .f32) (ix4 0 e k l)) (fun l => (m ((c.tc : Thread nD τ).loc main_arg5) : FVec Ideal S4x32x1024 .f32) (ix3 0 e l)) s : EReal) 0 := by
  have hT : (BitVec.ofNat 32 t.val).toInt = t.val := by
    have hl : t.val < 160 := lt_of_lt_of_eq t.isLt N_0
    rw [BitVec.toInt_eq_toNat_of_lt (by rw [small_pt]; omega), small_pt]
  have hc : IntOp.cmpi .slt (BitVec.ofNat 32 t.val) (nu m) = 1 ↔ (t.val : ℤ) < (nu m).toInt := by
    show _ = 1#1 ↔ _
    simp only [IntOp.cmpi, BitVec.slt, one_of, hT]
  unfold outT Scalar.select
  by_cases hu : (t.val : ℤ) < (nu m).toInt
  · rw [if_pos ((used_iff m c t).mpr hu), if_pos (hc.mpr hu), ← wValid_eq m c t]
    refine (Pay.row_at _ _ _ _ _ _ r s).trans ?_
    have a0 : (fun k => (iblk m (ok_of hR) c 0 t : Vec Ideal S512x512 .i32) (ix2 r k)) = fun k => (m ((c.tc : Thread nD τ).loc main_arg0) : Vec Ideal S81920x512 .i32) (ix2 R k) :=
      funext fun k => (iblk0_at m c t (ok_of hR) hu r k R hr).trans (congrFun (V_kept m c main_arg0 (by decide)) (ix2 R k))
    have a1 : (fun k l => (iblk m (ok_of hR) c 1 t : FVec Ideal S1x1x1024x2048 .f32) (ix4 0 0 k l)) = fun k l => (m ((c.tc : Thread nD τ).loc main_arg2) : FVec Ideal S4x32x1024x2048 .f32) (ix4 0 e k l) :=
      funext fun k => funext fun l => (iblk1_at m c t (ok_of hR) e he k l).trans (congrFun (V_kept m c main_arg2 (by decide)) (ix4 0 e k l))
    have a2 : (fun l => (iblk m (ok_of hR) c 2 t : FVec Ideal S1x1x1x2048 .f32) (ix4 0 0 0 l)) = fun l => (m ((c.tc : Thread nD τ).loc main_arg3) : FVec Ideal S4x32x2048 .f32) (ix3 0 e l) :=
      funext fun l => (iblk2_at m c t (ok_of hR) e he l).trans (bias_up m c e l)
    have a3 : (fun k l => (iblk m (ok_of hR) c 3 t : FVec Ideal S1x1x1024x1024 .f32) (ix4 0 0 k l)) = fun k l => (m ((c.tc : Thread nD τ).loc main_arg4) : FVec Ideal S4x32x1024x1024 .f32) (ix4 0 e k l) :=
      funext fun k => funext fun l => (iblk3_at m c t (ok_of hR) e he k l).trans (congrFun (V_kept m c main_arg4 (by decide)) (ix4 0 e k l))
    have a4 : (fun l => (iblk m (ok_of hR) c 4 t : FVec Ideal S1x1x1x1024 .f32) (ix4 0 0 0 l)) = fun l => (m ((c.tc : Thread nD τ).loc main_arg5) : FVec Ideal S4x32x1024 .f32) (ix3 0 e l) :=
      funext fun l => (iblk4_at m c t (ok_of hR) e he l).trans (bias_down m c e l)
    rw [← a0, ← a1, ← a2, ← a3, ← a4]
  · rw [if_neg (fun h => hu ((used_iff m c t).mp h)), if_neg (fun h => hu (hc.mp h))]
    exact Pay.none_at r s
end Value

end Cert.Kernel2Ideal.Experts

end
-- ==== Proof.ExpRef.lean ====
module

public import proofs.«01_k».proof.Proof.Gen.Reference2Ideal.Run
public import proofs.«01_k».proof.Proof.Expert
public import proofs.«01_k».proof.Proof.Route
public import proofs.«01_k».proof.Proof.Comb
public import Idealize.ShloMosaic.Lib.Pointwise
public import Idealize.ShloMosaic.Lib.WordCmp
public import Idealize.ShloMosaic.Lib.Tactic.CleanTypes
public import Idealize.ShloMosaic.Lib.ValueIdx

@[expose] public section
set_option maxRecDepth 16384
noncomputable section

/-! What the experts' reference holds at an index. -/
namespace Cert.Reference2Ideal.Reading
open Idealize.ShloMosaic Idealize.ShloMosaic.TcCoe Idealize.ShloMosaic.StableHlo Idealize.ShloMosaic.Tactic Cert.Reference2Ideal Cert.Reference2Ideal.Value

/-- The first product with its bias, over blocks. -/
theorem hid_at (x : FVec Ideal S160x512x1024 .f32) (w : FVec Ideal S160x1024x2048 .f32) (b : FVec Ideal S160x2048 .f32) (j : Fin 160) (r : Fin 512) (s : Fin 2048) :
    (addf (Host.dotGeneral (F := Ideal) dot_S160x512x1024_S160x1024x2048_S160x512x2048_2_1_1_2_0_0 none x w)
      (broadcastInDim S160x512x2048 ![0, 1, 2] Gen.bcast_S160x1x2048_S160x512x2048_0_1_2 (broadcastInDim S160x1x2048 ![0, 2] Gen.bcast_S160x2048_S160x1x2048_0_2 b)) : FVec Ideal S160x512x2048 .f32) (ix3 j r s)
      = (∑ k, x (ix3 j r k) * w (ix3 j k s) : EReal) + b (ix2 j s) := by
  pointwise
/-- The second product with its bias, over blocks. -/
theorem out_at (x : FVec Ideal S160x512x1024 .f32) (w : FVec Ideal S160x1024x1024 .f32) (b : FVec Ideal S160x1024 .f32) (j : Fin 160) (r : Fin 512) (s : Fin 1024) :
    (addf (Host.dotGeneral (F := Ideal) dot_S160x512x1024_S160x1024x1024_S160x512x1024_2_1_1_2_0_0 none x w)
      (broadcastInDim S160x512x1024 ![0, 1, 2] Gen.bcast_S160x1x1024_S160x512x1024_0_1_2 (broadcastInDim S160x1x1024 ![0, 2] Gen.bcast_S160x1024_S160x1x1024_0_2 b)) : FVec Ideal S160x512x1024 .f32) (ix3 j r s)
      = (∑ k, x (ix3 j r k) * w (ix3 j k s) : EReal) + b (ix2 j s) := by
  pointwise
/-- The rows that the words hold. -/
def unpacked (x : Vec Ideal S81920x512 .i32) : FVec Ideal S81920x1024 .f32 :=
  concatenate S81920x1024 1 [⟨S81920x512, (bitcastToFloat .f32 (Host.shli x (broadcastInDim S81920x512 ![] Gen.bcast_S_S81920x512 (constantI S_ 32 16#32))))⟩,
    ⟨S81920x512, (bitcastToFloat .f32 (andi x (broadcastInDim S81920x512 ![] Gen.bcast_S_S81920x512 (constantI S_ 32 4294901760#32))))⟩] Gen.concatenates_S81920x512_S81920x512_S81920x1024_d1
theorem unpacked_at (x : Vec Ideal S81920x512 .i32) (r : Fin 81920) (k : Fin 1024) : (unpacked x) (ix2 r k) = Comb.entry (fun j => x (ix2 r j)) k := by
  unfold unpacked Comb.entry; pointwise; rfl
/-- The rows with a token, the others as zeros. -/
theorem masked_at (x : FVec Ideal S81920x1024 .f32) (n : Vec Ideal S160 .i32) (j : Fin 160) (r : Fin 512) (s : Fin 1024) :
    (select (broadcastInDim S160x512x1024 ![0, 1, 2] Gen.bcast_S160x512x1_S160x512x1024_0_1_2 (cmpi .slt (broadcastInDim S160x512x1 ![0, 1, 2] Gen.bcast_S1x512x1_S160x512x1_0_1_2 (broadcastInDim S1x512x1 ![1] Gen.bcast_S512_S1x512x1_1 (iotaInDim S512 32 0))) (broadcastInDim S160x512x1 ![0, 1, 2] Gen.bcast_S160x1x1_S160x512x1_0_1_2 (broadcastInDim S160x1x1 ![0] Gen.bcast_S160_S160x1x1_0 n))))
      (shapeCast _ x Gen.shapeCasts_S81920x1024_S160x512x1024) (broadcastInDim S160x512x1024 ![] Gen.bcast_S_S160x512x1024 (id (constant (F := Ideal) S_ .f32 0x00000000#32))) : FVec Ideal S160x512x1024 .f32) (ix3 j r s)
      = Scalar.select (IntOp.cmpi .slt (BitVec.ofNat 32 r.val) (n (ix1 j))) (x (ix2 ⟨512 * j.val + r.val, by omega⟩ s) : EReal) 0 := by
  pointwise
  have h3 : (id (constant (F := Ideal) S_ .f32 0#32) ix0 : EReal) = 0 := by unfold id; pointwise
  have h4 : j.val * 512 + r.val = 512 * j.val + r.val := by omega
  simp only [h3, h4]
/-- The gated unit. -/
theorem gated_at (h : FVec Ideal S160x512x2048 .f32) (j : Fin 160) (r : Fin 512) (s : Fin 1024) :
    (mulf (mulf (minimumf (extractStridedSlice S160x512x1024 ![0, 0, 0] h Gen.slices_S160x512x2048_S160x512x1024_0_0_0) (broadcastInDim S160x512x1024 ![] Gen.bcast_S_S160x512x1024 (constant S_ .f32 0x40E00000#32))) (Host.divf (broadcastInDim S160x512x1024 ![] Gen.bcast_S_S160x512x1024 (constant S_ .f32 0x3F800000#32)) (addf (broadcastInDim S160x512x1024 ![] Gen.bcast_S_S160x512x1024 (constant S_ .f32 0x3F800000#32)) (Host.exp (Host.negf (mulf (broadcastInDim S160x512x1024 ![] Gen.bcast_S_S160x512x1024 (constant S_ .f32 0x3FD9DB23#32)) (minimumf (extractStridedSlice S160x512x1024 ![0, 0, 0] h Gen.slices_S160x512x2048_S160x512x1024_0_0_0) (broadcastInDim S160x512x1024 ![] Gen.bcast_S_S160x512x1024 (constant S_ .f32 0x40E00000#32)))))))))
      (addf (minimumf (broadcastInDim S160x512x1024 ![] Gen.bcast_S_S160x512x1024 (id (constant S_ .f32 0x40E00000#32))) (maximumf (broadcastInDim S160x512x1024 ![] Gen.bcast_S_S160x512x1024 (id (constant S_ .f32 0xC0E00000#32))) (extractStridedSlice S160x512x1024 ![0, 0, 1024] h Gen.slices_S160x512x2048_S160x512x1024_0_0_1024))) (broadcastInDim S160x512x1024 ![] Gen.bcast_S_S160x512x1024 (constant S_ .f32 0x3F800000#32))) : FVec Ideal S160x512x1024 .f32) (ix3 j r s)
      = Expert.gated (h (ix3 j r ⟨s.val, by omega⟩)) (h (ix3 j r ⟨1024 + s.val, by omega⟩)) := by
  pointwise
  rfl
/-- The blocks in use, as rows of the result. -/
theorem tail_at (h : FVec Ideal S160x512x1024 .f32) (u : IVec S_ 32) (j : Fin 160) (r : Fin 512) (s : Fin 1024) (R : Fin 81920) (hR : R.val = 512 * j.val + r.val) :
    (truncf .bf16 (shapeCast S81920x1024 (select (broadcastInDim S160x512x1024 ![0, 1, 2] Gen.bcast_S160x1x1_S160x512x1024_0_1_2 (cmpi .slt (broadcastInDim S160x1x1 ![0] Gen.bcast_S160_S160x1x1_0 (iotaInDim S160 32 0)) (broadcastInDim S160x1x1 ![] Gen.bcast_S_S160x1x1 u)))
      h (broadcastInDim S160x512x1024 ![] Gen.bcast_S_S160x512x1024 (id (constant (F := Ideal) S_ .f32 0x00000000#32)))) Gen.shapeCasts_S160x512x1024_S81920x1024) Gen.bitsLt_bf16_f32 : FVec Ideal S81920x1024 .bf16) (ix2 R s)
      = Scalar.select (IntOp.cmpi .slt (BitVec.ofNat 32 j.val) (u ix0)) (h (ix3 j r s) : EReal) 0 := by
  pointwise
  have h1 : R.val / 512 = j.val := by omega
  have h2 : R.val % 512 = r.val := by omega
  have h3 : (id (constant (F := Ideal) S_ .f32 0#32) ix0 : EReal) = 0 := by unfold id; pointwise
  simp only [h1, h2, h3]
/-- A block's expert: the row of a table that the word names, where the word is a row's number. -/
theorem take3 {N A B n : ℕ} (hN : 0 < N) (wf : GatherDims.WF ⟨3, ![N, A, B]⟩ ⟨2, ![n, 1]⟩ ⟨3, ![n, A, B]⟩ [1, 2] [0] [] [0] [] 1 ![1, A, B])
    (x : (⟨3, ![N, A, B]⟩ : Shape).Idx → EReal) (i : IVec ⟨2, ![n, 1]⟩ 32) (j : Fin n) (r : Fin A) (s : Fin B) (e : Fin N) (he : (e.val : ℤ) = (i (ix2 j 0)).toInt) :
    Host.gather (⟨[1, 2], [0], [], [], [0], 1, ![1, A, B], wf⟩ : GatherDims ⟨3, ![N, A, B]⟩ ⟨2, ![n, 1]⟩ ⟨3, ![n, A, B]⟩) x i (ix3 j r s) = x (ix3 e r s) := by
  set d : GatherDims ⟨3, ![N, A, B]⟩ ⟨2, ![n, 1]⟩ ⟨3, ![n, A, B]⟩ := ⟨[1, 2], [0], [], [], [0], 1, ![1, A, B], wf⟩ with hd
  unfold Host.gather
  refine congrArg x (funext fun a => Fin.ext ?_)
  show d.start (ix3 j r s) i a + d.batchCoord (ix3 j r s) a + d.offCoord (ix3 j r s) a = _
  rw [GatherDims.batchCoord_eq_zero _ _ _ List.not_mem_nil, Nat.add_zero]
  have hs0 (h) : d.start (ix3 j r s) i ⟨0, h⟩ = min (i (ix2 j 0)).toInt.toNat (N - 1) := by
    unfold GatherDims.start
    rw [dif_pos (show (⟨0, h⟩ : Fin 3) ∈ d.startIndexMap from List.mem_singleton.mpr rfl)]
    have hsi : d.siIdx (ix3 j r s) ⟨List.idxOf (⟨0, h⟩ : Fin 3) d.startIndexMap, List.idxOf_lt_length_iff.2 (List.mem_singleton.mpr rfl)⟩ = ix2 j 0 := by
      funext b; refine Fin.ext ?_
      match b with
      | ⟨0, _⟩ => rfl
      | ⟨1, _⟩ => rfl
    rw [hsi]; rfl
  match a with
  | ⟨0, h⟩ =>
    rw [hs0, GatherDims.offCoord_eq_zero _ _ _ (fun h => ((GatherDims.mem_sKept _ _).mp h).1 (List.mem_singleton.mpr rfl))]
    show _ = e.val
    have := e.isLt
    omega
  | ⟨1, h⟩ =>
    have : d.start (ix3 j r s) i ⟨1, h⟩ = 0 := by
      unfold GatherDims.start
      rw [dif_neg (by rw [hd]; simp)]
    rw [this, Nat.zero_add]; rfl
  | ⟨2, h⟩ =>
    have : d.start (ix3 j r s) i ⟨2, h⟩ = 0 := by
      unfold GatherDims.start
      rw [dif_neg (by rw [hd]; simp)]
    rw [this, Nat.zero_add]; rfl
theorem take2 {N A n : ℕ} (hN : 0 < N) (wf : GatherDims.WF ⟨2, ![N, A]⟩ ⟨2, ![n, 1]⟩ ⟨2, ![n, A]⟩ [1] [0] [] [0] [] 1 ![1, A])
    (x : (⟨2, ![N, A]⟩ : Shape).Idx → EReal) (i : IVec ⟨2, ![n, 1]⟩ 32) (j : Fin n) (r : Fin A) (e : Fin N) (he : (e.val : ℤ) = (i (ix2 j 0)).toInt) :
    Host.gather (⟨[1], [0], [], [], [0], 1, ![1, A], wf⟩ : GatherDims ⟨2, ![N, A]⟩ ⟨2, ![n, 1]⟩ ⟨2, ![n, A]⟩) x i (ix2 j r) = x (ix2 e r) := by
  set d : GatherDims ⟨2, ![N, A]⟩ ⟨2, ![n, 1]⟩ ⟨2, ![n, A]⟩ := ⟨[1], [0], [], [], [0], 1, ![1, A], wf⟩ with hd
  unfold Host.gather
  refine congrArg x (funext fun a => Fin.ext ?_)
  show d.start (ix2 j r) i a + d.batchCoord (ix2 j r) a + d.offCoord (ix2 j r) a = _
  rw [GatherDims.batchCoord_eq_zero _ _ _ List.not_mem_nil, Nat.add_zero]
  have hs0 (h) : d.start (ix2 j r) i ⟨0, h⟩ = min (i (ix2 j 0)).toInt.toNat (N - 1) := by
    unfold GatherDims.start
    rw [dif_pos (show (⟨0, h⟩ : Fin 2) ∈ d.startIndexMap from List.mem_singleton.mpr rfl)]
    have hsi : d.siIdx (ix2 j r) ⟨List.idxOf (⟨0, h⟩ : Fin 2) d.startIndexMap, List.idxOf_lt_length_iff.2 (List.mem_singleton.mpr rfl)⟩ = ix2 j 0 := by
      funext b; refine Fin.ext ?_
      match b with
      | ⟨0, _⟩ => rfl
      | ⟨1, _⟩ => rfl
    rw [hsi]; rfl
  match a with
  | ⟨0, h⟩ =>
    rw [hs0, GatherDims.offCoord_eq_zero _ _ _ (fun h => ((GatherDims.mem_sKept _ _).mp h).1 (List.mem_singleton.mpr rfl))]
    show _ = e.val
    have := e.isLt
    omega
  | ⟨1, h⟩ =>
    have : d.start (ix2 j r) i ⟨1, h⟩ = 0 := by
      unfold GatherDims.start
      rw [dif_neg (by rw [hd]; simp)]
    rw [this, Nat.zero_add]; rfl
/-- The weights of the first layer's part of the stack. -/
theorem layer_up (w : FVec Ideal S4x32x1024x2048 .f32) (e : Fin 32) (r : Fin 1024) (s : Fin 2048) :
    (shapeCast S32x1024x2048 (extractStridedSlice S1x32x1024x2048 ![0, 0, 0, 0] w Gen.slices_S4x32x1024x2048_S1x32x1024x2048_0_0_0_0) Gen.shapeCasts_S1x32x1024x2048_S32x1024x2048) (ix3 e r s) = w (ix4 0 e r s) := by
  pointwise
theorem layer_down (w : FVec Ideal S4x32x1024x1024 .f32) (e : Fin 32) (r : Fin 1024) (s : Fin 1024) :
    (shapeCast S32x1024x1024 (extractStridedSlice S1x32x1024x1024 ![0, 0, 0, 0] w Gen.slices_S4x32x1024x1024_S1x32x1024x1024_0_0_0_0) Gen.shapeCasts_S1x32x1024x1024_S32x1024x1024) (ix3 e r s) = w (ix4 0 e r s) := by
  pointwise
theorem layer_bup (w : FVec Ideal S4x32x2048 .f32) (e : Fin 32) (s : Fin 2048) :
    (shapeCast S32x2048 (extractStridedSlice S1x32x2048 ![0, 0, 0] w Gen.slices_S4x32x2048_S1x32x2048_0_0_0) Gen.shapeCasts_S1x32x2048_S32x2048) (ix2 e s) = w (ix3 0 e s) := by
  pointwise
theorem layer_bdown (w : FVec Ideal S4x32x1024 .f32) (e : Fin 32) (s : Fin 1024) :
    (shapeCast S32x1024 (extractStridedSlice S1x32x1024 ![0, 0, 0] w Gen.slices_S4x32x1024_S1x32x1024_0_0_0) Gen.shapeCasts_S1x32x1024_S32x1024) (ix2 e s) = w (ix3 0 e s) := by
  pointwise

/-- The column of block experts. -/
theorem col_at (b : Vec Ideal S160 .i32) (j : Fin 160) :
    (broadcastInDim S160x1 ![0] Gen.bcast_S160_S160x1_0 b : IVec S160x1 32) (ix2 j 0) = b (ix1 j) := by
  pointwise
section Take
variable (b : Vec Ideal S160 .i32) (j : Fin 160) (e : Fin 32) (he : (e.val : ℤ) = (b (ix1 j) : BitVec 32).toInt)
include he
theorem take_up (w : FVec Ideal S4x32x1024x2048 .f32) (r : Fin 1024) (s : Fin 2048) :
    Host.gather gather_S32x1024x2048_S160x1_S160x1024x2048_12_0_n_n_0_1_110242048 (shapeCast S32x1024x2048 (extractStridedSlice S1x32x1024x2048 ![0, 0, 0, 0] w Gen.slices_S4x32x1024x2048_S1x32x1024x2048_0_0_0_0) Gen.shapeCasts_S1x32x1024x2048_S32x1024x2048)
      (broadcastInDim S160x1 ![0] Gen.bcast_S160_S160x1_0 b) (ix3 j r s) = w (ix4 0 e r s) :=
  (take3 (by omega) _ _ _ j r s e (by rw [col_at]; exact he)).trans (layer_up w e r s)
theorem take_down (w : FVec Ideal S4x32x1024x1024 .f32) (r : Fin 1024) (s : Fin 1024) :
    Host.gather gather_S32x1024x1024_S160x1_S160x1024x1024_12_0_n_n_0_1_110241024 (shapeCast S32x1024x1024 (extractStridedSlice S1x32x1024x1024 ![0, 0, 0, 0] w Gen.slices_S4x32x1024x1024_S1x32x1024x1024_0_0_0_0) Gen.shapeCasts_S1x32x1024x1024_S32x1024x1024)
      (broadcastInDim S160x1 ![0] Gen.bcast_S160_S160x1_0 b) (ix3 j r s) = w (ix4 0 e r s) :=
  (take3 (by omega) _ _ _ j r s e (by rw [col_at]; exact he)).trans (layer_down w e r s)
theorem take_bup (w : FVec Ideal S4x32x2048 .f32) (s : Fin 2048) :
    Host.gather gather_S32x2048_S160x1_S160x2048_1_0_n_n_0_1_12048 (shapeCast S32x2048 (extractStridedSlice S1x32x2048 ![0, 0, 0] w Gen.slices_S4x32x2048_S1x32x2048_0_0_0) Gen.shapeCasts_S1x32x2048_S32x2048)
      (broadcastInDim S160x1 ![0] Gen.bcast_S160_S160x1_0 b) (ix2 j s) = w (ix3 0 e s) :=
  (take2 (by omega) _ _ _ j s e (by rw [col_at]; exact he)).trans (layer_bup w e s)
theorem take_bdown (w : FVec Ideal S4x32x1024 .f32) (s : Fin 1024) :
    Host.gather gather_S32x1024_S160x1_S160x1024_1_0_n_n_0_1_11024 (shapeCast S32x1024 (extractStridedSlice S1x32x1024 ![0, 0, 0] w Gen.slices_S4x32x1024_S1x32x1024_0_0_0) Gen.shapeCasts_S1x32x1024_S32x1024)
      (broadcastInDim S160x1 ![0] Gen.bcast_S160_S160x1_0 b) (ix2 j s) = w (ix3 0 e s) :=
  (take2 (by omega) _ _ _ j s e (by rw [col_at]; exact he)).trans (layer_bdown w e s)
end Take

variable (m : (ℓ : Loc nD τ sig) → Buf (Elt Ideal) ℓ) (c : Dev nD)

/-- The arguments, as arrays. -/
abbrev X : Vec Ideal S81920x512 .i32 := m ((c.tc : Thread nD τ).loc main_arg0)
/-- The router's choices. -/
def choices : IVec S16384x4 32 := m ((c.tc : Thread nD τ).loc main_arg1)
/-- The experts' numbers of rows. -/
def rows : IVec S32 32 := Host.reduce IntOp.addi (Cert.Kernel2Ideal.Route.sel (choices m c)) (constantI S_ 32 0#32) Gen.reducesTo_S16384x32_S32_d0 Gen.h_S_
/-- Where the experts' padded rows end. -/
def stops : IVec S32 32 := Cert.Kernel2Ideal.Route.ends (Cert.Kernel2Ideal.Route.padded (rows m c))
/-- Every block's expert, where that expert's rows end, counted from the block's start, and the number of blocks in use. -/
def BE : IVec S160 32 := Cert.Kernel2Ideal.Route.expert (stops m c)
def NV : IVec S160 32 :=
  subi (Host.gather gather_S32_S160x1_S160_n_0_n_n_0_1_1 (addi (subi (stops m c) (Cert.Kernel2Ideal.Route.padded (rows m c))) (rows m c))
    (broadcastInDim S160x1 ![0] Gen.bcast_S160_S160x1_0 (BE m c))) Cert.Kernel2Ideal.Route.starts
def NU : IVec S_ 32 := Cert.Kernel2Ideal.Route.used (stops m c)
abbrev W1 : FVec Ideal S4x32x1024x2048 .f32 := m ((c.tc : Thread nD τ).loc main_arg2)
abbrev B1 : FVec Ideal S4x32x2048 .f32 := m ((c.tc : Thread nD τ).loc main_arg3)
abbrev W2 : FVec Ideal S4x32x1024x1024 .f32 := m ((c.tc : Thread nD τ).loc main_arg4)
abbrev B2 : FVec Ideal S4x32x1024 .f32 := m ((c.tc : Thread nD τ).loc main_arg5)

/-- The reference's row `512 j + r`: the layer of block `j`'s expert `e` where the block is in use, zeros elsewhere. -/
theorem result_at (j : Fin 160) (r : Fin 512) (s : Fin 1024) (R : Fin 81920) (hR : R.val = 512 * j.val + r.val)
    (e : Fin 32) (he : (e.val : ℤ) = (BE m c (ix1 j) : BitVec 32).toInt) :
    (res_out0 m c : FVec Ideal S81920x1024 .bf16) (ix2 R s)
      = Scalar.select (IntOp.cmpi .slt (BitVec.ofNat 32 j.val) (NU m c ix0))
          (Expert.row (IntOp.cmpi .slt (BitVec.ofNat 32 r.val) (NV m c (ix1 j))) (Comb.entry (fun k => X m c (ix2 R k))) (fun k l => W1 m c (ix4 0 e k l))
            (fun l => B1 m c (ix3 0 e l)) (fun k l => W2 m c (ix4 0 e k l)) (fun l => B2 m c (ix3 0 e l)) s : EReal) 0 := by
  unfold res_out0 res_main_v94
  refine (tail_at _ (NU m c) j r s R hR).trans ?_
  refine congrArg (fun x : EReal => Scalar.select (IntOp.cmpi .slt (BitVec.ofNat 32 j.val) (NU m c ix0)) x 0) ?_
  refine (out_at _ _ _ j r s).trans ?_
  unfold Expert.row
  refine congrArg₂ (· + ·) (Finset.sum_congr rfl fun k _ => congrArg₂ (· * ·) ?_ (take_down (BE m c) j e he _ k s)) (take_bdown (BE m c) j e he _ s)
  refine (gated_at _ j r k).trans ?_
  have hh (l : Fin 2048) : _ = Expert.hid (IntOp.cmpi .slt (BitVec.ofNat 32 r.val) (NV m c (ix1 j))) (Comb.entry (fun k => X m c (ix2 R k))) (fun k => W1 m c (ix4 0 e k l)) (B1 m c (ix3 0 e l)) :=
    (hid_at _ _ _ j r l).trans (congrArg₂ (· + ·) (Finset.sum_congr rfl fun i _ => (congrArg₂ (· * ·) ((masked_at (unpacked (X m c)) (NV m c) j r i).trans rfl) (take_up (BE m c) j e he (W1 m c) i l)).trans
      (by
        have hR' : (⟨512 * j.val + r.val, by omega⟩ : Fin 81920) = R := Fin.ext hR.symm
        rw [hR', unpacked_at]
        unfold Scalar.select
        split <;> simp)) (take_bup (BE m c) j e he (B1 m c) l))
  exact congrArg₂ Expert.gated (hh _) (hh _)

end Cert.Reference2Ideal.Reading

end
-- ==== Proof.ExpReturned.lean ====
module

public import proofs.«01_k».proof.Proof.ExpValue
public import proofs.«01_k».proof.Proof.ExpRef

@[expose] public section
set_option maxRecDepth 16384
noncomputable section

/-! The experts' reference returns the array that the kernel's call leaves. -/
namespace Cert.Experts
open Idealize.ShloMosaic Idealize.ShloMosaic.TcCoe Cert.Kernel2Ideal.Experts

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ)

theorem returned (hR : InRange m) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    (Cert.Reference2Ideal.Value.res_out0 m' c : FVec Ideal Cert.Kernel2Ideal.S81920x1024 .bf16) = G m (ok_of hR) c := by
  obtain rfl : c = 0 := Subsingleton.elim _ _
  funext i
  obtain ⟨h0, h1, h2, h3, h4, h5⟩ := h
  have hi : (i 0).val < 81920 := (i 0).isLt
  let t : Fin Cert.Kernel2Ideal.grid0.N := ⟨(i 0).val / 512, lt_of_lt_of_eq (by omega) Cert.Kernel2Ideal.Gen.N_0.symm⟩
  let r : Fin 512 := ⟨(i 0).val % 512, by omega⟩
  have hr : (i 0).val = 512 * t.val + r.val := by show (i 0).val = 512 * ((i 0).val / 512) + (i 0).val % 512; omega
  have hx := hR.expert (pt t)
  let e : Fin 32 := ⟨(be m (pt t)).toNat, hx.1⟩
  have q0 : Cert.Reference2Ideal.Reading.choices m' 0 = choices m 0 := h1
  have q1 : Cert.Reference2Ideal.Reading.rows m' 0 = rows m 0 := by
    unfold Cert.Reference2Ideal.Reading.rows rows
    rw [q0]
    exact Cert.Kernel2Ideal.Route.counts_eq _ _ _
  have q2 : Cert.Reference2Ideal.Reading.stops m' 0 = stops m 0 := by
    unfold Cert.Reference2Ideal.Reading.stops stops
    rw [q1]
  have q3 : Cert.Reference2Ideal.Reading.BE m' 0 = Cert.Kernel2Ideal.Route.expert (stops m 0) := by
    unfold Cert.Reference2Ideal.Reading.BE
    rw [q2]
  have b1 : (Cert.Reference2Ideal.Reading.BE m' 0 (ix1 (pt t)) : BitVec 32) = be m (pt t) := (congrFun q3 (ix1 (pt t))).trans (be_eq m (pt t)).symm
  have he : Cert.Kernel2Ideal.Route.expert (stops m 0) (ix1 (pt t)) = BitVec.ofNat 32 e.val := (be_eq m (pt t)).symm.trans (by simp [e])
  have b2 : IntOp.cmpi .slt (BitVec.ofNat 32 r.val) (Cert.Reference2Ideal.Reading.NV m' 0 (ix1 (pt t))) = IntOp.cmpi .slt (BitVec.ofNat 32 r.val) (nv m (pt t)) := by
    rw [nv_eq, Cert.Kernel2Ideal.Route.clipped_at]
    refine congrArg (IntOp.cmpi .slt (BitVec.ofNat 32 r.val)) ?_
    unfold Cert.Reference2Ideal.Reading.NV
    rw [q1, q2, q3]
    refine congrArg (fun w : BitVec 32 => IntOp.subi w (Cert.Kernel2Ideal.Route.starts (ix1 (pt t)))) ?_
    refine Eq.trans ?_ (Cert.Kernel2Ideal.Route.picked_at _ _ (pt t) e he).symm
    exact Idealize.ShloMosaic.Routing.gather_take1 _ rfl rfl rfl rfl _ _ (pt t) e ((Cert.Reference2Ideal.Reading.col_at _ (pt t)).trans he) (by norm_num)
  have b3 : (Cert.Reference2Ideal.Reading.NU m' 0 Idealize.ShloMosaic.ix0 : BitVec 32) = nu m := by
    rw [nu_eq]
    unfold Cert.Reference2Ideal.Reading.NU
    rw [q2]
  have a0 : Cert.Reference2Ideal.Reading.X m' 0 = m (((0 : Dev Cert.Kernel2Ideal.nD).tc : Thread Cert.Kernel2Ideal.nD Cert.Kernel2Ideal.τ).loc Cert.Kernel2Ideal.main_arg0) := h0
  have a2 : Cert.Reference2Ideal.Reading.W1 m' 0 = m (((0 : Dev Cert.Kernel2Ideal.nD).tc : Thread Cert.Kernel2Ideal.nD Cert.Kernel2Ideal.τ).loc Cert.Kernel2Ideal.main_arg2) := h2
  have a3 : Cert.Reference2Ideal.Reading.B1 m' 0 = m (((0 : Dev Cert.Kernel2Ideal.nD).tc : Thread Cert.Kernel2Ideal.nD Cert.Kernel2Ideal.τ).loc Cert.Kernel2Ideal.main_arg3) := h3
  have a4 : Cert.Reference2Ideal.Reading.W2 m' 0 = m (((0 : Dev Cert.Kernel2Ideal.nD).tc : Thread Cert.Kernel2Ideal.nD Cert.Kernel2Ideal.τ).loc Cert.Kernel2Ideal.main_arg4) := h4
  have a5 : Cert.Reference2Ideal.Reading.B2 m' 0 = m (((0 : Dev Cert.Kernel2Ideal.nD).tc : Thread Cert.Kernel2Ideal.nD Cert.Kernel2Ideal.τ).loc Cert.Kernel2Ideal.main_arg5) := h5
  have ref := Cert.Reference2Ideal.Reading.result_at m' 0 (pt t) r (i 1) (i 0) hr e (by rw [b1]; exact hx.2)
  rw [b2, b3, a0, a2, a3, a4, a5] at ref
  exact (congrArg _ (eq_ix2 i)).trans (ref.trans (outT_at m hR 0 t r (i 1) (i 0) hr e rfl).symm)

end Cert.Experts

end
-- ==== Proof.BitsOk.lean ====
module

public import proofs.«01_k».proof.Proof.BitsWords
public import proofs.«01_k».proof.Proof.BitsRouteTables
public import proofs.«01_k».proof.Proof.Gen.Pre_in_range

@[expose] public section
set_option maxRecDepth 16384
noncomputable section

/-! Of the program over floats as bits, what ExpOk.lean has of the one over exact arithmetic:
    every block's expert is one of the 32 and, from the precondition, at least one block is in use; so every
    block that the call's index maps name lies inside its array. -/
namespace Cert.Kernel2.Experts
open Idealize.ShloMosaic Idealize.ShloMosaic.TcCoe Idealize.ShloMosaic.Tactic Cert.Kernel2 Cert.Kernel2.Gen

variable {F : FTy → Type} [FloatOps F]
variable (m : (ℓ : Loc nD τ sig) → Buf (Elt F) ℓ)

/-- The tables' words. -/
theorem be_eq (j : Fin 160) : be m j = Cert.Kernel2Ideal.Route.expert (stops m 0) (ix1 j) := congrFun (V_expert m 0) (ix1 j)
theorem nu_eq : nu m = Cert.Kernel2Ideal.Route.used (stops m 0) Idealize.ShloMosaic.ix0 :=
  (congrFun (V_used m 0) (ix1 0)).trans (by generalize Cert.Kernel2Ideal.Route.used (stops m 0) = u; pointwise)

/-- The words that the call needs. -/
def InRange : Prop := (∀ j, 0 ≤ (be m j).toInt ∧ (be m j).toInt ≤ 31) ∧ 1 ≤ (nu m).toInt

theorem both_one (a b : BitVec 1) : IntOp.andi a b = 1#1 ↔ a = 1#1 ∧ b = 1#1 := by revert a b; decide
theorem one_of (p : Prop) [Decidable p] : BitVec.ofBool (decide p) = 1#1 ↔ p := by by_cases h : p <;> simp [h]
theorem between (w a b : BitVec 32) (h : IntOp.andi (IntOp.cmpi .sge w a) (IntOp.cmpi .sle w b) = 1#1) : a.toInt ≤ w.toInt ∧ w.toInt ≤ b.toInt := by
  obtain ⟨h1, h2⟩ := (both_one _ _).mp h
  simp only [IntOp.cmpi, BitVec.sle, one_of] at h1 h2
  exact ⟨h1, h2⟩

theorem atLeast (w a : BitVec 32) (h : IntOp.cmpi .sge w a = 1#1) : a.toInt ≤ w.toInt := by
  simp only [IntOp.cmpi, BitVec.sle, one_of] at h
  exact h

theorem inRange_of {α0 : IVec Cert.Pre_in_range.S81920x512 32} {α2 : FVec F Cert.Pre_in_range.S4x32x1024x2048 .f32} {α3 : FVec F Cert.Pre_in_range.S4x32x2048 .f32}
    {α4 : FVec F Cert.Pre_in_range.S4x32x1024x1024 .f32} {α5 : FVec F Cert.Pre_in_range.S4x32x1024 .f32}
    (h : Cert.Pre_in_range.fn (F := F) α0 (m (((0 : Dev nD).tc : Thread nD τ).loc main_arg1)) α2 α3 α4 α5 = (fun _ => 1#1)) :
    InRange m := by
  refine ⟨fun j => ?_, ?_⟩
  · have hb := Cert.Kernel2Ideal.Route.expert_range (stops m 0) j
    rw [be_eq, BitVec.toInt_eq_toNat_of_lt (by omega)]
    omega
  · rw [nu_eq]
    refine atLeast _ 1#32 ?_
    unfold stops rows
    rw [← Cert.Kernel2Ideal.Route.counts_eq _ Cert.Pre_in_range.Gen.reducesTo_S16384x32_S32_d0 Cert.Pre_in_range.Gen.h_S_]
    exact congrFun h Idealize.ShloMosaic.ix0

variable {m}
theorem InRange.expert (h : InRange m) (j : Fin 160) : (be m j).toNat < 32 ∧ (((be m j).toNat : ℕ) : ℤ) = (be m j).toInt := by
  have := h.1 j
  have hn := BitVec.toInt_eq_toNat_cond (be m j)
  have hlt := (be m j).isLt
  split_ifs at hn <;> omega

theorem at_expert (i : grid0.Coords) (inb) (h1) : (tbl m).at 0 (Rect.unit (s := S160) (k0_off1 i) S1.size inb) h1 = be m ⟨(i 0).val, (i 0).isLt⟩ := by
  refine at_word (tbl m 0 : S160.Idx → BitVec 32) _ _ ?_
  show (BitVec.ofNat 32 (i 0).val).toNat + 1 * 0 = (i 0).val
  rw [small _ (i 0).isLt]; rfl

theorem block_lt (h : InRange m) (n : ℕ) (hn : n < 160) : (Scalar.minsi (BitVec.ofNat 32 n) (Scalar.subi (nu m) 1#32)).toNat < 160 := by
  have hs := small n hn
  have hc := BitVec.toInt_eq_toNat_cond (nu m)
  have hlt := (nu m).isLt
  have hu := h.2
  have h2 : 1 ≤ (nu m).toNat ∧ (nu m).toNat < 2 ^ 31 := by split_ifs at hc <;> omega
  have h1 : (Scalar.subi (nu m) 1#32).toNat = (nu m).toNat - 1 := by
    show ((nu m) - 1#32).toNat = _
    rw [BitVec.toNat_sub]; simp only [BitVec.toNat_ofNat]; omega
  unfold Scalar.minsi IntOp.minsi
  have e1 := BitVec.toInt_eq_toNat_of_lt (x := BitVec.ofNat 32 n) (by omega)
  have e2 := BitVec.toInt_eq_toNat_of_lt (x := Scalar.subi (nu m) 1#32) (by omega)
  simp only [BitVec.slt, decide_eq_true_eq]
  split_ifs <;> omega

theorem ok_of (h : InRange m) : Ok m := by
  have hb (i : grid0.Coords) : (be m ⟨(i 0).val, (i 0).isLt⟩).toNat < 32 := (h.expert _).1
  have t0 (i : grid0.Coords) : cc0_transform_0 inb_S1_S1_0 numel1_S1 (tbl m) i = ![(Scalar.minsi (BitVec.ofNat 32 (i 0).val) (Scalar.subi (nu m) 1#32)).toNat, 0] := by
    have h : (tbl m).at 2 (Rect.unit (s := S1) ![0] S1.size inb_S1_S1_0) numel1_S1 = nu m := at_one_word (tbl m 2 : S1.Idx → BitVec 32) _
    rw [← h]; rfl
  refine ⟨fun i => ?_, fun i => ⟨?_, Or.inl rfl⟩, fun i => ⟨?_, Or.inl rfl⟩, fun i => ⟨?_, Or.inl rfl⟩, fun i => ⟨?_, Or.inl rfl⟩⟩
  · refine ⟨?_, Or.inr (Affine.block_words_dvd (by decide) (by decide))⟩
    rw [t0]
    have := block_lt h (i 0).val (i 0).isLt
    intro a
    match a with
    | ⟨0, _⟩ => show ((Scalar.minsi (BitVec.ofNat 32 (i 0).val) (Scalar.subi (nu m) 1#32)).toNat + 1) * 512 ≤ 81920; omega
    | ⟨1, _⟩ => show (0 + 1) * 512 ≤ 512; omega
  · have e : cc0_transform_1 k0_off1_inb numel1_S1 (tbl m) i = ![0, (be m ⟨(i 0).val, (i 0).isLt⟩).toNat, 0, 0] := by
      rw [← at_expert i (k0_off1_inb _) numel1_S1]; rfl
    rw [e]
    have := hb i
    intro a
    match a with
    | ⟨0, _⟩ => show (0 + 1) * 1 ≤ 4; omega
    | ⟨1, _⟩ => show ((be m ⟨(i 0).val, (i 0).isLt⟩).toNat + 1) * 1 ≤ 32; omega
    | ⟨2, _⟩ => show (0 + 1) * 1024 ≤ 1024; omega
    | ⟨3, _⟩ => show (0 + 1) * 2048 ≤ 2048; omega
  · have e : cc0_transform_2 k0_off1_inb numel1_S1 (tbl m) i = ![0, (be m ⟨(i 0).val, (i 0).isLt⟩).toNat, 0, 0] := by
      rw [← at_expert i (k0_off1_inb _) numel1_S1]; rfl
    rw [e]
    have := hb i
    intro a
    match a with
    | ⟨0, _⟩ => show (0 + 1) * 1 ≤ 4; omega
    | ⟨1, _⟩ => show ((be m ⟨(i 0).val, (i 0).isLt⟩).toNat + 1) * 1 ≤ 32; omega
    | ⟨2, _⟩ => show (0 + 1) * 1 ≤ 1; omega
    | ⟨3, _⟩ => show (0 + 1) * 2048 ≤ 2048; omega
  · have e : cc0_transform_3 k0_off1_inb numel1_S1 (tbl m) i = ![0, (be m ⟨(i 0).val, (i 0).isLt⟩).toNat, 0, 0] := by
      rw [← at_expert i (k0_off1_inb _) numel1_S1]; rfl
    rw [e]
    have := hb i
    intro a
    match a with
    | ⟨0, _⟩ => show (0 + 1) * 1 ≤ 4; omega
    | ⟨1, _⟩ => show ((be m ⟨(i 0).val, (i 0).isLt⟩).toNat + 1) * 1 ≤ 32; omega
    | ⟨2, _⟩ => show (0 + 1) * 1024 ≤ 1024; omega
    | ⟨3, _⟩ => show (0 + 1) * 1024 ≤ 1024; omega
  · have e : cc0_transform_4 k0_off1_inb numel1_S1 (tbl m) i = ![0, (be m ⟨(i 0).val, (i 0).isLt⟩).toNat, 0, 0] := by
      rw [← at_expert i (k0_off1_inb _) numel1_S1]; rfl
    rw [e]
    have := hb i
    intro a
    match a with
    | ⟨0, _⟩ => show (0 + 1) * 1 ≤ 4; omega
    | ⟨1, _⟩ => show ((be m ⟨(i 0).val, (i 0).isLt⟩).toNat + 1) * 1 ≤ 32; omega
    | ⟨2, _⟩ => show (0 + 1) * 1 ≤ 1; omega
    | ⟨3, _⟩ => show (0 + 1) * 1024 ≤ 1024; omega

end Cert.Kernel2.Experts

end
-- ==== Proof.CombPay.lean ====
module

public import proofs.«01_k».proof.Proof.Gen.Kernel3Ideal.Value
public import proofs.«01_k».proof.Proof.Comb
public import Idealize.ShloMosaic.Lib.WordCmp
public import Idealize.ShloMosaic.Lib.Pipeline.ValueKit.Basic
public import Idealize.ShloMosaic.Lib.Tactic.CleanTypes

@[expose] public section
set_option maxRecDepth 16384
noncomputable section

/-! What the combination's block holds at an index. -/
namespace Cert.Kernel3Ideal.Pay
open Idealize.ShloMosaic Idealize.ShloMosaic.TcCoe Idealize.ShloMosaic.Tactic Cert.Kernel3Ideal Cert.Kernel3Ideal.Gen

/-- The sum before the norm. -/
def totals (g : Vec Ideal S256x128 .f32) (h : Vec Ideal S256x1024 .f32) (y0 y1 y2 y3 : Vec Ideal S1x256x512 .i32) : FVec Ideal S256x1024 .f32 :=
  addf (addf (k0_pay2 g h y0 y1) (mulf (broadcastTo S256x1024 (k0_pay3 g) broadcasts_S256x1_S256x1024)
      (concatenate S256x1024 1 [⟨S256x512, k0_pay5 y2⟩, ⟨S256x512, bitcastToFloat .f32 (k0_pay6 (F := Ideal) y2)⟩] concatenates_S256x512_S256x512_S256x1024_d1)))
    (mulf (broadcastTo S256x1024 (extractStridedSlice S256x1 ![0, 3] (k0_pay1 g) slices_S256x128_o0_3_S256x1) broadcasts_S256x1_S256x1024)
      (concatenate S256x1024 1 [⟨S256x512, bitcastToFloat .f32 (shli (shapeCast S256x512 y3 shapeCasts_S1x256x512_S256x512) (broadcast S256x512 16#32))⟩,
        ⟨S256x512, bitcastToFloat .f32 (andi (shapeCast S256x512 y3 shapeCasts_S1x256x512_S256x512) (broadcast S256x512 4294901760#32))⟩] concatenates_S256x512_S256x512_S256x1024_d1))

/-- A block's rows less their means. -/
def less (z : FVec Ideal S256x1024 .f32) : FVec Ideal S256x1024 .f32 :=
  subf z (broadcastTo S256x1024 (divf (shapeCast S256x1 (multiReduction .add [1] S256 z 0x00000000#32 reduces_S256x1024_S256 (.inl rfl) rfl) shapeCasts_S256_S256x1)
    (broadcast S256x1 (Scalar.ofBits .f32 0x44800000#32))) broadcasts_S256x1_S256x1024)

/-- The norm of a block's rows. -/
def norms (d : FVec Ideal S256x1024 .f32) (w b : Vec Ideal S1x1024 .f32) : FVec Ideal S256x1024 .f32 :=
  addf (mulf (mulf d (broadcastTo S256x1024 (rsqrt (addf (divf (shapeCast S256x1 (multiReduction .add [1] S256 (mulf d d) 0x00000000#32 reduces_S256x1024_S256 (.inl rfl) rfl) shapeCasts_S256_S256x1)
    (broadcast S256x1 (Scalar.ofBits .f32 0x44800000#32))) (broadcast S256x1 (Scalar.ofBits .f32 0x3727C5AC#32)))) broadcasts_S256x1_S256x1024))
    (broadcastTo S256x1024 (shapeCast S1x1024 w shapeCasts_S1x1024_S1x1024) broadcasts_S1x1024_S256x1024))
    (broadcastTo S256x1024 (shapeCast S1x1024 b shapeCasts_S1x1024_S1x1024) broadcasts_S1x1024_S256x1024)

theorem pay_eq (g : Vec Ideal S256x128 .f32) (h : Vec Ideal S256x1024 .f32) (y0 y1 y2 y3 : Vec Ideal S1x256x512 .i32) (w b : Vec Ideal S1x1024 .f32) :
    k0_pay7 (k0_pay1 g) (k0_pay2 g h y0 y1) (k0_pay3 g) (k0_pay5 y2) (k0_pay6 (F := Ideal) y2) y3 w b = norms (less (totals g h y0 y1 y2 y3)) w b := rfl

theorem totals_at (g : Vec Ideal S256x128 .f32) (h : Vec Ideal S256x1024 .f32) (y0 y1 y2 y3 : Vec Ideal S1x256x512 .i32) (r : Fin 256) (l : Fin 1024) :
    (totals g h y0 y1 y2 y3) (ix2 r l) = Comb.total (h (ix2 r l)) ![g (ix2 r 0), g (ix2 r 1), g (ix2 r 2), g (ix2 r 3)]
      ![Comb.entry (fun k => y0 (ix3 0 r k)) l, Comb.entry (fun k => y1 (ix3 0 r k)) l, Comb.entry (fun k => y2 (ix3 0 r k)) l, Comb.entry (fun k => y3 (ix3 0 r k)) l] := by
  unfold totals k0_pay2 k0_pay3 k0_pay5 k0_pay6 k0_pay4 k0_pay1
  pointwise
  rfl
theorem less_at (z : FVec Ideal S256x1024 .f32) (r : Fin 256) (l : Fin 1024) :
    (less z) (ix2 r l) = (z (ix2 r l) - Comb.mean (fun x => z (ix2 r x)) : EReal) := by
  unfold less; pointwise; rfl
theorem norms_at (d : FVec Ideal S256x1024 .f32) (w b : Vec Ideal S1x1024 .f32) (r : Fin 256) (l : Fin 1024) :
    (norms d w b) (ix2 r l) = (d (ix2 r l) * Ideal.rsqrt (Comb.mean (fun x => d (ix2 r x) * d (ix2 r x)) + Ideal.ofBits .f32 0x3727C5AC#32) * w (ix2 0 l) + b (ix2 0 l) : EReal) := by
  unfold norms; pointwise; rfl

/-- What the block's store leaves. -/
theorem out_at (y0 y1 y2 y3 : Vec Ideal S1x256x512 .i32) (h : Vec Ideal S256x1024 .f32) (g : Vec Ideal S256x128 .f32) (w b : Vec Ideal S1x1024 .f32) (r : Fin 256) (l : Fin 1024) :
    (out0_8 y0 y1 y2 y3 h g w b) (ix2 r l) = Comb.normed (fun x => Comb.total (h (ix2 r x)) ![g (ix2 r 0), g (ix2 r 1), g (ix2 r 2), g (ix2 r 3)]
      ![Comb.entry (fun k => y0 (ix3 0 r k)) x, Comb.entry (fun k => y1 (ix3 0 r k)) x, Comb.entry (fun k => y2 (ix3 0 r k)) x, Comb.entry (fun k => y3 (ix3 0 r k)) x])
      (w (ix2 0 l)) (b (ix2 0 l)) l := by
  unfold out0_8
  rw [View.canon_cons_unit_lit _ _ _ (by decide)]
  rw [View.ld_unit_lit _ y0 (by decide), View.ld_unit_lit _ y1 (by decide), View.ld_unit_lit _ y2 (by decide), View.ld_unit_lit _ y3 (by decide),
    View.ld_unit_lit _ h (by decide), View.ld_unit_lit _ g (by decide), View.ld_unit_lit _ w (by decide), View.ld_unit_lit _ b (by decide), pay_eq, norms_at]
  simp only [less_at, totals_at]
  rfl

end Cert.Kernel3Ideal.Pay

end
-- ==== Proof.CombValue.lean ====
module

public import proofs.«01_k».proof.Proof.CombPay
public import Idealize.ShloMosaic.Lib.StableHlo.ReadAt
public import Idealize.ShloMosaic.Lib.Pipeline.ValueKit.Point

@[expose] public section
set_option maxRecDepth 16384
noncomputable section

/-! The array that the combination's call returns: row `256 t + r` is row `r` of what point `t` leaves. -/
namespace Cert.Kernel3Ideal.Combination
open Idealize.ShloMosaic Idealize.ShloMosaic.TcCoe Idealize.ShloMosaic.Tactic Cert.Kernel3Ideal Cert.Kernel3Ideal.Gen

variable (m : (ℓ : Loc nD τ sig) → Buf (Elt Ideal) ℓ) (c : Dev nD)

/-- The arguments, as arrays. -/
abbrev Y : Vec Ideal S4x16384x512 .i32 := m ((c.tc : Thread nD τ).loc main_arg0)
abbrev H : Vec Ideal S16384x1024 .f32 := m ((c.tc : Thread nD τ).loc main_arg1)
abbrev G : Vec Ideal S16384x4 .f32 := m ((c.tc : Thread nD τ).loc main_arg2)
abbrev W : Vec Ideal S1024 .f32 := m ((c.tc : Thread nD τ).loc main_arg3)
abbrev B : Vec Ideal S1024 .f32 := m ((c.tc : Thread nD τ).loc main_arg4)

/-- The gates' first four lanes, and the norm's weight and bias as rows. -/
theorem gate_at (r : Fin 16384) (k : Fin 128) (hk : k.val < 4) : (Gen.V m c main_v0 : Vec Ideal S16384x128 .f32) (ix2 r k) = G m c (ix2 r ⟨k.val, hk⟩) := by
  unfold Gen.V
  after_reads_at
  have hh : k.val < 4 := hk
  exact dif_pos hh
theorem weight_at (l : Fin 1024) : (Gen.V m c main_v1 : Vec Ideal S1x1024 .f32) (ix2 0 l) = W m c (ix1 l) := by
  unfold Gen.V
  after_reads_at
theorem bias_at (l : Fin 1024) : (Gen.V m c main_v2 : Vec Ideal S1x1024 .f32) (ix2 0 l) = B m c (ix1 l) := by
  unfold Gen.V
  after_reads_at

/-- The blocks' indices at each point. -/
theorem idx : ∀ t : Fin cfg0.N, (win0_0.index t (0 : Fin 3) = 0 ∧ win0_0.index t (1 : Fin 3) = t.val ∧ win0_0.index t (2 : Fin 3) = 0)
    ∧ (win0_1.index t (0 : Fin 3) = 1 ∧ win0_1.index t (1 : Fin 3) = t.val ∧ win0_1.index t (2 : Fin 3) = 0)
    ∧ (win0_2.index t (0 : Fin 3) = 2 ∧ win0_2.index t (1 : Fin 3) = t.val ∧ win0_2.index t (2 : Fin 3) = 0)
    ∧ (win0_3.index t (0 : Fin 3) = 3 ∧ win0_3.index t (1 : Fin 3) = t.val ∧ win0_3.index t (2 : Fin 3) = 0)
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 := by decide +kernel
theorem row_lt (t : Fin cfg0.N) (r : Fin 256) : 256 * t.val + r.val < 16384 := by
  have : t.val < 64 := lt_of_lt_of_eq t.isLt N_0
  omega
/-- Row `r` of point `t`'s blocks, as a row of the arrays. -/
def row (t : Fin cfg0.N) (r : Fin 256) : Fin 16384 := ⟨256 * t.val + r.val, row_lt t r⟩

section Blocks
variable (t : Fin cfg0.N)
theorem blk0 (r : Fin 256) (k : Fin 512) : (iblk m c 0 t : Vec Ideal S1x256x512 .i32) (ix3 0 r k) = (Gen.V m c main_arg0 : Vec Ideal S4x16384x512 .i32) (ix3 0 (row t r) k) := by
  have hi := idx t
  blk_point [iblk, row, hi]
theorem blk1 (r : Fin 256) (k : Fin 512) : (iblk m c 1 t : Vec Ideal S1x256x512 .i32) (ix3 0 r k) = (Gen.V m c main_arg0 : Vec Ideal S4x16384x512 .i32) (ix3 1 (row t r) k) := by
  have hi := idx t
  blk_point [iblk, row, hi]
theorem blk2 (r : Fin 256) (k : Fin 512) : (iblk m c 2 t : Vec Ideal S1x256x512 .i32) (ix3 0 r k) = (Gen.V m c main_arg0 : Vec Ideal S4x16384x512 .i32) (ix3 2 (row t r) k) := by
  have hi := idx t
  blk_point [iblk, row, hi]
theorem blk3 (r : Fin 256) (k : Fin 512) : (iblk m c 3 t : Vec Ideal S1x256x512 .i32) (ix3 0 r k) = (Gen.V m c main_arg0 : Vec Ideal S4x16384x512 .i32) (ix3 3 (row t r) k) := by
  have hi := idx t
  blk_point [iblk, row, hi]
theorem blk4 (r : Fin 256) (l : Fin 1024) : (iblk m c 4 t : Vec Ideal S256x1024 .f32) (ix2 r l) = (Gen.V m c main_arg1 : Vec Ideal S16384x1024 .f32) (ix2 (row t r) l) := by
  have hi := idx t
  blk_point [iblk, row, hi]
theorem blk5 (r : Fin 256) (k : Fin 128) : (iblk m c 5 t : Vec Ideal S256x128 .f32) (ix2 r k) = (Gen.V m c main_v0 : Vec Ideal S16384x128 .f32) (ix2 (row t r) k) := by
  have hi := idx t
  blk_point [iblk, row, hi]
theorem blk6 (l : Fin 1024) : (iblk m c 6 t : Vec Ideal S1x1024 .f32) (ix2 0 l) = (Gen.V m c main_v1 : Vec Ideal S1x1024 .f32) (ix2 0 l) := by
  have hi := idx t
  blk_point [iblk, row, hi]
theorem blk7 (l : Fin 1024) : (iblk m c 7 t : Vec Ideal S1x1024 .f32) (ix2 0 l) = (Gen.V m c main_v2 : Vec Ideal S1x1024 .f32) (ix2 0 l) := by
  have hi := idx t
  blk_point [iblk, row, hi]
end Blocks

/-- The array, at a row and a column. -/
def outAt (r : Fin 16384) (l : Fin 1024) : EReal :=
  Comb.normed (fun x => Comb.total (H m c (ix2 r x)) (fun k => G m c (ix2 r k)) (fun k => Comb.entry (fun j => Y m c (ix3 k r j)) x)) (W m c (ix1 l)) (B m c (ix1 l)) l
def out : Buf (Elt Ideal) ((c : Thread nD τ).loc main_v3) := fun i : S16384x1024.Idx => outAt m c (i 0) (i 1)

theorem block_at (t : Fin cfg0.N) (r : Fin 256) (l : Fin 1024) :
    (out0_8 (iblk m c 0 t) (iblk m c 1 t) (iblk m c 2 t) (iblk m c 3 t) (iblk m c 4 t) (iblk m c 5 t) (iblk m c 6 t) (iblk m c 7 t) : Vec Ideal S256x1024 .f32) (ix2 r l)
      = outAt m c (row t r) l := by
  have g (k : Fin 128) (hk : k.val < 4) : (iblk m c 5 t : Vec Ideal S256x128 .f32) (ix2 r k) = G m c (ix2 (row t r) ⟨k.val, hk⟩) := (blk5 m c t r k).trans (gate_at m c _ k hk)
  rw [Pay.out_at, blk6, blk7, weight_at, bias_at, g 0 (by decide), g 1 (by decide), g 2 (by decide), g 3 (by decide)]
  simp only [blk0, blk1, blk2, blk3, blk4, V_main_arg0, V_main_arg1]
  rfl

/-- Where point `t`'s block lies in the array. -/
def emb8 (t : Fin cfg0.N) (y : S256x1024.Idx) : S16384x1024.Idx := ((cfg0.win 8).blk t).view.emb y
theorem emb8_0 (t : Fin cfg0.N) (y : S256x1024.Idx) : (emb8 t y 0).val = t.val * 256 + 1 * (y 0).val := by
  show win0_8.index t (0 : Fin 2) * 256 + 1 * (y 0).val = _
  rw [(idx t).2.2.2.2.2.2.2.2.2.2.2.2.1]
theorem emb8_1 (t : Fin cfg0.N) (y : S256x1024.Idx) : (emb8 t y 1).val = 0 * 1024 + 1 * (y 1).val := by
  show win0_8.index t (1 : Fin 2) * 1024 + 1 * (y 1).val = _
  rw [(idx t).2.2.2.2.2.2.2.2.2.2.2.2.2]

set_option maxHeartbeats 4000000 in
theorem flushed (t : Fin cfg0.N) : (dats m 0 c).flushed 8 t = ((cfg0.win 8).blk t).view.read (Elt Ideal) (out m c) := by
  rw [Value.flushed8]
  funext y
  have h0 := emb8_0 t y
  have h1 := emb8_1 t y
  refine (congrArg (out0_8 (iblk m c 0 t) (iblk m c 1 t) (iblk m c 2 t) (iblk m c 3 t) (iblk m c 4 t) (iblk m c 5 t) (iblk m c 6 t) (iblk m c 7 t) : Vec Ideal S256x1024 .f32) (eq_ix2 y)).trans ((block_at m c t (y 0) (y 1)).trans ?_)
  show outAt m c (row t (y 0)) (y 1) = outAt m c (emb8 t y 0) (emb8 t y 1)
  congr 1
  · refine Fin.ext ?_
    show 256 * t.val + (y 0).val = _
    omega
  · refine Fin.ext ?_
    omega

theorem covered (i : S16384x1024.Idx) : ∃ t : Fin cfg0.N, (cfg0.win 8).flush t = true ∧ i ∈ ((cfg0.win 8).blk t).view.set := by
  have h0 : (i 0).val < 16384 := (i 0).isLt
  have h1 : (i 1).val < 1024 := (i 1).isLt
  let t : Fin cfg0.N := ⟨(i 0).val / 256, lt_of_lt_of_eq (by omega) N_0.symm⟩
  refine ⟨t, (by decide +kernel : ∀ t : Fin grid0.N, win0_8.flush t = true) t, ?_⟩
  have e : ((cfg0.win 8).blk t).view.set = ((cfg0.win 8).rect t).set := View.set_slice_whole main_v3 _
  refine (iff_of_eq (congrArg (fun S : Finset S16384x1024.Idx => i ∈ S) e)).mpr (Rect.mem_set_unit.mpr ?_)
  have x := idx t
  intro a
  match a with
  | ⟨0, _⟩ =>
    show win0_8.index t (0 : Fin 2) * 256 ≤ (i 0).val ∧ (i 0).val < win0_8.index t (0 : Fin 2) * 256 + 256
    rw [x.2.2.2.2.2.2.2.2.2.2.2.2.1]
    show (i 0).val / 256 * 256 ≤ (i 0).val ∧ (i 0).val < (i 0).val / 256 * 256 + 256
    omega
  | ⟨1, _⟩ =>
    show win0_8.index t (1 : Fin 2) * 1024 ≤ (i 1).val ∧ (i 1).val < win0_8.index t (1 : Fin 2) * 1024 + 1024
    rw [x.2.2.2.2.2.2.2.2.2.2.2.2.2]
    omega

theorem final : (dats m 0 c).arrAt 8 cfg0.N = out m c :=
  (dats m 0 c).arrAt_eq_of_cover 8 _ (fun t _ => flushed m c t) covered

end Cert.Kernel3Ideal.Combination

end
-- ==== Proof.CombRef.lean ====
module

public import proofs.«01_k».proof.Proof.Gen.Reference3Ideal.Run
public import proofs.«01_k».proof.Proof.Comb
public import Idealize.ShloMosaic.Lib.WordCmp
public import Idealize.ShloMosaic.Lib.Tactic.CleanTypes

@[expose] public section
set_option maxRecDepth 16384
noncomputable section

/-! What the combination's reference holds at an index. -/
namespace Cert.Reference3Ideal.Reading
open Idealize.ShloMosaic Idealize.ShloMosaic.TcCoe Idealize.ShloMosaic.StableHlo Idealize.ShloMosaic.Tactic Cert.Reference3Ideal Cert.Reference3Ideal.Value Cert.Reference3Ideal.Gen

/-- The scaled input and the weighted sum of the rows. -/
def totals (y : Vec Ideal S4x16384x512 .i32) (h : Vec Ideal S16384x1024 .f32) (g : Vec Ideal S16384x4 .f32) : FVec Ideal S16384x1024 .f32 :=
  addf (mulf (broadcastInDim S16384x1024 ![] bcast_S_S16384x1024 (constant S_ .f32 0x3FD744FD#32)) h)
    (Host.reduceAdd (mulf (broadcastInDim S4x16384x1024 ![0, 1, 2] bcast_S4x16384x1_S4x16384x1024_0_1_2 (broadcastInDim S4x16384x1 ![0, 1] bcast_S4x16384_S4x16384x1_0_1 (transpose S4x16384 [1, 0] g transposes_S16384x4_S4x16384_1_0)))
      (concatenate S4x16384x1024 2 [⟨S4x16384x512, (bitcastToFloat .f32 (Host.shli y (broadcastInDim S4x16384x512 ![] bcast_S_S4x16384x512 (constantI S_ 32 16#32))))⟩,
        ⟨S4x16384x512, (bitcastToFloat .f32 (andi y (broadcastInDim S4x16384x512 ![] bcast_S_S4x16384x512 (constantI S_ 32 4294901760#32))))⟩] concatenates_S4x16384x512_S4x16384x512_S4x16384x1024_d2))
      (constant S_ .f32 0x00000000#32) reducesTo_S4x16384x1024_S16384x1024_d0 h_S_)

/-- The rows less their means. -/
def less (z : FVec Ideal S16384x1024 .f32) : FVec Ideal S16384x1024 .f32 :=
  subf z (broadcastInDim S16384x1024 ![0, 1] bcast_S16384x1_S16384x1024_0_1 (Host.divf (broadcastInDim S16384x1 ![0] bcast_S16384_S16384x1_0 (Host.reduceAdd z (constant S_ .f32 0x00000000#32) reducesTo_S16384x1024_S16384_d1 h_S_))
    (broadcastInDim S16384x1 ![] bcast_S_S16384x1 (constant S_ .f32 0x44800000#32))))

/-- The norm of the rows. -/
def norms (d : FVec Ideal S16384x1024 .f32) (w b : Vec Ideal S1024 .f32) : FVec Ideal S16384x1024 .f32 :=
  addf (mulf (mulf d (broadcastInDim S16384x1024 ![0, 1] bcast_S16384x1_S16384x1024_0_1 (Host.rsqrt (addf (Host.divf (broadcastInDim S16384x1 ![0] bcast_S16384_S16384x1_0 (Host.reduceAdd (mulf d d) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 w)))
    (broadcastInDim S16384x1024 ![0, 1] bcast_S1x1024_S16384x1024_0_1 (broadcastInDim S1x1024 ![1] bcast_S1024_S1x1024_1 b))

theorem totals_at (y : Vec Ideal S4x16384x512 .i32) (h : Vec Ideal S16384x1024 .f32) (g : Vec Ideal S16384x4 .f32) (r : Fin 16384) (l : Fin 1024) :
    (totals y h g) (ix2 r l) = Comb.total (h (ix2 r l)) (fun k => g (ix2 r k)) (fun k => Comb.entry (fun j => y (ix3 k r j)) l) := by
  rw [← Comb.total_sum]
  unfold totals Comb.entry
  pointwise
  rfl
theorem less_at (z : FVec Ideal S16384x1024 .f32) (r : Fin 16384) (l : Fin 1024) :
    (less z) (ix2 r l) = (z (ix2 r l) - Comb.mean (fun x => z (ix2 r x)) : EReal) := by
  unfold less; pointwise; rfl
theorem norms_at (d : FVec Ideal S16384x1024 .f32) (w b : Vec Ideal S1024 .f32) (r : Fin 16384) (l : Fin 1024) :
    (norms d w b) (ix2 r l) = (d (ix2 r l) * Ideal.rsqrt (Comb.mean (fun x => d (ix2 r x) * d (ix2 r x)) + Ideal.ofBits .f32 0x3727C5AC#32) * w (ix1 l) + b (ix1 l) : EReal) := by
  unfold norms; pointwise; rfl

variable (m : (ℓ : Loc nD τ sig) → Buf (Elt Ideal) ℓ) (c : Dev nD)

/-- The arguments, as arrays. -/
abbrev Y : Vec Ideal S4x16384x512 .i32 := m ((c.tc : Thread nD τ).loc main_arg0)
abbrev H : Vec Ideal S16384x1024 .f32 := m ((c.tc : Thread nD τ).loc main_arg1)
abbrev G : Vec Ideal S16384x4 .f32 := m ((c.tc : Thread nD τ).loc main_arg2)
abbrev W : Vec Ideal S1024 .f32 := m ((c.tc : Thread nD τ).loc main_arg3)
abbrev B : Vec Ideal S1024 .f32 := m ((c.tc : Thread nD τ).loc main_arg4)

theorem result_at (r : Fin 16384) (l : Fin 1024) :
    (res_out0 m c : FVec Ideal S16384x1024 .f32) (ix2 r l)
      = Comb.normed (fun x => Comb.total (H m c (ix2 r x)) (fun k => G m c (ix2 r k)) (fun k => Comb.entry (fun j => Y m c (ix3 k r j)) x)) (W m c (ix1 l)) (B m c (ix1 l)) l := by
  have e : (res_out0 m c : FVec Ideal S16384x1024 .f32) = norms (less (totals (Y m c) (H m c) (G m c))) (W m c) (B m c) := rfl
  rw [e, norms_at]
  simp only [less_at, totals_at]
  rfl

end Cert.Reference3Ideal.Reading

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Pre_in_range
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Array
public import proofs.«01_k».proof.Proof.Returned
public import proofs.«01_k».proof.Proof.ExpReturned
public import proofs.«01_k».proof.Proof.BitsFrame
public import proofs.«01_k».proof.Proof.BitsOk
public import proofs.«01_k».proof.Proof.CombValue
public import proofs.«01_k».proof.Proof.CombRef
public import Idealize.ShloMosaic.Adequacy
public import Idealize.ShloMosaic.Init

@[expose] public section

noncomputable section

namespace Cert.Proof

open Idealize.ShloMosaic Idealize.SL.Sem Cert.Kernel

/-- The kernel, the kernel over exact arithmetic and the reference leave their arguments as they were and every semaphore at zero. -/
theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel over exact arithmetic is the kernel with nine constants named: the decays, their logarithms and one over 192. -/
theorem preserves : Cert.preserves_Kernel_KernelIdeal :=
  ⟨IdealRules.named_const.statement Cert.KernelIdeal.κ "lg0" .f32 0xBD020AEC#32 _ rfl,
    IdealRules.named_const.statement Cert.KernelIdeal.κ "cd0" .f32 0x3C8CC36A#32 _ rfl,
    IdealRules.named_const.statement Cert.KernelIdeal.κ "inv_dv" .f32 0x3BAAAAAB#32 _ rfl,
    IdealRules.named_const.statement Cert.KernelIdeal.κ "lg1" .f32 0xBC8102B3#32 _ rfl,
    IdealRules.named_const.statement Cert.KernelIdeal.κ "cd1" .f32 0x3E08698E#32 _ rfl,
    IdealRules.named_const.statement Cert.KernelIdeal.κ "lg2" .f32 0xBC0080AC#32 _ rfl,
    IdealRules.named_const.statement Cert.KernelIdeal.κ "cd2" .f32 0x3EBB9DB9#32 _ rfl,
    IdealRules.named_const.statement Cert.KernelIdeal.κ "lg3" .f32 0xBB80402B#32 _ rfl,
    IdealRules.named_const.statement Cert.KernelIdeal.κ "cd3" .f32 0x3F1B1EB1#32 _ rfl⟩

/-- Over exact arithmetic the kernel returns what the reference returns: the layer's array `Layer.out` of the arguments. -/
theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨h0, h1, h2⟩ := hagree c
  have e0 : Cert.ReferenceIdeal.Reading.A (StableHlo.launchContents m' c) = Cert.KernelIdeal.Entry.arg0 m c :=
    funext fun b => funext fun s => funext fun l => congrFun h0 (ix3 b s l)
  have e1 : Cert.ReferenceIdeal.Reading.ps (StableHlo.launchContents m' c) = Cert.KernelIdeal.Entry.arg1 m c :=
    funext fun b => funext fun s => congrArg (FloatOps.sitofp (F := Ideal) .f32) (congrFun h1 (ix2 b s))
  have e2 : Cert.ReferenceIdeal.Reading.g (StableHlo.launchContents m' c) = Cert.KernelIdeal.Entry.arg2 m c :=
    funext fun l => congrFun h2 (ix1 l)
  refine Eq.trans ?_ (Cert.KernelIdeal.Array.array_eq m c i).symm
  rw [← e0, ← e1, ← e2]
  exact (congrArg _ (eq_ix2 i)).trans (Cert.ReferenceIdeal.Returned.array_at (StableHlo.launchContents m' c) (i 0) (i 1))

/-! The experts' call. -/

/-- Both leave their arguments as they were and every semaphore at zero, where at least one block is in use. -/
theorem frame_p2 : Cert.quiescent_Kernel2 := fun m ρ pre =>
  have hO := Cert.Kernel2.Experts.ok_of (Cert.Kernel2.Experts.inRange_of (F := Bits) m (pre 0))
  (θ_run Cert.Kernel2.defs _ _).mono (fun r h => ⟨fun c => Cert.Kernel2.Experts.args_kept m hO c r h.1, h.2⟩)
    (Cert.Kernel2.Experts.run_main (F := Bits) m ρ hO)
theorem frame_pi2 : Cert.quiescent_Kernel2Ideal := fun m ρ pre =>
  have hO := Cert.Kernel2Ideal.Experts.ok_of (Cert.Kernel2Ideal.Experts.inRange_of (F := Ideal) m (pre 0))
  (θ_run Cert.Kernel2Ideal.defs _ _).mono (fun r h => ⟨fun c => Cert.Kernel2Ideal.Experts.args_kept m hO c r h.1, h.2⟩)
    (Cert.Kernel2Ideal.Experts.run_main (F := Ideal) m ρ hO)
theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem frame_ri2' : Cert.quiescent_Reference2Ideal_pre_in_range := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem preserves2 : Cert.preserves_Kernel2_Kernel2Ideal := trivial

/-- Over exact arithmetic the experts' kernel returns what its reference returns: each row through its block's expert. -/
theorem algebraic2 : Cert.algebraic_Kernel2Ideal_Reference2Ideal := by
  intro m ρ m' ρ' pre hagree
  have hR := Cert.Kernel2Ideal.Experts.inRange_of (F := Ideal) m (pre 0)
  refine ⟨_, Cert.Kernel2Ideal.Experts.run (F := Ideal) m ρ (Cert.Kernel2Ideal.Experts.ok_of hR), ?_⟩
  refine (θ_run Cert.Reference2Ideal.defs _ _).mono (fun _ h c => ⟨(h c).1.trans ?_, (h c).2⟩)
    (Cert.Reference2Ideal.Value.run (F := Ideal) m' ρ')
  obtain rfl : c = 0 := Subsingleton.elim _ _
  exact Cert.Experts.returned m m' hR 0 (hagree 0)

/-! The combination's call. -/

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem preserves3 : Cert.preserves_Kernel3_Kernel3Ideal := trivial

/-- Over exact arithmetic the combination's kernel returns what its reference returns: each token's weighted rows and scaled input, normalized. -/
theorem algebraic3 : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  rw [Cert.Kernel3Ideal.Combination.final m c]
  obtain ⟨h0, h1, h2, h3, h4⟩ := hagree c
  have e0 : Cert.Reference3Ideal.Reading.Y m' c = Cert.Kernel3Ideal.Combination.Y m c := h0
  have e1 : Cert.Reference3Ideal.Reading.H m' c = Cert.Kernel3Ideal.Combination.H m c := h1
  have e2 : Cert.Reference3Ideal.Reading.G m' c = Cert.Kernel3Ideal.Combination.G m c := h2
  have e3 : Cert.Reference3Ideal.Reading.W m' c = Cert.Kernel3Ideal.Combination.W m c := h3
  have e4 : Cert.Reference3Ideal.Reading.B m' c = Cert.Kernel3Ideal.Combination.B m c := h4
  funext i
  have ref := Cert.Reference3Ideal.Reading.result_at m' c (i 0) (i 1)
  rw [e0, e1, e2, e3, e4] at ref
  exact (congrArg _ (eq_ix2 i)).trans ref

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Pre_in_range.Gen.facts,
  frame_p, frame_pi, frame_ri, frame_p2, frame_pi2, frame_ri2, frame_ri2', frame_p3, frame_pi3, frame_ri3, preserves, algebraic, preserves2, algebraic2, preserves3, algebraic3⟩

end Cert.Proof

end
